-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x64 : Shape := ⟨2, ![1024, 64]⟩
abbrev S16 : Shape := ⟨1, ![16]⟩
abbrev S_ : Shape := ⟨0, ![]⟩
abbrev S1 : Shape := ⟨1, ![1]⟩
abbrev S8 : Shape := ⟨1, ![8]⟩
abbrev S8x1 : Shape := ⟨2, ![8, 1]⟩
abbrev S7 : Shape := ⟨1, ![7]⟩
abbrev S7x1 : Shape := ⟨2, ![7, 1]⟩
abbrev S17 : Shape := ⟨1, ![17]⟩
abbrev S9x64x1024 : Shape := ⟨3, ![9, 64, 1024]⟩
abbrev S8x64x1024 : Shape := ⟨3, ![8, 64, 1024]⟩
abbrev S8x4 : Shape := ⟨2, ![8, 4]⟩
abbrev S7x4 : Shape := ⟨2, ![7, 4]⟩
abbrev S1x64x1024 : Shape := ⟨3, ![1, 64, 1024]⟩
abbrev S1x1 : Shape := ⟨2, ![1, 1]⟩
abbrev S1x16x1024 : Shape := ⟨3, ![1, 16, 1024]⟩
abbrev S16x1024 : Shape := ⟨2, ![16, 1024]⟩
abbrev S64x64 : Shape := ⟨2, ![64, 64]⟩

abbrev nBuf : Space → Nat
  | .hbm => 145
  | .vmem => 5
  | .smem => 1
  | _ => 0

abbrev hbmTy0_0 (i : Nat) : BufTy := match i % 128 with
  | 0 => ⟨S64x1024, .f32⟩
  | 1 => ⟨S1024x64, .f32⟩
  | 2 => ⟨S16, .i32⟩
  | 3 => ⟨S16, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i32⟩
  | 31 => ⟨S_, .i1⟩
  | 32 => ⟨S_, .i1⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i1⟩
  | 56 => ⟨S_, .i32⟩
  | 57 => ⟨S_, .i1⟩
  | 58 => ⟨S_, .i1⟩
  | 59 => ⟨S_, .i1⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S1, .i32⟩
  | 68 => ⟨S_, .i32⟩
  | 69 => ⟨S_, .i32⟩
  | 70 => ⟨S_, .i32⟩
  | 71 => ⟨S8, .i32⟩
  | 72 => ⟨S8, .i32⟩
  | 73 => ⟨S8, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S8, .i32⟩
  | 81 => ⟨S8, .i32⟩
  | 82 => ⟨S_, .i32⟩
  | 83 => ⟨S8, .i32⟩
  | 84 => ⟨S8, .i1⟩
  | 85 => ⟨S_, .i32⟩
  | 86 => ⟨S8, .i32⟩
  | 87 => ⟨S8, .i1⟩
  | 88 => ⟨S_, .i32⟩
  | 89 => ⟨S_, .i1⟩
  | 90 => ⟨S8, .i1⟩
  | 91 => ⟨S8, .i1⟩
  | 92 => ⟨S8, .i1⟩
  | 93 => ⟨S8, .i32⟩
  | 94 => ⟨S8, .i32⟩
  | 95 => ⟨S8, .i32⟩
  | 96 => ⟨S_, .i32⟩
  | 97 => ⟨S8, .i32⟩
  | 98 => ⟨S8, .i1⟩
  | 99 => ⟨S_, .i32⟩
  | 100 => ⟨S8, .i32⟩
  | 101 => ⟨S8, .i32⟩
  | 102 => ⟨S8, .i32⟩
  | 103 => ⟨S8x1, .i32⟩
  | 104 => ⟨S8, .i32⟩
  | 105 => ⟨S_, .i32⟩
  | 106 => ⟨S_, .i32⟩
  | 107 => ⟨S7, .i32⟩
  | 108 => ⟨S7, .i32⟩
  | 109 => ⟨S7, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S7, .i32⟩
  | 117 => ⟨S7, .i32⟩
  | 118 => ⟨S_, .i32⟩
  | 119 => ⟨S7, .i32⟩
  | 120 => ⟨S7, .i1⟩
  | 121 => ⟨S_, .i32⟩
  | 122 => ⟨S7, .i32⟩
  | 123 => ⟨S7, .i1⟩
  | 124 => ⟨S_, .i32⟩
  | 125 => ⟨S_, .i1⟩
  | 126 => ⟨S7, .i1⟩
  | 127 => ⟨S7, .i1⟩
  | _ => ⟨S64x1024, .f32⟩

abbrev hbmTy0_1 (i : Nat) : BufTy := match i % 128 with
  | 0 => ⟨S7, .i1⟩
  | 1 => ⟨S7, .i32⟩
  | 2 => ⟨S7, .i32⟩
  | 3 => ⟨S7, .i32⟩
  | 4 => ⟨S_, .i32⟩
  | 5 => ⟨S7, .i32⟩
  | 6 => ⟨S7, .i1⟩
  | 7 => ⟨S_, .i32⟩
  | 8 => ⟨S7, .i32⟩
  | 9 => ⟨S7, .i32⟩
  | 10 => ⟨S7, .i32⟩
  | 11 => ⟨S7x1, .i32⟩
  | 12 => ⟨S7, .i32⟩
  | 13 => ⟨S1, .i32⟩
  | 14 => ⟨S1, .i32⟩
  | 15 => ⟨S17, .i32⟩
  | 16 => ⟨S1024x64, .f32⟩
  | _ => ⟨S64x1024, .f32⟩

abbrev hbmTy (i : Nat) : BufTy := match i / 128 with
  | 0 => hbmTy0_0 i
  | 1 => hbmTy0_1 i
  | _ => ⟨S64x1024, .f32⟩

abbrev bufTy : (tb : Table) → Fin (tcTables nBuf tb) → BufTy
  | .hbm, ⟨i, _⟩ => hbmTy i
  | .local _ .vmem, ⟨0, _⟩ => ⟨S64x1024, .f32⟩
  | .local _ .vmem, ⟨1, _⟩ => ⟨S1024x64, .f32⟩
  | .local _ .vmem, ⟨2, _⟩ => ⟨S1024x64, .f32⟩
  | .local _ .vmem, ⟨3, _⟩ => ⟨S9x64x1024, .f32⟩
  | .local _ .vmem, ⟨4, _⟩ => ⟨S8x64x1024, .f32⟩
  | .local _ .smem, ⟨0, _⟩ => ⟨S17, .i32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  (ofTc nBuf bufTy 1 124 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_c_3 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_v18 : Ref sig .tc := ⟨.hbm, 61, rfl⟩
abbrev main_c_11 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_13 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_c_14 : Ref sig .tc := ⟨.hbm, 74, rfl⟩
abbrev main_call2_v0 : Ref sig .tc := ⟨.hbm, 75, rfl⟩
abbrev main_call2_c : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_1 : Ref sig .tc := ⟨.hbm, 82, rfl⟩
abbrev main_call2_v5 : Ref sig .tc := ⟨.hbm, 83, rfl⟩
abbrev main_call2_v6 : Ref sig .tc := ⟨.hbm, 84, rfl⟩
abbrev main_call2_c_2 : Ref sig .tc := ⟨.hbm, 85, rfl⟩
abbrev main_call2_v7 : Ref sig .tc := ⟨.hbm, 86, rfl⟩
abbrev main_call2_v8 : Ref sig .tc := ⟨.hbm, 87, rfl⟩
abbrev main_call2_c_3 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_v28 : Ref sig .tc := ⟨.hbm, 95, rfl⟩
abbrev main_c_15 : Ref sig .tc := ⟨.hbm, 96, rfl⟩
abbrev main_v29 : Ref sig .tc := ⟨.hbm, 97, rfl⟩
abbrev main_v30 : Ref sig .tc := ⟨.hbm, 98, rfl⟩
abbrev main_c_16 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_c_17 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_c_18 : Ref sig .tc := ⟨.hbm, 110, rfl⟩
abbrev main_call3_v0 : Ref sig .tc := ⟨.hbm, 111, rfl⟩
abbrev main_call3_c : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_c_1 : Ref sig .tc := ⟨.hbm, 118, rfl⟩
abbrev main_call3_v5 : Ref sig .tc := ⟨.hbm, 119, rfl⟩
abbrev main_call3_v6 : Ref sig .tc := ⟨.hbm, 120, rfl⟩
abbrev main_call3_c_2 : Ref sig .tc := ⟨.hbm, 121, rfl⟩
abbrev main_call3_v7 : Ref sig .tc := ⟨.hbm, 122, rfl⟩
abbrev main_call3_v8 : Ref sig .tc := ⟨.hbm, 123, rfl⟩
abbrev main_call3_c_3 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_v40 : Ref sig .tc := ⟨.hbm, 131, rfl⟩
abbrev main_c_19 : Ref sig .tc := ⟨.hbm, 132, rfl⟩
abbrev main_v41 : Ref sig .tc := ⟨.hbm, 133, rfl⟩
abbrev main_v42 : Ref sig .tc := ⟨.hbm, 134, rfl⟩
abbrev main_c_20 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (v3 : BitVec 32) : Nat :=
  let c0_i32 : BitVec 32 := 0#32
  let c1_i32_1 : BitVec 32 := 1#32
  let v6 : BitVec 32 := Scalar.muli v3 c1_i32_1
  let v7 : BitVec 32 := Scalar.addi c0_i32 v6
  v7.toNat

def k0_dev2 (v4 : BitVec 32) : Nat :=
  let c0_i32_4 : BitVec 32 := 0#32
  let c1_i32_3 : BitVec 32 := 1#32
  let v8 : BitVec 32 := Scalar.muli v4 c1_i32_3
  let v9 : BitVec 32 := Scalar.addi c0_i32_4 v8
  v9.toNat

def k0_dev3 (v4 : BitVec 32) : Nat :=
  let c0_i32_22 : BitVec 32 := 0#32
  let c1_i32_21 : BitVec 32 := 1#32
  let v20 : BitVec 32 := Scalar.muli v4 c1_i32_21
  let v21 : BitVec 32 := Scalar.addi c0_i32_22 v20
  v21.toNat
def k0_dev4 (v3 : BitVec 32) : Nat :=
  let c0_i32_34 : BitVec 32 := 0#32
  let c1_i32_33 : BitVec 32 := 1#32
  let v30 : BitVec 32 := Scalar.muli v3 c1_i32_33
  let v31 : BitVec 32 := Scalar.addi c0_i32_34 v30
  v31.toNat
def k0_dev5 (v4 : BitVec 32) : Nat :=
  let c0_i32_46 : BitVec 32 := 0#32
  let c1_i32_45 : BitVec 32 := 1#32
  let v40 : BitVec 32 := Scalar.muli v4 c1_i32_45
  let v41 : BitVec 32 := Scalar.addi c0_i32_46 v40
  v41.toNat
def k0_dev6 (v3 : BitVec 32) : Nat :=
  let c0_i32_58 : BitVec 32 := 0#32
  let c1_i32_57 : BitVec 32 := 1#32
  let v50 : BitVec 32 := Scalar.muli v3 c1_i32_57
  let v51 : BitVec 32 := Scalar.addi c0_i32_58 v50
  v51.toNat
def k0_dev7 (v4 : BitVec 32) : Nat :=
  let c0_i32_70 : BitVec 32 := 0#32
  let c1_i32_69 : BitVec 32 := 1#32
  let v60 : BitVec 32 := Scalar.muli v4 c1_i32_69
  let v61 : BitVec 32 := Scalar.addi c0_i32_70 v60
  v61.toNat
def k0_dev8 (v3 : BitVec 32) : Nat :=
  let c0_i32_81 : BitVec 32 := 0#32
  let c1_i32_80 : BitVec 32 := 1#32
  let v70 : BitVec 32 := Scalar.muli v3 c1_i32_80
  let v71 : BitVec 32 := Scalar.addi c0_i32_81 v70
  v71.toNat
def k0_dev9 (v4 : BitVec 32) : Nat :=
  let c0_i32_92 : BitVec 32 := 0#32
  let c1_i32_91 : BitVec 32 := 1#32
  let v80 : BitVec 32 := Scalar.muli v4 c1_i32_91
  let v81 : BitVec 32 := Scalar.addi c0_i32_92 v80
  v81.toNat
def k0_dev10 (v3 : BitVec 32) : Nat :=
  let c0_i32_103 : BitVec 32 := 0#32
  let c1_i32_102 : BitVec 32 := 1#32
  let v90 : BitVec 32 := Scalar.muli v3 c1_i32_102
  let v91 : BitVec 32 := Scalar.addi c0_i32_103 v90
  v91.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v118 : BitVec 32 := Scalar.muli v2 c64_i32
  let v119 : Index := Scalar.indexCast v118
  let c0_116 : Index := 0#32
  ![v119.toNat, 0]
def k0_dev11 (v4 : BitVec 32) : Nat :=
  let c0_i32_136 : BitVec 32 := 0#32
  let c1_i32_135 : BitVec 32 := 1#32
  let v129 : BitVec 32 := Scalar.muli v4 c1_i32_135
  let v130 : BitVec 32 := Scalar.addi c0_i32_136 v129
  v130.toNat
def k0_dev12 (v4 : BitVec 32) : Nat :=
  let c0_i32_160 : BitVec 32 := 0#32
  let c1_i32_159 : BitVec 32 := 1#32
  let v147 : BitVec 32 := Scalar.muli v4 c1_i32_159
  let v148 : BitVec 32 := Scalar.addi c0_i32_160 v147
  v148.toNat
def k0_dev13 (v4 : BitVec 32) : Nat :=
  let c0_i32_184 : BitVec 32 := 0#32
  let c1_i32_183 : BitVec 32 := 1#32
  let v165 : BitVec 32 := Scalar.muli v4 c1_i32_183
  let v166 : BitVec 32 := Scalar.addi c0_i32_184 v165
  v166.toNat
def k0_dev14 (v4 : BitVec 32) : Nat :=
  let c0_i32_208 : BitVec 32 := 0#32
  let c1_i32_207 : BitVec 32 := 1#32
  let v183 : BitVec 32 := Scalar.muli v4 c1_i32_207
  let v184 : BitVec 32 := Scalar.addi c0_i32_208 v183
  v184.toNat
def k0_dev15 (v3 : BitVec 32) : Nat :=
  let c0_i32_232 : BitVec 32 := 0#32
  let c1_i32_231 : BitVec 32 := 1#32
  let v201 : BitVec 32 := Scalar.muli v3 c1_i32_231
  let v202 : BitVec 32 := Scalar.addi c0_i32_232 v201
  v202.toNat
def k0_dev16 (v3 : BitVec 32) : Nat :=
  let c0_i32_256 : BitVec 32 := 0#32
  let c1_i32_255 : BitVec 32 := 1#32
  let v219 : BitVec 32 := Scalar.muli v3 c1_i32_255
  let v220 : BitVec 32 := Scalar.addi c0_i32_256 v219
  v220.toNat
def k0_dev17 (v3 : BitVec 32) : Nat :=
  let c0_i32_280 : BitVec 32 := 0#32
  let c1_i32_279 : BitVec 32 := 1#32
  let v237 : BitVec 32 := Scalar.muli v3 c1_i32_279
  let v238 : BitVec 32 := Scalar.addi c0_i32_280 v237
  v238.toNat
def k0_dev18 (v3 : BitVec 32) : Nat :=
  let c0_i32_304 : BitVec 32 := 0#32
  let c1_i32_303 : BitVec 32 := 1#32
  let v255 : BitVec 32 := Scalar.muli v3 c1_i32_303
  let v256 : BitVec 32 := Scalar.addi c0_i32_304 v255
  v256.toNat
def k0_off2 (v283 : BitVec 32) : Fin 2 → Nat :=
  let c64_i32_319 : BitVec 32 := 64#32
  let v284 : BitVec 32 := Scalar.muli v283 c64_i32_319
  let v285 : Index := Scalar.indexCast v284
  let c0_320 : Index := 0#32
  ![v285.toNat, 0]

def k0_chk3 (v283 : BitVec 32) : Prop :=
  (∀ a, (k0_off2 v283) a + S64x64.size a ≤ S1024x64.size a)
theorem k0_off2_inb : ∀ (v283 : BitVec 32) (k0_hw3 : k0_chk3 v283), ∀ a, (k0_off2 v283) a + S64x64.size a ≤ S1024x64.size a := fun v283 k0_hw3 => k0_hw3

def k0_off3 (v305 : BitVec 32) : Fin 2 → Nat :=
  let c64_i32_331 : BitVec 32 := 64#32
  let v306 : BitVec 32 := Scalar.muli v305 c64_i32_331
  let v307 : Index := Scalar.indexCast v306
  let c0_332 : Index := 0#32
  ![v307.toNat, 0]

def k0_chk4 (v305 : BitVec 32) : Prop :=
  (∀ a, (k0_off3 v305) a + S64x64.size a ≤ S1024x64.size a)
theorem k0_off3_inb : ∀ (v305 : BitVec 32) (k0_hw4 : k0_chk4 v305), ∀ a, (k0_off3 v305) a + S64x64.size a ≤ S1024x64.size a := fun v305 k0_hw4 => k0_hw4

def k0_dev19 (v4 : BitVec 32) : Nat :=
  let c0_i32_352 : BitVec 32 := 0#32
  let c1_i32_351 : BitVec 32 := 1#32
  let v317 : BitVec 32 := Scalar.muli v4 c1_i32_351
  let v318 : BitVec 32 := Scalar.addi c0_i32_352 v317
  v318.toNat
def k0_dev20 (v4 : BitVec 32) : Nat :=
  let c0_i32_376 : BitVec 32 := 0#32
  let c1_i32_375 : BitVec 32 := 1#32
  let v335 : BitVec 32 := Scalar.muli v4 c1_i32_375
  let v336 : BitVec 32 := Scalar.addi c0_i32_376 v335
  v336.toNat
def k0_dev21 (v4 : BitVec 32) : Nat :=
  let c0_i32_400 : BitVec 32 := 0#32
  let c1_i32_399 : BitVec 32 := 1#32
  let v353 : BitVec 32 := Scalar.muli v4 c1_i32_399
  let v354 : BitVec 32 := Scalar.addi c0_i32_400 v353
  v354.toNat
def k0_dev22 (v4 : BitVec 32) : Nat :=
  let c0_i32_424 : BitVec 32 := 0#32
  let c1_i32_423 : BitVec 32 := 1#32
  let v371 : BitVec 32 := Scalar.muli v4 c1_i32_423
  let v372 : BitVec 32 := Scalar.addi c0_i32_424 v371
  v372.toNat
def k0_dev23 (v3 : BitVec 32) : Nat :=
  let c0_i32_448 : BitVec 32 := 0#32
  let c1_i32_447 : BitVec 32 := 1#32
  let v389 : BitVec 32 := Scalar.muli v3 c1_i32_447
  let v390 : BitVec 32 := Scalar.addi c0_i32_448 v389
  v390.toNat
def k0_dev24 (v3 : BitVec 32) : Nat :=
  let c0_i32_472 : BitVec 32 := 0#32
  let c1_i32_471 : BitVec 32 := 1#32
  let v407 : BitVec 32 := Scalar.muli v3 c1_i32_471
  let v408 : BitVec 32 := Scalar.addi c0_i32_472 v407
  v408.toNat
def k0_dev25 (v3 : BitVec 32) : Nat :=
  let c0_i32_496 : BitVec 32 := 0#32
  let c1_i32_495 : BitVec 32 := 1#32
  let v425 : BitVec 32 := Scalar.muli v3 c1_i32_495
  let v426 : BitVec 32 := Scalar.addi c0_i32_496 v425
  v426.toNat
def k0_dev26 (v3 : BitVec 32) : Nat :=
  let c0_i32_520 : BitVec 32 := 0#32
  let c1_i32_519 : BitVec 32 := 1#32
  let v443 : BitVec 32 := Scalar.muli v3 c1_i32_519
  let v444 : BitVec 32 := Scalar.addi c0_i32_520 v443
  v444.toNat
def k0_off4 (v471 : BitVec 32) : Fin 2 → Nat :=
  let c64_i32_535 : BitVec 32 := 64#32
  let v472 : BitVec 32 := Scalar.muli v471 c64_i32_535
  let v473 : Index := Scalar.indexCast v472
  let c0_536 : Index := 0#32
  ![v473.toNat, 0]

def k0_chk5 (v471 : BitVec 32) : Prop :=
  (∀ a, (k0_off4 v471) a + S64x64.size a ≤ S1024x64.size a)
theorem k0_off4_inb : ∀ (v471 : BitVec 32) (k0_hw5 : k0_chk5 v471), ∀ a, (k0_off4 v471) a + S64x64.size a ≤ S1024x64.size a := fun v471 k0_hw5 => k0_hw5

def k0_off5 (v493 : BitVec 32) : Fin 2 → Nat :=
  let c64_i32_547 : BitVec 32 := 64#32
  let v494 : BitVec 32 := Scalar.muli v493 c64_i32_547
  let v495 : Index := Scalar.indexCast v494
  let c0_548 : Index := 0#32
  ![v495.toNat, 0]

def k0_chk6 (v493 : BitVec 32) : Prop :=
  (∀ a, (k0_off5 v493) a + S64x64.size a ≤ S1024x64.size a)
theorem k0_off5_inb : ∀ (v493 : BitVec 32) (k0_hw6 : k0_chk6 v493), ∀ a, (k0_off5 v493) a + S64x64.size a ≤ S1024x64.size a := fun v493 k0_hw6 => k0_hw6

def k0_dev27 (v4 : BitVec 32) : Nat :=
  let c0_i32_567 : BitVec 32 := 0#32
  let c1_i32_566 : BitVec 32 := 1#32
  let v505 : BitVec 32 := Scalar.muli v4 c1_i32_566
  let v506 : BitVec 32 := Scalar.addi c0_i32_567 v505
  v506.toNat
def k0_dev28 (v4 : BitVec 32) : Nat :=
  let c0_i32_591 : BitVec 32 := 0#32
  let c1_i32_590 : BitVec 32 := 1#32
  let v523 : BitVec 32 := Scalar.muli v4 c1_i32_590
  let v524 : BitVec 32 := Scalar.addi c0_i32_591 v523
  v524.toNat
def k0_dev29 (v4 : BitVec 32) : Nat :=
  let c0_i32_615 : BitVec 32 := 0#32
  let c1_i32_614 : BitVec 32 := 1#32
  let v541 : BitVec 32 := Scalar.muli v4 c1_i32_614
  let v542 : BitVec 32 := Scalar.addi c0_i32_615 v541
  v542.toNat
def k0_dev30 (v4 : BitVec 32) : Nat :=
  let c0_i32_639 : BitVec 32 := 0#32
  let c1_i32_638 : BitVec 32 := 1#32
  let v559 : BitVec 32 := Scalar.muli v4 c1_i32_638
  let v560 : BitVec 32 := Scalar.addi c0_i32_639 v559
  v560.toNat
def k0_dev31 (v3 : BitVec 32) : Nat :=
  let c0_i32_663 : BitVec 32 := 0#32
  let c1_i32_662 : BitVec 32 := 1#32
  let v577 : BitVec 32 := Scalar.muli v3 c1_i32_662
  let v578 : BitVec 32 := Scalar.addi c0_i32_663 v577
  v578.toNat
def k0_dev32 (v3 : BitVec 32) : Nat :=
  let c0_i32_687 : BitVec 32 := 0#32
  let c1_i32_686 : BitVec 32 := 1#32
  let v595 : BitVec 32 := Scalar.muli v3 c1_i32_686
  let v596 : BitVec 32 := Scalar.addi c0_i32_687 v595
  v596.toNat
def k0_dev33 (v3 : BitVec 32) : Nat :=
  let c0_i32_711 : BitVec 32 := 0#32
  let c1_i32_710 : BitVec 32 := 1#32
  let v613 : BitVec 32 := Scalar.muli v3 c1_i32_710
  let v614 : BitVec 32 := Scalar.addi c0_i32_711 v613
  v614.toNat
def k0_dev34 (v3 : BitVec 32) : Nat :=
  let c0_i32_735 : BitVec 32 := 0#32
  let c1_i32_734 : BitVec 32 := 1#32
  let v631 : BitVec 32 := Scalar.muli v3 c1_i32_734
  let v632 : BitVec 32 := Scalar.addi c0_i32_735 v631
  v632.toNat
def k0_off6 (v659 : BitVec 32) : Fin 2 → Nat :=
  let c64_i32_750 : BitVec 32 := 64#32
  let v660 : BitVec 32 := Scalar.muli v659 c64_i32_750
  let v661 : Index := Scalar.indexCast v660
  let c0_751 : Index := 0#32
  ![v661.toNat, 0]

def k0_chk7 (v659 : BitVec 32) : Prop :=
  (∀ a, (k0_off6 v659) a + S64x64.size a ≤ S1024x64.size a)
theorem k0_off6_inb : ∀ (v659 : BitVec 32) (k0_hw7 : k0_chk7 v659), ∀ a, (k0_off6 v659) a + S64x64.size a ≤ S1024x64.size a := fun v659 k0_hw7 => k0_hw7

def k0_off7 (v681 : BitVec 32) : Fin 2 → Nat :=
  let c64_i32_762 : BitVec 32 := 64#32
  let v682 : BitVec 32 := Scalar.muli v681 c64_i32_762
  let v683 : Index := Scalar.indexCast v682
  let c0_763 : Index := 0#32
  ![v683.toNat, 0]

def k0_chk8 (v681 : BitVec 32) : Prop :=
  (∀ a, (k0_off7 v681) a + S64x64.size a ≤ S1024x64.size a)
theorem k0_off7_inb : ∀ (v681 : BitVec 32) (k0_hw8 : k0_chk8 v681), ∀ a, (k0_off7 v681) a + S64x64.size a ≤ S1024x64.size a := fun v681 k0_hw8 => k0_hw8

def k0_dev35 (v4 : BitVec 32) : Nat :=
  let c0_i32_782 : BitVec 32 := 0#32
  let c1_i32_781 : BitVec 32 := 1#32
  let v693 : BitVec 32 := Scalar.muli v4 c1_i32_781
  let v694 : BitVec 32 := Scalar.addi c0_i32_782 v693
  v694.toNat
def k0_dev36 (v4 : BitVec 32) : Nat :=
  let c0_i32_806 : BitVec 32 := 0#32
  let c1_i32_805 : BitVec 32 := 1#32
  let v711 : BitVec 32 := Scalar.muli v4 c1_i32_805
  let v712 : BitVec 32 := Scalar.addi c0_i32_806 v711
  v712.toNat
def k0_dev37 (v4 : BitVec 32) : Nat :=
  let c0_i32_830 : BitVec 32 := 0#32
  let c1_i32_829 : BitVec 32 := 1#32
  let v729 : BitVec 32 := Scalar.muli v4 c1_i32_829
  let v730 : BitVec 32 := Scalar.addi c0_i32_830 v729
  v730.toNat
def k0_dev38 (v4 : BitVec 32) : Nat :=
  let c0_i32_854 : BitVec 32 := 0#32
  let c1_i32_853 : BitVec 32 := 1#32
  let v747 : BitVec 32 := Scalar.muli v4 c1_i32_853
  let v748 : BitVec 32 := Scalar.addi c0_i32_854 v747
  v748.toNat
def k0_dev39 (v3 : BitVec 32) : Nat :=
  let c0_i32_878 : BitVec 32 := 0#32
  let c1_i32_877 : BitVec 32 := 1#32
  let v765 : BitVec 32 := Scalar.muli v3 c1_i32_877
  let v766 : BitVec 32 := Scalar.addi c0_i32_878 v765
  v766.toNat
def k0_dev40 (v3 : BitVec 32) : Nat :=
  let c0_i32_902 : BitVec 32 := 0#32
  let c1_i32_901 : BitVec 32 := 1#32
  let v783 : BitVec 32 := Scalar.muli v3 c1_i32_901
  let v784 : BitVec 32 := Scalar.addi c0_i32_902 v783
  v784.toNat
def k0_dev41 (v3 : BitVec 32) : Nat :=
  let c0_i32_926 : BitVec 32 := 0#32
  let c1_i32_925 : BitVec 32 := 1#32
  let v801 : BitVec 32 := Scalar.muli v3 c1_i32_925
  let v802 : BitVec 32 := Scalar.addi c0_i32_926 v801
  v802.toNat
def k0_dev42 (v3 : BitVec 32) : Nat :=
  let c0_i32_950 : BitVec 32 := 0#32
  let c1_i32_949 : BitVec 32 := 1#32
  let v819 : BitVec 32 := Scalar.muli v3 c1_i32_949
  let v820 : BitVec 32 := Scalar.addi c0_i32_950 v819
  v820.toNat
def k0_off8 (v847 : BitVec 32) : Fin 2 → Nat :=
  let c64_i32_965 : BitVec 32 := 64#32
  let v848 : BitVec 32 := Scalar.muli v847 c64_i32_965
  let v849 : Index := Scalar.indexCast v848
  let c0_966 : Index := 0#32
  ![v849.toNat, 0]

def k0_chk9 (v847 : BitVec 32) : Prop :=
  (∀ a, (k0_off8 v847) a + S64x64.size a ≤ S1024x64.size a)
theorem k0_off8_inb : ∀ (v847 : BitVec 32) (k0_hw9 : k0_chk9 v847), ∀ a, (k0_off8 v847) a + S64x64.size a ≤ S1024x64.size a := fun v847 k0_hw9 => k0_hw9

def k0_off9 (v869 : BitVec 32) : Fin 2 → Nat :=
  let c64_i32_977 : BitVec 32 := 64#32
  let v870 : BitVec 32 := Scalar.muli v869 c64_i32_977
  let v871 : Index := Scalar.indexCast v870
  let c0_978 : Index := 0#32
  ![v871.toNat, 0]

def k0_chk10 (v869 : BitVec 32) : Prop :=
  (∀ a, (k0_off9 v869) a + S64x64.size a ≤ S1024x64.size a)
theorem k0_off9_inb : ∀ (v869 : BitVec 32) (k0_hw10 : k0_chk10 v869), ∀ a, (k0_off9 v869) a + S64x64.size a ≤ S1024x64.size a := fun v869 k0_hw10 => k0_hw10

def k0_dev43 (v4 : BitVec 32) : Nat :=
  let c0_i32_997 : BitVec 32 := 0#32
  let c1_i32_996 : BitVec 32 := 1#32
  let v881 : BitVec 32 := Scalar.muli v4 c1_i32_996
  let v882 : BitVec 32 := Scalar.addi c0_i32_997 v881
  v882.toNat
def k0_dev44 (v4 : BitVec 32) : Nat :=
  let c0_i32_1021 : BitVec 32 := 0#32
  let c1_i32_1020 : BitVec 32 := 1#32
  let v899 : BitVec 32 := Scalar.muli v4 c1_i32_1020
  let v900 : BitVec 32 := Scalar.addi c0_i32_1021 v899
  v900.toNat
def k0_dev45 (v4 : BitVec 32) : Nat :=
  let c0_i32_1045 : BitVec 32 := 0#32
  let c1_i32_1044 : BitVec 32 := 1#32
  let v917 : BitVec 32 := Scalar.muli v4 c1_i32_1044
  let v918 : BitVec 32 := Scalar.addi c0_i32_1045 v917
  v918.toNat
def k0_dev46 (v4 : BitVec 32) : Nat :=
  let c0_i32_1069 : BitVec 32 := 0#32
  let c1_i32_1068 : BitVec 32 := 1#32
  let v935 : BitVec 32 := Scalar.muli v4 c1_i32_1068
  let v936 : BitVec 32 := Scalar.addi c0_i32_1069 v935
  v936.toNat
def k0_dev47 (v3 : BitVec 32) : Nat :=
  let c0_i32_1093 : BitVec 32 := 0#32
  let c1_i32_1092 : BitVec 32 := 1#32
  let v953 : BitVec 32 := Scalar.muli v3 c1_i32_1092
  let v954 : BitVec 32 := Scalar.addi c0_i32_1093 v953
  v954.toNat
def k0_dev48 (v3 : BitVec 32) : Nat :=
  let c0_i32_1117 : BitVec 32 := 0#32
  let c1_i32_1116 : BitVec 32 := 1#32
  let v971 : BitVec 32 := Scalar.muli v3 c1_i32_1116
  let v972 : BitVec 32 := Scalar.addi c0_i32_1117 v971
  v972.toNat
def k0_dev49 (v3 : BitVec 32) : Nat :=
  let c0_i32_1141 : BitVec 32 := 0#32
  let c1_i32_1140 : BitVec 32 := 1#32
  let v989 : BitVec 32 := Scalar.muli v3 c1_i32_1140
  let v990 : BitVec 32 := Scalar.addi c0_i32_1141 v989
  v990.toNat
def k0_dev50 (v3 : BitVec 32) : Nat :=
  let c0_i32_1165 : BitVec 32 := 0#32
  let c1_i32_1164 : BitVec 32 := 1#32
  let v1007 : BitVec 32 := Scalar.muli v3 c1_i32_1164
  let v1008 : BitVec 32 := Scalar.addi c0_i32_1165 v1007
  v1008.toNat
def k0_off10 (v1035 : BitVec 32) : Fin 2 → Nat :=
  let c64_i32_1180 : BitVec 32 := 64#32
  let v1036 : BitVec 32 := Scalar.muli v1035 c64_i32_1180
  let v1037 : Index := Scalar.indexCast v1036
  let c0_1181 : Index := 0#32
  ![v1037.toNat, 0]

def k0_chk11 (v1035 : BitVec 32) : Prop :=
  (∀ a, (k0_off10 v1035) a + S64x64.size a ≤ S1024x64.size a)
theorem k0_off10_inb : ∀ (v1035 : BitVec 32) (k0_hw11 : k0_chk11 v1035), ∀ a, (k0_off10 v1035) a + S64x64.size a ≤ S1024x64.size a := fun v1035 k0_hw11 => k0_hw11

def k0_off11 (v1057 : BitVec 32) : Fin 2 → Nat :=
  let c64_i32_1192 : BitVec 32 := 64#32
  let v1058 : BitVec 32 := Scalar.muli v1057 c64_i32_1192
  let v1059 : Index := Scalar.indexCast v1058
  let c0_1193 : Index := 0#32
  ![v1059.toNat, 0]

def k0_chk12 (v1057 : BitVec 32) : Prop :=
  (∀ a, (k0_off11 v1057) a + S64x64.size a ≤ S1024x64.size a)
theorem k0_off11_inb : ∀ (v1057 : BitVec 32) (k0_hw12 : k0_chk12 v1057), ∀ a, (k0_off11 v1057) a + S64x64.size a ≤ S1024x64.size a := fun v1057 k0_hw12 => k0_hw12

def k0_dev51 (v4 : BitVec 32) : Nat :=
  let c0_i32_1212 : BitVec 32 := 0#32
  let c1_i32_1211 : BitVec 32 := 1#32
  let v1069 : BitVec 32 := Scalar.muli v4 c1_i32_1211
  let v1070 : BitVec 32 := Scalar.addi c0_i32_1212 v1069
  v1070.toNat
def k0_dev52 (v4 : BitVec 32) : Nat :=
  let c0_i32_1236 : BitVec 32 := 0#32
  let c1_i32_1235 : BitVec 32 := 1#32
  let v1087 : BitVec 32 := Scalar.muli v4 c1_i32_1235
  let v1088 : BitVec 32 := Scalar.addi c0_i32_1236 v1087
  v1088.toNat
def k0_dev53 (v4 : BitVec 32) : Nat :=
  let c0_i32_1260 : BitVec 32 := 0#32
  let c1_i32_1259 : BitVec 32 := 1#32
  let v1105 : BitVec 32 := Scalar.muli v4 c1_i32_1259
  let v1106 : BitVec 32 := Scalar.addi c0_i32_1260 v1105
  v1106.toNat
def k0_dev54 (v4 : BitVec 32) : Nat :=
  let c0_i32_1284 : BitVec 32 := 0#32
  let c1_i32_1283 : BitVec 32 := 1#32
  let v1123 : BitVec 32 := Scalar.muli v4 c1_i32_1283
  let v1124 : BitVec 32 := Scalar.addi c0_i32_1284 v1123
  v1124.toNat
def k0_dev55 (v3 : BitVec 32) : Nat :=
  let c0_i32_1308 : BitVec 32 := 0#32
  let c1_i32_1307 : BitVec 32 := 1#32
  let v1141 : BitVec 32 := Scalar.muli v3 c1_i32_1307
  let v1142 : BitVec 32 := Scalar.addi c0_i32_1308 v1141
  v1142.toNat
def k0_dev56 (v3 : BitVec 32) : Nat :=
  let c0_i32_1332 : BitVec 32 := 0#32
  let c1_i32_1331 : BitVec 32 := 1#32
  let v1159 : BitVec 32 := Scalar.muli v3 c1_i32_1331
  let v1160 : BitVec 32 := Scalar.addi c0_i32_1332 v1159
  v1160.toNat
def k0_dev57 (v3 : BitVec 32) : Nat :=
  let c0_i32_1356 : BitVec 32 := 0#32
  let c1_i32_1355 : BitVec 32 := 1#32
  let v1177 : BitVec 32 := Scalar.muli v3 c1_i32_1355
  let v1178 : BitVec 32 := Scalar.addi c0_i32_1356 v1177
  v1178.toNat
def k0_dev58 (v3 : BitVec 32) : Nat :=
  let c0_i32_1380 : BitVec 32 := 0#32
  let c1_i32_1379 : BitVec 32 := 1#32
  let v1195 : BitVec 32 := Scalar.muli v3 c1_i32_1379
  let v1196 : BitVec 32 := Scalar.addi c0_i32_1380 v1195
  v1196.toNat

def k0_chk1 (v3 : BitVec 32) : Prop :=
  ((k0_dev1 v3) < nD) ∧
  ((k0_dev4 v3) < nD) ∧
  ((k0_dev6 v3) < nD) ∧
  ((k0_dev8 v3) < nD) ∧
  ((k0_dev10 v3) < nD) ∧
  ((k0_dev15 v3) < nD) ∧
  ((k0_dev16 v3) < nD) ∧
  ((k0_dev17 v3) < nD) ∧
  ((k0_dev18 v3) < nD) ∧
  ((k0_dev23 v3) < nD) ∧
  ((k0_dev24 v3) < nD) ∧
  ((k0_dev25 v3) < nD) ∧
  ((k0_dev26 v3) < nD) ∧
  ((k0_dev31 v3) < nD) ∧
  ((k0_dev32 v3) < nD) ∧
  ((k0_dev33 v3) < nD) ∧
  ((k0_dev34 v3) < nD) ∧
  ((k0_dev39 v3) < nD) ∧
  ((k0_dev40 v3) < nD) ∧
  ((k0_dev41 v3) < nD) ∧
  ((k0_dev42 v3) < nD) ∧
  ((k0_dev47 v3) < nD) ∧
  ((k0_dev48 v3) < nD) ∧
  ((k0_dev49 v3) < nD) ∧
  ((k0_dev50 v3) < nD) ∧
  ((k0_dev55 v3) < nD) ∧
  ((k0_dev56 v3) < nD) ∧
  ((k0_dev57 v3) < nD) ∧
  ((k0_dev58 v3) < nD)
theorem k0_dev1_lt : ∀ (v3 : BitVec 32) (k0_hw1 : k0_chk1 v3), (k0_dev1 v3) < nD := fun v3 k0_hw1 => k0_hw1.1
theorem k0_dev4_lt : ∀ (v3 : BitVec 32) (k0_hw1 : k0_chk1 v3), (k0_dev4 v3) < nD := fun v3 k0_hw1 => k0_hw1.2.1
theorem k0_dev6_lt : ∀ (v3 : BitVec 32) (k0_hw1 : k0_chk1 v3), (k0_dev6 v3) < nD := fun v3 k0_hw1 => k0_hw1.2.2.1
theorem k0_dev8_lt : ∀ (v3 : BitVec 32) (k0_hw1 : k0_chk1 v3), (k0_dev8 v3) < nD := fun v3 k0_hw1 => k0_hw1.2.2.2.1
theorem k0_dev10_lt : ∀ (v3 : BitVec 32) (k0_hw1 : k0_chk1 v3), (k0_dev10 v3) < nD := fun v3 k0_hw1 => k0_hw1.2.2.2.2.1
theorem k0_dev15_lt : ∀ (v3 : BitVec 32) (k0_hw1 : k0_chk1 v3), (k0_dev15 v3) < nD := fun v3 k0_hw1 => k0_hw1.2.2.2.2.2.1
theorem k0_dev16_lt : ∀ (v3 : BitVec 32) (k0_hw1 : k0_chk1 v3), (k0_dev16 v3) < nD := fun v3 k0_hw1 => k0_hw1.2.2.2.2.2.2.1
theorem k0_dev17_lt : ∀ (v3 : BitVec 32) (k0_hw1 : k0_chk1 v3), (k0_dev17 v3) < nD := fun v3 k0_hw1 => k0_hw1.2.2.2.2.2.2.2.1
theorem k0_dev18_lt : ∀ (v3 : BitVec 32) (k0_hw1 : k0_chk1 v3), (k0_dev18 v3) < nD := fun v3 k0_hw1 => k0_hw1.2.2.2.2.2.2.2.2.1
theorem k0_dev23_lt : ∀ (v3 : BitVec 32) (k0_hw1 : k0_chk1 v3), (k0_dev23 v3) < nD := fun v3 k0_hw1 => k0_hw1.2.2.2.2.2.2.2.2.2.1
theorem k0_dev24_lt : ∀ (v3 : BitVec 32) (k0_hw1 : k0_chk1 v3), (k0_dev24 v3) < nD := fun v3 k0_hw1 => k0_hw1.2.2.2.2.2.2.2.2.2.2.1
theorem k0_dev25_lt : ∀ (v3 : BitVec 32) (k0_hw1 : k0_chk1 v3), (k0_dev25 v3) < nD := fun v3 k0_hw1 => k0_hw1.2.2.2.2.2.2.2.2.2.2.2.1
theorem k0_dev26_lt : ∀ (v3 : BitVec 32) (k0_hw1 : k0_chk1 v3), (k0_dev26 v3) < nD := fun v3 k0_hw1 => k0_hw1.2.2.2.2.2.2.2.2.2.2.2.2.1
theorem k0_dev31_lt : ∀ (v3 : BitVec 32) (k0_hw1 : k0_chk1 v3), (k0_dev31 v3) < nD := fun v3 k0_hw1 => k0_hw1.2.2.2.2.2.2.2.2.2.2.2.2.2.1
theorem k0_dev32_lt : ∀ (v3 : BitVec 32) (k0_hw1 : k0_chk1 v3), (k0_dev32 v3) < nD := fun v3 k0_hw1 => k0_hw1.2.2.2.2.2.2.2.2.2.2.2.2.2.2.1
theorem k0_dev33_lt : ∀ (v3 : BitVec 32) (k0_hw1 : k0_chk1 v3), (k0_dev33 v3) < nD := fun v3 k0_hw1 => k0_hw1.2.2.2.2.2.2.2.2.2.2.2.2.2.2.2.1
theorem k0_dev34_lt : ∀ (v3 : BitVec 32) (k0_hw1 : k0_chk1 v3), (k0_dev34 v3) < nD := fun v3 k0_hw1 => k0_hw1.2.2.2.2.2.2.2.2.2.2.2.2.2.2.2.2.1
theorem k0_dev39_lt : ∀ (v3 : BitVec 32) (k0_hw1 : k0_chk1 v3), (k0_dev39 v3) < nD := fun v3 k0_hw1 => k0_hw1.2.2.2.2.2.2.2.2.2.2.2.2.2.2.2.2.2.1
theorem k0_dev40_lt : ∀ (v3 : BitVec 32) (k0_hw1 : k0_chk1 v3), (k0_dev40 v3) < nD := fun v3 k0_hw1 => k0_hw1.2.2.2.2.2.2.2.2.2.2.2.2.2.2.2.2.2.2.1
theorem k0_dev41_lt : ∀ (v3 : BitVec 32) (k0_hw1 : k0_chk1 v3), (k0_dev41 v3) < nD := fun v3 k0_hw1 => k0_hw1.2.2.2.2.2.2.2.2.2.2.2.2.2.2.2.2.2.2.2.1
theorem k0_dev42_lt : ∀ (v3 : BitVec 32) (k0_hw1 : k0_chk1 v3), (k0_dev42 v3) < nD := fun v3 k0_hw1 => k0_hw1.2.2.2.2.2.2.2.2.2.2.2.2.2.2.2.2.2.2.2.2.1
theorem k0_dev47_lt : ∀ (v3 : BitVec 32) (k0_hw1 : k0_chk1 v3), (k0_dev47 v3) < nD := fun v3 k0_hw1 => k0_hw1.2.2.2.2.2.2.2.2.2.2.2.2.2.2.2.2.2.2.2.2.2.1
theorem k0_dev48_lt : ∀ (v3 : BitVec 32) (k0_hw1 : k0_chk1 v3), (k0_dev48 v3) < nD := fun v3 k0_hw1 => k0_hw1.2.2.2.2.2.2.2.2.2.2.2.2.2.2.2.2.2.2.2.2.2.2.1
theorem k0_dev49_lt : ∀ (v3 : BitVec 32) (k0_hw1 : k0_chk1 v3), (k0_dev49 v3) < nD := fun v3 k0_hw1 => k0_hw1.2.2.2.2.2.2.2.2.2.2.2.2.2.2.2.2.2.2.2.2.2.2.2.1
theorem k0_dev50_lt : ∀ (v3 : BitVec 32) (k0_hw1 : k0_chk1 v3), (k0_dev50 v3) < nD := fun v3 k0_hw1 => k0_hw1.2.2.2.2.2.2.2.2.2.2.2.2.2.2.2.2.2.2.2.2.2.2.2.2.1
theorem k0_dev55_lt : ∀ (v3 : BitVec 32) (k0_hw1 : k0_chk1 v3), (k0_dev55 v3) < nD := fun v3 k0_hw1 => k0_hw1.2.2.2.2.2.2.2.2.2.2.2.2.2.2.2.2.2.2.2.2.2.2.2.2.2.1
theorem k0_dev56_lt : ∀ (v3 : BitVec 32) (k0_hw1 : k0_chk1 v3), (k0_dev56 v3) < nD := fun v3 k0_hw1 => k0_hw1.2.2.2.2.2.2.2.2.2.2.2.2.2.2.2.2.2.2.2.2.2.2.2.2.2.2.1
theorem k0_dev57_lt : ∀ (v3 : BitVec 32) (k0_hw1 : k0_chk1 v3), (k0_dev57 v3) < nD := fun v3 k0_hw1 => k0_hw1.2.2.2.2.2.2.2.2.2.2.2.2.2.2.2.2.2.2.2.2.2.2.2.2.2.2.2.1
theorem k0_dev58_lt : ∀ (v3 : BitVec 32) (k0_hw1 : k0_chk1 v3), (k0_dev58 v3) < nD := fun v3 k0_hw1 => k0_hw1.2.2.2.2.2.2.2.2.2.2.2.2.2.2.2.2.2.2.2.2.2.2.2.2.2.2.2.2

def k0_off12 (v1223 : BitVec 32) : Fin 2 → Nat :=
  let c64_i32_1395 : BitVec 32 := 64#32
  let v1224 : BitVec 32 := Scalar.muli v1223 c64_i32_1395
  let v1225 : Index := Scalar.indexCast v1224
  let c0_1396 : Index := 0#32
  ![v1225.toNat, 0]

def k0_chk13 (v1223 : BitVec 32) : Prop :=
  (∀ a, (k0_off12 v1223) a + S64x64.size a ≤ S1024x64.size a)
theorem k0_off12_inb : ∀ (v1223 : BitVec 32) (k0_hw13 : k0_chk13 v1223), ∀ a, (k0_off12 v1223) a + S64x64.size a ≤ S1024x64.size a := fun v1223 k0_hw13 => k0_hw13

def k0_off13 (v1245 : BitVec 32) : Fin 2 → Nat :=
  let c64_i32_1407 : BitVec 32 := 64#32
  let v1246 : BitVec 32 := Scalar.muli v1245 c64_i32_1407
  let v1247 : Index := Scalar.indexCast v1246
  let c0_1408 : Index := 0#32
  ![v1247.toNat, 0]

def k0_chk14 (v1245 : BitVec 32) : Prop :=
  (∀ a, (k0_off13 v1245) a + S64x64.size a ≤ S1024x64.size a)
theorem k0_off13_inb : ∀ (v1245 : BitVec 32) (k0_hw14 : k0_chk14 v1245), ∀ a, (k0_off13 v1245) a + S64x64.size a ≤ S1024x64.size a := fun v1245 k0_hw14 => k0_hw14

def k0_dev59 (v4 : BitVec 32) : Nat :=
  let c0_i32_1427 : BitVec 32 := 0#32
  let c1_i32_1426 : BitVec 32 := 1#32
  let v1257 : BitVec 32 := Scalar.muli v4 c1_i32_1426
  let v1258 : BitVec 32 := Scalar.addi c0_i32_1427 v1257
  v1258.toNat
def k0_dev60 (v4 : BitVec 32) : Nat :=
  let c0_i32_1451 : BitVec 32 := 0#32
  let c1_i32_1450 : BitVec 32 := 1#32
  let v1275 : BitVec 32 := Scalar.muli v4 c1_i32_1450
  let v1276 : BitVec 32 := Scalar.addi c0_i32_1451 v1275
  v1276.toNat
def k0_dev61 (v4 : BitVec 32) : Nat :=
  let c0_i32_1475 : BitVec 32 := 0#32
  let c1_i32_1474 : BitVec 32 := 1#32
  let v1293 : BitVec 32 := Scalar.muli v4 c1_i32_1474
  let v1294 : BitVec 32 := Scalar.addi c0_i32_1475 v1293
  v1294.toNat
def k0_dev62 (v4 : BitVec 32) : Nat :=
  let c0_i32_1499 : BitVec 32 := 0#32
  let c1_i32_1498 : BitVec 32 := 1#32
  let v1311 : BitVec 32 := Scalar.muli v4 c1_i32_1498
  let v1312 : BitVec 32 := Scalar.addi c0_i32_1499 v1311
  v1312.toNat

def k0_chk2_0 (v4 : BitVec 32) : Prop :=
  ((k0_dev2 v4) < nD) ∧
  ((k0_dev3 v4) < nD) ∧
  ((k0_dev5 v4) < nD) ∧
  ((k0_dev7 v4) < nD) ∧
  ((k0_dev9 v4) < nD) ∧
  ((k0_dev11 v4) < nD) ∧
  ((k0_dev12 v4) < nD) ∧
  ((k0_dev13 v4) < nD) ∧
  ((k0_dev14 v4) < nD) ∧
  ((k0_dev19 v4) < nD) ∧
  ((k0_dev20 v4) < nD) ∧
  ((k0_dev21 v4) < nD) ∧
  ((k0_dev22 v4) < nD) ∧
  ((k0_dev27 v4) < nD) ∧
  ((k0_dev28 v4) < nD) ∧
  ((k0_dev29 v4) < nD) ∧
  ((k0_dev30 v4) < nD) ∧
  ((k0_dev35 v4) < nD) ∧
  ((k0_dev36 v4) < nD) ∧
  ((k0_dev37 v4) < nD) ∧
  ((k0_dev38 v4) < nD) ∧
  ((k0_dev43 v4) < nD) ∧
  ((k0_dev44 v4) < nD) ∧
  ((k0_dev45 v4) < nD) ∧
  ((k0_dev46 v4) < nD) ∧
  ((k0_dev51 v4) < nD) ∧
  ((k0_dev52 v4) < nD) ∧
  ((k0_dev53 v4) < nD) ∧
  ((k0_dev54 v4) < nD) ∧
  ((k0_dev59 v4) < nD) ∧
  ((k0_dev60 v4) < nD) ∧
  ((k0_dev61 v4) < nD)
def k0_chk2_1 (v4 : BitVec 32) : Prop :=
  ((k0_dev62 v4) < nD)
def k0_chk2 (v4 : BitVec 32) : Prop :=
  k0_chk2_0 v4 ∧
  k0_chk2_1 v4
theorem k0_dev2_lt : ∀ (v4 : BitVec 32) (k0_hw2 : k0_chk2 v4), (k0_dev2 v4) < nD := fun v4 k0_hw2 => k0_hw2.1.1
theorem k0_dev3_lt : ∀ (v4 : BitVec 32) (k0_hw2 : k0_chk2 v4), (k0_dev3 v4) < nD := fun v4 k0_hw2 => k0_hw2.1.2.1
theorem k0_dev5_lt : ∀ (v4 : BitVec 32) (k0_hw2 : k0_chk2 v4), (k0_dev5 v4) < nD := fun v4 k0_hw2 => k0_hw2.1.2.2.1
theorem k0_dev7_lt : ∀ (v4 : BitVec 32) (k0_hw2 : k0_chk2 v4), (k0_dev7 v4) < nD := fun v4 k0_hw2 => k0_hw2.1.2.2.2.1
theorem k0_dev9_lt : ∀ (v4 : BitVec 32) (k0_hw2 : k0_chk2 v4), (k0_dev9 v4) < nD := fun v4 k0_hw2 => k0_hw2.1.2.2.2.2.1
theorem k0_dev11_lt : ∀ (v4 : BitVec 32) (k0_hw2 : k0_chk2 v4), (k0_dev11 v4) < nD := fun v4 k0_hw2 => k0_hw2.1.2.2.2.2.2.1
theorem k0_dev12_lt : ∀ (v4 : BitVec 32) (k0_hw2 : k0_chk2 v4), (k0_dev12 v4) < nD := fun v4 k0_hw2 => k0_hw2.1.2.2.2.2.2.2.1
theorem k0_dev13_lt : ∀ (v4 : BitVec 32) (k0_hw2 : k0_chk2 v4), (k0_dev13 v4) < nD := fun v4 k0_hw2 => k0_hw2.1.2.2.2.2.2.2.2.1
theorem k0_dev14_lt : ∀ (v4 : BitVec 32) (k0_hw2 : k0_chk2 v4), (k0_dev14 v4) < nD := fun v4 k0_hw2 => k0_hw2.1.2.2.2.2.2.2.2.2.1
theorem k0_dev19_lt : ∀ (v4 : BitVec 32) (k0_hw2 : k0_chk2 v4), (k0_dev19 v4) < nD := fun v4 k0_hw2 => k0_hw2.1.2.2.2.2.2.2.2.2.2.1
theorem k0_dev20_lt : ∀ (v4 : BitVec 32) (k0_hw2 : k0_chk2 v4), (k0_dev20 v4) < nD := fun v4 k0_hw2 => k0_hw2.1.2.2.2.2.2.2.2.2.2.2.1
theorem k0_dev21_lt : ∀ (v4 : BitVec 32) (k0_hw2 : k0_chk2 v4), (k0_dev21 v4) < nD := fun v4 k0_hw2 => k0_hw2.1.2.2.2.2.2.2.2.2.2.2.2.1
theorem k0_dev22_lt : ∀ (v4 : BitVec 32) (k0_hw2 : k0_chk2 v4), (k0_dev22 v4) < nD := fun v4 k0_hw2 => k0_hw2.1.2.2.2.2.2.2.2.2.2.2.2.2.1
theorem k0_dev27_lt : ∀ (v4 : BitVec 32) (k0_hw2 : k0_chk2 v4), (k0_dev27 v4) < nD := fun v4 k0_hw2 => k0_hw2.1.2.2.2.2.2.2.2.2.2.2.2.2.2.1
theorem k0_dev28_lt : ∀ (v4 : BitVec 32) (k0_hw2 : k0_chk2 v4), (k0_dev28 v4) < nD := fun v4 k0_hw2 => k0_hw2.1.2.2.2.2.2.2.2.2.2.2.2.2.2.2.1
theorem k0_dev29_lt : ∀ (v4 : BitVec 32) (k0_hw2 : k0_chk2 v4), (k0_dev29 v4) < nD := fun v4 k0_hw2 => k0_hw2.1.2.2.2.2.2.2.2.2.2.2.2.2.2.2.2.1
theorem k0_dev30_lt : ∀ (v4 : BitVec 32) (k0_hw2 : k0_chk2 v4), (k0_dev30 v4) < nD := fun v4 k0_hw2 => k0_hw2.1.2.2.2.2.2.2.2.2.2.2.2.2.2.2.2.2.1
theorem k0_dev35_lt : ∀ (v4 : BitVec 32) (k0_hw2 : k0_chk2 v4), (k0_dev35 v4) < nD := fun v4 k0_hw2 => k0_hw2.1.2.2.2.2.2.2.2.2.2.2.2.2.2.2.2.2.2.1
theorem k0_dev36_lt : ∀ (v4 : BitVec 32) (k0_hw2 : k0_chk2 v4), (k0_dev36 v4) < nD := fun v4 k0_hw2 => k0_hw2.1.2.2.2.2.2.2.2.2.2.2.2.2.2.2.2.2.2.2.1
theorem k0_dev37_lt : ∀ (v4 : BitVec 32) (k0_hw2 : k0_chk2 v4), (k0_dev37 v4) < nD := fun v4 k0_hw2 => k0_hw2.1.2.2.2.2.2.2.2.2.2.2.2.2.2.2.2.2.2.2.2.1
theorem k0_dev38_lt : ∀ (v4 : BitVec 32) (k0_hw2 : k0_chk2 v4), (k0_dev38 v4) < nD := fun v4 k0_hw2 => k0_hw2.1.2.2.2.2.2.2.2.2.2.2.2.2.2.2.2.2.2.2.2.2.1
theorem k0_dev43_lt : ∀ (v4 : BitVec 32) (k0_hw2 : k0_chk2 v4), (k0_dev43 v4) < nD := fun v4 k0_hw2 => k0_hw2.1.2.2.2.2.2.2.2.2.2.2.2.2.2.2.2.2.2.2.2.2.2.1
theorem k0_dev44_lt : ∀ (v4 : BitVec 32) (k0_hw2 : k0_chk2 v4), (k0_dev44 v4) < nD := fun v4 k0_hw2 => k0_hw2.1.2.2.2.2.2.2.2.2.2.2.2.2.2.2.2.2.2.2.2.2.2.2.1
theorem k0_dev45_lt : ∀ (v4 : BitVec 32) (k0_hw2 : k0_chk2 v4), (k0_dev45 v4) < nD := fun v4 k0_hw2 => k0_hw2.1.2.2.2.2.2.2.2.2.2.2.2.2.2.2.2.2.2.2.2.2.2.2.2.1
theorem k0_dev46_lt : ∀ (v4 : BitVec 32) (k0_hw2 : k0_chk2 v4), (k0_dev46 v4) < nD := fun v4 k0_hw2 => k0_hw2.1.2.2.2.2.2.2.2.2.2.2.2.2.2.2.2.2.2.2.2.2.2.2.2.2.1
theorem k0_dev51_lt : ∀ (v4 : BitVec 32) (k0_hw2 : k0_chk2 v4), (k0_dev51 v4) < nD := fun v4 k0_hw2 => k0_hw2.1.2.2.2.2.2.2.2.2.2.2.2.2.2.2.2.2.2.2.2.2.2.2.2.2.2.1
theorem k0_dev52_lt : ∀ (v4 : BitVec 32) (k0_hw2 : k0_chk2 v4), (k0_dev52 v4) < nD := fun v4 k0_hw2 => k0_hw2.1.2.2.2.2.2.2.2.2.2.2.2.2.2.2.2.2.2.2.2.2.2.2.2.2.2.2.1
theorem k0_dev53_lt : ∀ (v4 : BitVec 32) (k0_hw2 : k0_chk2 v4), (k0_dev53 v4) < nD := fun v4 k0_hw2 => k0_hw2.1.2.2.2.2.2.2.2.2.2.2.2.2.2.2.2.2.2.2.2.2.2.2.2.2.2.2.2.1
theorem k0_dev54_lt : ∀ (v4 : BitVec 32) (k0_hw2 : k0_chk2 v4), (k0_dev54 v4) < nD := fun v4 k0_hw2 => k0_hw2.1.2.2.2.2.2.2.2.2.2.2.2.2.2.2.2.2.2.2.2.2.2.2.2.2.2.2.2.2.1
theorem k0_dev59_lt : ∀ (v4 : BitVec 32) (k0_hw2 : k0_chk2 v4), (k0_dev59 v4) < nD := fun v4 k0_hw2 => k0_hw2.1.2.2.2.2.2.2.2.2.2.2.2.2.2.2.2.2.2.2.2.2.2.2.2.2.2.2.2.2.2.1
theorem k0_dev60_lt : ∀ (v4 : BitVec 32) (k0_hw2 : k0_chk2 v4), (k0_dev60 v4) < nD := fun v4 k0_hw2 => k0_hw2.1.2.2.2.2.2.2.2.2.2.2.2.2.2.2.2.2.2.2.2.2.2.2.2.2.2.2.2.2.2.2.1
theorem k0_dev61_lt : ∀ (v4 : BitVec 32) (k0_hw2 : k0_chk2 v4), (k0_dev61 v4) < nD := fun v4 k0_hw2 => k0_hw2.1.2.2.2.2.2.2.2.2.2.2.2.2.2.2.2.2.2.2.2.2.2.2.2.2.2.2.2.2.2.2.2
theorem k0_dev62_lt : ∀ (v4 : BitVec 32) (k0_hw2 : k0_chk2 v4), (k0_dev62 v4) < nD := fun v4 k0_hw2 => k0_hw2.2

def k0_off14 (v1371 : BitVec 32) : Fin 2 → Nat :=
  let c64_i32_1562 : BitVec 32 := 64#32
  let v1372 : BitVec 32 := Scalar.muli v1371 c64_i32_1562
  let v1373 : Index := Scalar.indexCast v1372
  let c0_1563 : Index := 0#32
  ![v1373.toNat, 0]

def k0_chk15 (v1371 : BitVec 32) : Prop :=
  (∀ a, (k0_off14 v1371) a + S64x64.size a ≤ S1024x64.size a)
theorem k0_off14_inb : ∀ (v1371 : BitVec 32) (k0_hw15 : k0_chk15 v1371), ∀ a, (k0_off14 v1371) a + S64x64.size a ≤ S1024x64.size a := fun v1371 k0_hw15 => k0_hw15

def k0_off15 (v1393 : BitVec 32) : Fin 2 → Nat :=
  let c64_i32_1574 : BitVec 32 := 64#32
  let v1394 : BitVec 32 := Scalar.muli v1393 c64_i32_1574
  let v1395 : Index := Scalar.indexCast v1394
  let c0_1575 : Index := 0#32
  ![v1395.toNat, 0]

def k0_chk16 (v1393 : BitVec 32) : Prop :=
  (∀ a, (k0_off15 v1393) a + S64x64.size a ≤ S1024x64.size a)
theorem k0_off15_inb : ∀ (v1393 : BitVec 32) (k0_hw16 : k0_chk16 v1393), ∀ a, (k0_off15 v1393) a + S64x64.size a ≤ S1024x64.size a := fun v1393 k0_hw16 => k0_hw16

def k0_off16 (v1447 : BitVec 32) : Fin 2 → Nat :=
  let c64_i32_1634 : BitVec 32 := 64#32
  let v1448 : BitVec 32 := Scalar.muli v1447 c64_i32_1634
  let v1449 : Index := Scalar.indexCast v1448
  let c0_1635 : Index := 0#32
  ![v1449.toNat, 0]

def k0_chk17 (v1447 : BitVec 32) : Prop :=
  (∀ a, (k0_off16 v1447) a + S64x64.size a ≤ S1024x64.size a)
theorem k0_off16_inb : ∀ (v1447 : BitVec 32) (k0_hw17 : k0_chk17 v1447), ∀ a, (k0_off16 v1447) a + S64x64.size a ≤ S1024x64.size a := fun v1447 k0_hw17 => k0_hw17

abbrev stage0_0 : Fin 1 → Memref sig .tc .smem S17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ideal.Steps.lean ====
/- The kernel's body as a list of steps. After its prologue the body is a sequence of a few kinds of
   operation — a copy of one chunk to the neighbour on the right or on the left, a wait for a chunk to
   arrive, a wait for a chunk to have left, and the computation of one block of the result —, so each
   kind is written once, over the number of the chunk or of the block. -/
module

public import proofs.«01_k».proof.Proof.Gen.KernelIdeal.Skeleton
public import proofs.«01_k».proof.Proof.Gen.KernelIdeal.Points

@[expose] public section

noncomputable section

namespace Cert.KernelIdeal.Own

open Idealize.ShloMosaic Idealize.ShloMosaic.TcCoe
open Idealize.SL Idealize.SL.Sem
open Cert.KernelIdeal.Gen

variable {F : FTy → Type} [FloatOps F]

/-! ## The operands -/

/-- The table of words. -/
abbrev A0 : Memref sig .tc .smem S17 .i32 := Memref.whole cc0_stg0_0
/-- The device's rows of the left factor. -/
abbrev A1 : Memref sig .tc .vmem S64x1024 .f32 := Memref.whole cc0_stg1_0
/-- The device's columns of the right factor. -/
abbrev A2 : Memref sig .tc .vmem S1024x64 .f32 := Memref.whole cc0_stg2_0
/-- The device's columns of the result. -/
abbrev A3 : Memref sig .tc .vmem S1024x64 .f32 := Memref.whole cc0_stg3_0
/-- The slots of the ring to the right. -/
abbrev A4 : Memref sig .tc .vmem S9x64x1024 .f32 := Memref.whole cc0_scratch0
/-- The slots of the ring to the left. -/
abbrev A5 : Memref sig .tc .vmem S8x64x1024 .f32 := Memref.whole cc0_scratch1

/-! ## Chunks: chunk `k` is sixteen rows, rows `16 (k mod 4)` on, of slot `k / 4` -/

theorem inbChR (k : ℕ) : ∀ a, (![k / 4 % 9, 16 * (k % 4), 0] : Fin 3 → Nat) a + S1x16x1024.size a ≤ S9x64x1024.size a := by
  intro a
  fin_cases a
  · show k / 4 % 9 + 1 ≤ 9
    omega
  · show 16 * (k % 4) + 16 ≤ 64
    omega
  · show 0 + 1024 ≤ 1024
    omega

theorem inbChL (k : ℕ) : ∀ a, (![k / 4 % 8, 16 * (k % 4), 0] : Fin 3 → Nat) a + S1x16x1024.size a ≤ S8x64x1024.size a := by
  intro a
  fin_cases a
  · show k / 4 % 8 + 1 ≤ 8
    omega
  · show 16 * (k % 4) + 16 ≤ 64
    omega
  · show 0 + 1024 ≤ 1024
    omega

/-- Chunk `k` of the ring to the right. -/
def chR (k : ℕ) : Memref sig .tc .vmem S16x1024 .f32 :=
  (A4.slice (Rect.unit (s := S9x64x1024) ![k / 4 % 9, 16 * (k % 4), 0] S1x16x1024.size (inbChR k)) (fun _ => rfl)).squeeze S16x1024 squeezes_S1x16x1024_S16x1024

/-- Chunk `k` of the ring to the left. -/
def chL (k : ℕ) : Memref sig .tc .vmem S16x1024 .f32 :=
  (A5.slice (Rect.unit (s := S8x64x1024) ![k / 4 % 8, 16 * (k % 4), 0] S1x16x1024.size (inbChL k)) (fun _ => rfl)).squeeze S16x1024 squeezes_S1x16x1024_S16x1024

/-- DMA semaphore `n`. -/
def semN (n : ℕ) : DmaSem sig := (⟨n % 124, Nat.mod_lt _ (by decide)⟩ : Fin 124)

/-- The neighbour on the right, by the word read from the table. -/
def toR (v4 : BitVec 32) (h : k0_chk2 v4) : Dev nD := ⟨k0_dev3 v4, k0_dev3_lt v4 h⟩

/-- The neighbour on the left, by the word read from the table. -/
def toL (v3 : BitVec 32) (h : k0_chk1 v3) : Dev nD := ⟨k0_dev4 v3, k0_dev4_lt v3 h⟩

theorem chR_word (k : ℕ) : (chR k).view.WordExact := (View.wordExact_bits rfl).reshape _ _
theorem chL_word (k : ℕ) : (chL k).view.WordExact := (View.wordExact_bits rfl).reshape _ _

/-! ## Steps -/

/-- The kinds of step. -/
inductive Step where
  /-- Copy chunk `i` to the right. -/
  | sendR (i : ℕ)
  /-- Copy chunk `i` to the left. -/
  | sendL (i : ℕ)
  /-- Wait for the chunk the left neighbour's copy `i` brings. -/
  | waitR (i : ℕ)
  /-- Wait for the chunk the right neighbour's copy `i` brings. -/
  | waitL (i : ℕ)
  /-- Wait for copy `i` to the right to have left. -/
  | doneR (i : ℕ)
  /-- Wait for copy `i` to the left to have left. -/
  | doneL (i : ℕ)
  /-- Compute the block of the device's own rows. -/
  | own
  /-- Compute the block of slot `h + 1` of the ring to the right. -/
  | compR (h : ℕ)
  /-- Compute the block of slot `h + 1` of the ring to the left. -/
  | compL (h : ℕ)

/-- The programs of the kernel's body. -/
abbrev Body (F : FTy → Type) [FloatOps F] : Type 1 := Prog (TpuEff nD τ sig (Elt F) Λ₀ .tc) PUnit

theorem inbSlR (h : ℕ) : ∀ a, (![(h + 1) % 9, 0, 0] : Fin 3 → Nat) a + S1x64x1024.size a ≤ S9x64x1024.size a := by
  intro a
  fin_cases a
  · show (h + 1) % 9 + 1 ≤ 9
    omega
  · show 0 + 64 ≤ 64
    omega
  · show 0 + 1024 ≤ 1024
    omega

theorem inbSlL (h : ℕ) : ∀ a, (![(h + 1) % 8, 0, 0] : Fin 3 → Nat) a + S1x64x1024.size a ≤ S8x64x1024.size a := by
  intro a
  fin_cases a
  · show (h + 1) % 8 + 1 ≤ 8
    omega
  · show 0 + 64 ≤ 64
    omega
  · show 0 + 1024 ≤ 1024
    omega

theorem inbTab (j : ℕ) : ∀ a, (![j % 17] : Fin 1 → Nat) a + S1.size a ≤ S17.size a := by
  intro a
  fin_cases a
  show j % 17 + 1 ≤ 17
  omega

/-- Load the right factor, read the table's word `j`, and store the block of the result that word names,
    computed from the slot's rows. -/
def compTail (a : Vec F S1x64x1024 .f32) (j : ℕ) (p : Body F) : Body F :=
  .op (.load A2 (Rect.unit (s := S1024x64) ![0, 0] S1024x64.size inb_S1024x64_S1024x64_0_0).toLoadRect (View.loadsAt_vmem h_S1024x64)) fun w =>
  Prog.bind (smemLoad A0 (Rect.unit (s := S17) ![j % 17] S1.size (inbTab j)) numel1_S1 rfl) fun v =>
  .op (.assume (k0_chk3 v) (k0_chk3.dec v)) fun hw =>
  .op (.load A3 (Rect.unit (s := S1024x64) (k0_off2 v) S64x64.size (k0_off2_inb v hw.down)).toLoadRect (View.loadsAt_vmem h_S64x64)) fun _ =>
  .op (.store A3 (Rect.unit (s := S1024x64) (k0_off2 v) S64x64.size (k0_off2_inb v hw.down)) (k0_pay5 a w) Finset.univ (View.stores_vmem_bits_univ h_S64x64 rfl) (.inl rfl)) fun _ => p

/-- One step, then `p`. -/
def Step.run (d0 : Dev nD) (v3 : BitVec 32) (hw1 : k0_chk1 v3) (v4 : BitVec 32) (hw2 : k0_chk2 v4) : Step → Body F → Body F
  | .sendR i, p => .op (.enqueueDma (chR i) (.remote (Dev.tc (toR v4 hw2)) (chR (i + 4)) (.dma (semN (4 + i)))) (.dma (semN (36 + i))) (chR_word i) (chR_word (i + 4)) ⟨⟨rfl, Or.inl rfl⟩, trivial⟩) fun _ => p
  | .sendL i, p => .op (.enqueueDma (chL i) (.remote (Dev.tc (toL v3 hw1)) (chL (i + 4)) (.dma (semN (68 + i)))) (.dma (semN (96 + i))) (chL_word i) (chL_word (i + 4)) ⟨⟨rfl, Or.inl rfl⟩, trivial⟩) fun _ => p
  | .waitR i, p => .op (.waitDma2 (semN (36 + i)) (chR i) (chR (i + 4)) (chR_word i) (chR_word (i + 4))) fun _ => p
  | .waitL i, p => .op (.waitDma2 (semN (96 + i)) (chL i) (chL (i + 4)) (chL_word i) (chL_word (i + 4))) fun _ => p
  | .doneR i, p => .op (.waitDma2 (semN (4 + i)) (chR (i + 4)) (chR i) (chR_word (i + 4)) (chR_word i)) fun _ => p
  | .doneL i, p => .op (.waitDma2 (semN (68 + i)) (chL (i + 4)) (chL i) (chL_word (i + 4)) (chL_word i)) fun _ => p
  | .own, p =>
    .op (.load A1 (Rect.unit (s := S64x1024) ![0, 0] S64x1024.size inb_S64x1024_S64x1024_0_0).toLoadRect (View.loadsAt_vmem h_S64x1024)) fun x =>
    .op (.load A2 (Rect.unit (s := S1024x64) ![0, 0] S1024x64.size inb_S1024x64_S1024x64_0_0).toLoadRect (View.loadsAt_vmem h_S1024x64)) fun w =>
    .op (.load A3 (Rect.unit (s := S1024x64) (k0_off1 d0) S64x64.size (k0_off1_inb d0)).toLoadRect (View.loadsAt_vmem h_S64x64)) fun _ =>
    .op (.store A3 (Rect.unit (s := S1024x64) (k0_off1 d0) S64x64.size (k0_off1_inb d0)) (k0_pay4 (k0_pay3 x) w) Finset.univ (View.stores_vmem_bits_univ h_S64x64 rfl) (.inl rfl)) fun _ => p
  | .compR h, p =>
    .op (.load A4 (Rect.unit (s := S9x64x1024) ![(h + 1) % 9, 0, 0] S1x64x1024.size (inbSlR h)).toLoadRect (View.loadsAt_vmem h_S1x64x1024)) fun a => compTail a (2 + h) p
  | .compL h, p =>
    .op (.load A5 (Rect.unit (s := S8x64x1024) ![(h + 1) % 8, 0, 0] S1x64x1024.size (inbSlL h)).toLoadRect (View.loadsAt_vmem h_S1x64x1024)) fun a => compTail a (10 + h) p

/-- The steps of a list, then `p`. -/
def runAll (d0 : Dev nD) (v3 : BitVec 32) (hw1 : k0_chk1 v3) (v4 : BitVec 32) (hw2 : k0_chk2 v4) : List Step → Body F → Body F
  | [], p => p
  | s :: l, p => s.run d0 v3 hw1 v4 hw2 (runAll d0 v3 hw1 v4 hw2 l p)

theorem runAll_append (d0 : Dev nD) (v3 : BitVec 32) (hw1 : k0_chk1 v3) (v4 : BitVec 32) (hw2 : k0_chk2 v4) (l l' : List Step) (p : Body F) :
    runAll d0 v3 hw1 v4 hw2 (l ++ l') p = runAll d0 v3 hw1 v4 hw2 l (runAll d0 v3 hw1 v4 hw2 l' p) := by
  induction l with
  | nil => rfl
  | cons s l ih => exact congrArg _ ih

end Cert.KernelIdeal.Own

end
-- ==== Proof.Ideal.Ring.lean ====
/- The ring the devices stand on, the chunks the two rings of slots are cut into, and what the slots hold.
   The sixteen devices of the mesh are numbered along a ring, neighbours on it being neighbours on the
   mesh; a device passes its own rows of the left factor to both sides, and what arrives on one side is
   passed on to the other. So slot `j` of the ring to the right holds the rows of the device `j` places
   back, slot `j` of the ring to the left the rows of the device `j` places ahead. -/
module

public import proofs.«01_k».proof.Proof.Ideal.Steps
public import Idealize.ShloMosaic.Lib.ValueLayout
public import Idealize.ShloMosaic.Lib.Pipeline.ValueKit.Geometry

@[expose] public section

noncomputable section

namespace Cert.KernelIdeal.Own

open Idealize.ShloMosaic Idealize.ShloMosaic.TcCoe
open Idealize.SL Idealize.SL.Sem
open Cert.KernelIdeal.Gen
open Idealize.ShloMosaic.ValueIdx

set_option backward.isDefEq.respectTransparency.types false

/-! ## The ring -/

/-- The device at a place of the ring. -/
def rg : Fin 16 → Dev nD := ![(0 : Fin 16), 1, 5, 9, 13, 14, 10, 6, 2, 3, 7, 11, 15, 12, 8, 4]

/-- The place of a device on the ring. -/
def ps : Dev nD → Fin 16 := (![0, 1, 8, 9, 15, 2, 7, 10, 14, 3, 6, 11, 13, 4, 5, 12] : Fin 16 → Fin 16)

theorem ps_rg : ∀ p : Fin 16, ps (rg p) = p := by decide
theorem rg_ps : ∀ d : Dev nD, rg (ps d) = d := by decide

/-- The neighbour on the right, the one on the left. -/
def rt (d : Dev nD) : Dev nD := rg (ps d + 1)
def lf (d : Dev nD) : Dev nD := rg (ps d - 1)

theorem lf_rt : ∀ d : Dev nD, lf (rt d) = d := by decide
theorem rt_lf : ∀ d : Dev nD, rt (lf d) = d := by decide
theorem rt_ne : ∀ d : Dev nD, rt d ≠ d := by decide
theorem lf_ne : ∀ d : Dev nD, lf d ≠ d := by decide

/-- Stepping right and stepping left undo one another. -/
def ringEquiv : Dev nD ≃ Dev nD := ⟨rt, lf, lf_rt, rt_lf⟩

/-- The device `j` places back, the device `j` places ahead. -/
def back (d : Dev nD) (j : ℕ) : Dev nD := rg (ps d - ⟨j % 16, Nat.mod_lt _ (by decide)⟩)
def ahead (d : Dev nD) (j : ℕ) : Dev nD := rg (ps d + ⟨j % 16, Nat.mod_lt _ (by decide)⟩)

theorem back_zero : ∀ d : Dev nD, back d 0 = d := by decide
theorem ahead_zero : ∀ d : Dev nD, ahead d 0 = d := by decide
theorem back_lf (d : Dev nD) (j : ℕ) (h : j < 15) : back d (j + 1) = back (lf d) j := by
  revert d
  interval_cases j <;> decide
theorem ahead_rt (d : Dev nD) (j : ℕ) (h : j < 15) : ahead d (j + 1) = ahead (rt d) j := by
  revert d
  interval_cases j <;> decide

/-! ## The table of words -/

/-- A device's number as a word. -/
def word (d : Dev nD) : BitVec 32 := BitVec.ofNat 32 d.val

/-- Entry `j` of the table: the left neighbour, the right neighbour, the devices the eight slots of the ring
    to the right come from, and the devices the seven slots of the ring to the left come from. -/
def tabAt (c : Dev nD) (j : ℕ) : Dev nD :=
  if j = 0 then lf c else if j = 1 then rt c else if j < 10 then back c (j - 1) else ahead c (j - 9)

theorem tabAt_R (c : Dev nD) (h : ℕ) (hh : h < 8) : tabAt c (2 + h) = back c (h + 1) := by
  revert c
  interval_cases h <;> decide
theorem tabAt_L (c : Dev nD) (h : ℕ) : tabAt c (10 + h) = ahead c (h + 1) := by
  unfold tabAt
  rw [if_neg (by omega), if_neg (by omega), if_neg (by omega)]
  congr 1
  omega

theorem chk1_word : ∀ d : Dev nD, k0_chk1 (word d) := by decide
theorem chk2_word : ∀ d : Dev nD, k0_chk2 (word d) := by decide
theorem chk3_word : ∀ d : Dev nD, k0_chk3 (word d) := by decide
theorem dev1_word : ∀ d : Dev nD, k0_dev1 (word d) = d.val := by decide
theorem dev2_word : ∀ d : Dev nD, k0_dev2 (word d) = d.val := by decide
theorem toR_word (d : Dev nD) (h : k0_chk2 (word d)) : toR (word d) h = d := by
  refine Fin.ext ?_
  show k0_dev3 (word d) = d.val
  revert d
  intro d _
  revert d
  decide
theorem toL_word (d : Dev nD) (h : k0_chk1 (word d)) : toL (word d) h = d := by
  refine Fin.ext ?_
  show k0_dev4 (word d) = d.val
  revert d
  intro d _
  revert d
  decide
theorem off2_word : ∀ d : Dev nD, k0_off2 (word d) = ![64 * d.val, 0] := by decide
theorem off1_eq : ∀ d : Dev nD, k0_off1 d = ![64 * d.val, 0] := by decide

/-! ## Chunks -/

/-- Where an element of chunk `k` lies. -/
def emR (k : ℕ) (x : S16x1024.Idx) : S9x64x1024.Idx := (chR k).view.emb x

theorem chR_emb0 (k : ℕ) (x : S16x1024.Idx) : (emR k x 0).val = k / 4 % 9 := by
  show (((View.whole cc0_scratch0).slice (Rect.unit (s := S9x64x1024) ![k / 4 % 9, 16 * (k % 4), 0] S1x16x1024.size (inbChR k))).emb
    (Shape.reshapeEquiv (s := S1x16x1024) (s' := S16x1024) rfl x) 0).val = _
  rw [ValueKit.view_emb_slice_whole_unit_val, Shape.reshapeEquiv_cons_one]
  rfl
theorem chR_emb1 (k : ℕ) (x : S16x1024.Idx) : (emR k x 1).val = 16 * (k % 4) + (x 0).val := by
  show (((View.whole cc0_scratch0).slice (Rect.unit (s := S9x64x1024) ![k / 4 % 9, 16 * (k % 4), 0] S1x16x1024.size (inbChR k))).emb
    (Shape.reshapeEquiv (s := S1x16x1024) (s' := S16x1024) rfl x) 1).val = _
  rw [ValueKit.view_emb_slice_whole_unit_val, Shape.reshapeEquiv_cons_one]
  rfl
theorem chR_emb2 (k : ℕ) (x : S16x1024.Idx) : (emR k x 2).val = (x 1).val := by
  show (((View.whole cc0_scratch0).slice (Rect.unit (s := S9x64x1024) ![k / 4 % 9, 16 * (k % 4), 0] S1x16x1024.size (inbChR k))).emb
    (Shape.reshapeEquiv (s := S1x16x1024) (s' := S16x1024) rfl x) 2).val = _
  rw [ValueKit.view_emb_slice_whole_unit_val, Shape.reshapeEquiv_cons_one]
  exact Nat.zero_add _
/-- Where an element of chunk `k` lies. -/
def emL (k : ℕ) (x : S16x1024.Idx) : S8x64x1024.Idx := (chL k).view.emb x

theorem chL_emb0 (k : ℕ) (x : S16x1024.Idx) : (emL k x 0).val = k / 4 % 8 := by
  show (((View.whole cc0_scratch1).slice (Rect.unit (s := S8x64x1024) ![k / 4 % 8, 16 * (k % 4), 0] S1x16x1024.size (inbChL k))).emb
    (Shape.reshapeEquiv (s := S1x16x1024) (s' := S16x1024) rfl x) 0).val = _
  rw [ValueKit.view_emb_slice_whole_unit_val, Shape.reshapeEquiv_cons_one]
  rfl
theorem chL_emb1 (k : ℕ) (x : S16x1024.Idx) : (emL k x 1).val = 16 * (k % 4) + (x 0).val := by
  show (((View.whole cc0_scratch1).slice (Rect.unit (s := S8x64x1024) ![k / 4 % 8, 16 * (k % 4), 0] S1x16x1024.size (inbChL k))).emb
    (Shape.reshapeEquiv (s := S1x16x1024) (s' := S16x1024) rfl x) 1).val = _
  rw [ValueKit.view_emb_slice_whole_unit_val, Shape.reshapeEquiv_cons_one]
  rfl
theorem chL_emb2 (k : ℕ) (x : S16x1024.Idx) : (emL k x 2).val = (x 1).val := by
  show (((View.whole cc0_scratch1).slice (Rect.unit (s := S8x64x1024) ![k / 4 % 8, 16 * (k % 4), 0] S1x16x1024.size (inbChL k))).emb
    (Shape.reshapeEquiv (s := S1x16x1024) (s' := S16x1024) rfl x) 2).val = _
  rw [ValueKit.view_emb_slice_whole_unit_val, Shape.reshapeEquiv_cons_one]
  exact Nat.zero_add _

/-- The number of the chunk an element lies in. -/
def noR (i : S9x64x1024.Idx) : ℕ := 4 * (i 0).val + (i 1).val / 16
def noL (i : S8x64x1024.Idx) : ℕ := 4 * (i 0).val + (i 1).val / 16

theorem mem_chR (k : ℕ) (hk : k < 36) (i : S9x64x1024.Idx) : i ∈ (chR k).view.set ↔ noR i = k := by
  have e1 : (i 1).val < 64 := (i 1).isLt
  constructor
  · intro h
    obtain ⟨x, -, rfl⟩ := Finset.mem_map.mp h
    have e0 : (x 0).val < 16 := (x 0).isLt
    show 4 * (emR k x 0).val + (emR k x 1).val / 16 = k
    rw [chR_emb0, chR_emb1]
    omega
  · intro h
    have h' : 4 * (i 0).val + (i 1).val / 16 = k := h
    refine Finset.mem_map.mpr ⟨(Fin.cons ⟨(i 1).val % 16, Nat.mod_lt _ (by decide)⟩ (Fin.cons (i 2) finZeroElim) : ∀ a : Fin 2, Fin (S16x1024.size a)), Finset.mem_univ _, ?_⟩
    funext a
    refine Fin.ext ?_
    match a with
    | ⟨0, _⟩ =>
      refine (chR_emb0 k _).trans ?_
      show _ = (i 0).val
      omega
    | ⟨1, _⟩ =>
      refine (chR_emb1 k _).trans ?_
      show 16 * (k % 4) + (i 1).val % 16 = (i 1).val
      omega
    | ⟨2, _⟩ => exact (chR_emb2 k _).trans rfl
theorem mem_chL (k : ℕ) (hk : k < 32) (i : S8x64x1024.Idx) : i ∈ (chL k).view.set ↔ noL i = k := by
  have e1 : (i 1).val < 64 := (i 1).isLt
  constructor
  · intro h
    obtain ⟨x, -, rfl⟩ := Finset.mem_map.mp h
    have e0 : (x 0).val < 16 := (x 0).isLt
    show 4 * (emL k x 0).val + (emL k x 1).val / 16 = k
    rw [chL_emb0, chL_emb1]
    omega
  · intro h
    have h' : 4 * (i 0).val + (i 1).val / 16 = k := h
    refine Finset.mem_map.mpr ⟨(Fin.cons ⟨(i 1).val % 16, Nat.mod_lt _ (by decide)⟩ (Fin.cons (i 2) finZeroElim) : ∀ a : Fin 2, Fin (S16x1024.size a)), Finset.mem_univ _, ?_⟩
    funext a
    refine Fin.ext ?_
    match a with
    | ⟨0, _⟩ =>
      refine (chL_emb0 k _).trans ?_
      show _ = (i 0).val
      omega
    | ⟨1, _⟩ =>
      refine (chL_emb1 k _).trans ?_
      show 16 * (k % 4) + (i 1).val % 16 = (i 1).val
      omega
    | ⟨2, _⟩ => exact (chL_emb2 k _).trans rfl

/-! ## What the slots and the result hold -/

variable {F : FTy → Type} [FloatOps F]

/-- Slot `j` of the ring to the right holds the rows of the device `j` places back. -/
def commR (X : Dev nD → Vec F S64x1024 .f32) (c : Dev nD) : Vec F S9x64x1024 .f32 :=
  fun i => X (back c (i 0).val) (ix2 (i 1) (i 2))

/-- Slot `j` of the ring to the left holds the rows of the device `j` places ahead. -/
def commL (X : Dev nD → Vec F S64x1024 .f32) (c : Dev nD) : Vec F S8x64x1024 .f32 :=
  fun i => X (ahead c (i 0).val) (ix2 (i 1) (i 2))

/-- One block of the result: a device's rows and the columns `w`. -/
def blk (x : Vec F S64x1024 .f32) (w : Vec F S1024x64 .f32) : Vec F S64x64 .f32 := k0_pay4 (k0_pay3 x) w

/-- The result on a device with the columns `w`: the block of every device's rows. -/
def outF (X : Dev nD → Vec F S64x1024 .f32) (w : Vec F S1024x64 .f32) : Vec F S1024x64 .f32 :=
  fun i => blk (X ⟨(i 0).val / 64, Nat.div_lt_of_lt_mul (i 0).isLt⟩) w (ix2 ⟨(i 0).val % 64, Nat.mod_lt _ (by decide)⟩ (i 1))

/-- A copy to the right brings the right neighbour's next slot what it is to hold. -/
theorem landR (X : Dev nD → Vec F S64x1024 .f32) (c : Dev nD) (i : ℕ) (hi : i < 32) (fd : Vec F S9x64x1024 .f32) :
    ∀ j ∈ (chR (i + 4)).view.set,
      (chR (i + 4)).view.write (Elt F) fd ((chR i).view.read (Elt F) (commR X c)) Finset.univ j = commR X (rt c) j := by
  intro j hj
  obtain ⟨x, -, rfl⟩ := Finset.mem_map.mp hj
  refine (View.write_emb_of_mem _ _ (Finset.mem_univ _)).trans ?_
  show commR X c (emR i x) = commR X _ (emR (i + 4) x)
  unfold commR
  have h0 := chR_emb0 i x
  have h0' := chR_emb0 (i + 4) x
  have e : back (rt c) (emR (i + 4) x 0).val = back c (emR i x 0).val := by
    rw [h0, h0', show (i + 4) / 4 % 9 = i / 4 % 9 + 1 by omega, back_lf _ _ (by omega), lf_rt]
  have e1 : emR (i + 4) x 1 = emR i x 1 := Fin.ext (by rw [chR_emb1, chR_emb1]; omega)
  have e2 : emR (i + 4) x 2 = emR i x 2 := Fin.ext (by rw [chR_emb2, chR_emb2])
  rw [e, e1, e2]

/-- A copy to the left brings the left neighbour's next slot what it is to hold. -/
theorem landL (X : Dev nD → Vec F S64x1024 .f32) (c : Dev nD) (i : ℕ) (hi : i < 28) (fd : Vec F S8x64x1024 .f32) :
    ∀ j ∈ (chL (i + 4)).view.set,
      (chL (i + 4)).view.write (Elt F) fd ((chL i).view.read (Elt F) (commL X c)) Finset.univ j = commL X (lf c) j := by
  intro j hj
  obtain ⟨x, -, rfl⟩ := Finset.mem_map.mp hj
  refine (View.write_emb_of_mem _ _ (Finset.mem_univ _)).trans ?_
  show commL X c (emL i x) = commL X _ (emL (i + 4) x)
  unfold commL
  have h0 := chL_emb0 i x
  have h0' := chL_emb0 (i + 4) x
  have e : ahead (lf c) (emL (i + 4) x 0).val = ahead c (emL i x 0).val := by
    rw [h0, h0', show (i + 4) / 4 % 8 = i / 4 % 8 + 1 by omega, ahead_rt _ _ (by omega), rt_lf]
  have e1 : emL (i + 4) x 1 = emL i x 1 := Fin.ext (by rw [chL_emb1, chL_emb1]; omega)
  have e2 : emL (i + 4) x 2 = emL i x 2 := Fin.ext (by rw [chL_emb2, chL_emb2])
  rw [e, e1, e2]

end Cert.KernelIdeal.Own

end
-- ==== Proof.Ideal.Proto.lean ====
/- What is promised on each semaphore. Every semaphore carries one round. The barrier of a device is
   raised once by each neighbour: the right neighbour then hands over its slots of the ring to the right,
   the left neighbour its slots of the ring to the left, all but the first. A send semaphore brings back
   the half of the chunk that was lent to the copy, a receive semaphore brings the chunk that arrived. -/
module

public import proofs.«01_k».proof.Proof.Ideal.Ring
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.SL.BI.BigOpNat

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.isDefEq.respectTransparency.types false

variable {F : FTy → Type} [FloatOps F]

/-! ## The ghost state -/

/-- The pipeline's part, and this protocol's part. -/
abbrev UP : Type := Rounds.URounds (GSem nD τ sig) Bool
abbrev UU : Type := UR sig nD τ × UP

local notation "𝕄" => MT nD τ sig Unit (Elt F) ℕ UU ℕ

abbrev EP : Emb (UR sig nD τ) (MT nD τ sig Unit (Elt F) ℕ UU ℕ) := embL
abbrev ER : Emb UP (MT nD τ sig Unit (Elt F) ℕ UU ℕ) := embR

/-! ## Semaphores and windows -/

abbrev barS : Sem sig := barrier0
abbrev bar (c : Dev nD) : GSem nD τ sig := ((c : Thread nD τ), .reg barS)
abbrev cell (c : Dev nD) (n : ℕ) : GSem nD τ sig := ((c : Thread nD τ), .dma (semN n))

theorem semN_val (n : ℕ) (h : n < 124) : (semN n).val = n := Nat.mod_eq_of_lt h

/-- What a copy of one chunk counts for. -/
def N : ℕ := (chR 0).view.dmaCredit
theorem N_pos : 0 < N := View.dmaCredit_pos _ (by decide)
theorem credR (k : ℕ) : (chR k).view.dmaCredit = N := rfl
theorem credL (k : ℕ) : (chL k).view.dmaCredit = N := rfl
theorem amount_chR (k n : ℕ) : (chR k).view.amount (.dma (semN n)) = N := rfl
theorem amount_chL (k n : ℕ) : (chL k).view.amount (.dma (semN n)) = N := rfl

/-- Chunk `k` on a device, at a share and contents. -/
def wR (c : Dev nD) (q : PosShare TreeShare) (k : ℕ) (f : Vec F S9x64x1024 .f32) : sProp 𝕄 :=
  (chR k).view.loc (c : Thread nD τ) ↦[(chR k).view.set]{q} f
def wL (c : Dev nD) (q : PosShare TreeShare) (k : ℕ) (f : Vec F S8x64x1024 .f32) : sProp 𝕄 :=
  (chL k).view.loc (c : Thread nD τ) ↦[(chL k).view.set]{q} f

/-- The two halves of a share: one stays, one is lent to a copy. -/
abbrev qk : PosShare TreeShare := fullShare.left
abbrev ql : PosShare TreeShare := fullShare.right

variable (X : Dev nD → Vec F S64x1024 .f32)

/-! ## The payloads -/

/-- The right neighbour's slots of the ring to the right, and that its receive semaphores stand at round 0. -/
def payBR (c : Dev nD) : sProp 𝕄 :=
  bigSep (Finset.Ico 0 32) fun i => iprop((∃ f, wR (F := F) (rt c) fullShare (i + 4) f) ∗ reached ER (cell (rt c) (36 + i)) 0)
/-- The left neighbour's slots of the ring to the left. -/
def payBL (c : Dev nD) : sProp 𝕄 :=
  bigSep (Finset.Ico 0 28) fun i => iprop((∃ f, wL (F := F) (lf c) fullShare (i + 4) f) ∗ reached ER (cell (lf c) (96 + i)) 0)

/-- What DMA semaphore `n` brings. -/
def payD (c : Dev nD) (n : ℕ) : sProp 𝕄 :=
  if n < 36 then wR c ql (n - 4) (commR X c)
  else if n < 68 then wR c fullShare (n - 36 + 4) (commR X c)
  else if n < 96 then wL c ql (n - 68) (commL X c)
  else wL c fullShare (n - 96 + 4) (commL X c)

/-- What a semaphore brings. -/
def payS (c : Dev nD) (s : SemLoc sig) (d : Bool) : sProp 𝕄 :=
  match s with
  | .reg _ => if d then payBR c else payBL c
  | .dma s => payD X c s.val

/-- The duties of a semaphore's one round. -/
def dutS (s : SemLoc sig) : Finset Bool :=
  match s with
  | .reg _ => {true, false}
  | .dma _ => {true}

/-- The units of one duty. -/
def amtS (s : SemLoc sig) : ℕ :=
  match s with
  | .reg _ => 1
  | .dma _ => N

theorem amtS_pos (s : SemLoc sig) : 0 < amtS s := by
  cases s with
  | reg _ => exact Nat.one_pos
  | dma _ => exact N_pos

def Rd : Rounds.Schedule (GSem nD τ sig) Bool 𝕄 where
  duties g r := if r = 0 then dutS g.2 else ∅
  unitless _ := False
  amount g _ _ := amtS g.2
  payload g _ d := payS X g.1.1 g.2 d
  amount_pos g _ _ _ := amtS_pos g.2

instance storableBR (c : Dev nD) : BI.Storable (upEmb : UEmb _ 𝕄) (payBR (F := F) c) := by
  unfold payBR wR; infer_instance
instance storableBL (c : Dev nD) : BI.Storable (upEmb : UEmb _ 𝕄) (payBL (F := F) c) := by
  unfold payBL wL; infer_instance
instance storableD (c : Dev nD) (n : ℕ) : BI.Storable (upEmb : UEmb _ 𝕄) (payD X c n) := by
  unfold payD wR wL
  (repeat' split) <;> infer_instance
instance storableRd (g : GSem nD τ sig) (r : ℕ) (d : Bool) : BI.Storable (upEmb : UEmb _ 𝕄) ((Rd X).payload g r d) := by
  show BI.Storable upEmb (payS X g.1.1 g.2 d)
  unfold payS
  (repeat' split) <;> infer_instance

theorem duties_bar (c : Dev nD) : (Rd X).duties (bar c) 0 = {true, false} := rfl
theorem duties_cell (c : Dev nD) (n : ℕ) : (Rd X).duties (cell c n) 0 = {true} := rfl
theorem duties_later (g : GSem nD τ sig) : ∀ r, 1 ≤ r → (Rd X).duties g r = ∅ :=
  fun r hr => if_neg (by omega)
theorem expect_bar (c : Dev nD) : (Rd X).expect (bar c) 0 = 2 := by
  unfold Schedule.expect Schedule.amountOf
  rw [duties_bar, Finset.sum_pair (by decide)]
  rfl
theorem expect_cell (c : Dev nD) (n : ℕ) : (Rd X).expect (cell c n) 0 = N := by
  unfold Schedule.expect Schedule.amountOf
  rw [duties_cell, Finset.sum_singleton]
  rfl
theorem pay_cell (c : Dev nD) (n : ℕ) (h : n < 124) (d : Bool) : (Rd X).payload (cell c n) 0 d = payD X c n := by
  show payD X c (semN n).val = _
  rw [semN_val n h]
theorem rest_cell (c : Dev nD) (n : ℕ) (h : n < 124) :
    bigSep ((Rd X).duties (cell c n) 0 \ ∅) (fun d => (Rd X).payload (cell c n) 0 d) = payD X c n := by
  rw [Finset.sdiff_empty, duties_cell, bigSep_singleton, pay_cell X c n h]
theorem rest_bar (c : Dev nD) :
    bigSep ((Rd X).duties (bar c) 0 \ ∅) (fun d => (Rd X).payload (bar c) 0 d) = iprop(payBR c ∗ payBL c) := by
  rw [Finset.sdiff_empty, duties_bar, bigSep_insert (by decide), bigSep_singleton]
  rfl

theorem payD_sR (c : Dev nD) (i : ℕ) (h : i < 32) : payD X c (4 + i) = wR c ql i (commR X c) := by
  unfold payD; rw [if_pos (by omega), Nat.add_sub_cancel_left]
theorem payD_rR (c : Dev nD) (i : ℕ) (h : i < 32) : payD X c (36 + i) = wR c fullShare (i + 4) (commR X c) := by
  unfold payD; rw [if_neg (by omega), if_pos (by omega), Nat.add_sub_cancel_left]
theorem payD_sL (c : Dev nD) (i : ℕ) (h : i < 28) : payD X c (68 + i) = wL c ql i (commL X c) := by
  unfold payD; rw [if_neg (by omega), if_neg (by omega), if_pos (by omega), Nat.add_sub_cancel_left]
theorem payD_rL (c : Dev nD) (i : ℕ) (h : i < 28) : payD X c (96 + i) = wL c fullShare (i + 4) (commL X c) := by
  unfold payD; rw [if_neg (by omega), if_neg (by omega), if_neg (by omega), Nat.add_sub_cancel_left]

/-! ## What a device owes, and the levels -/

/-- The copies to the right still to be made, from copy `s` on; the same to the left. -/
def oR (c : Dev nD) (s : ℕ) : CellTallies nD τ sig Unit := ∑ i ∈ Finset.Ico s 32, tallyAt (cell (rt c) (36 + i)) () N
def oL (c : Dev nD) (s : ℕ) : CellTallies nD τ sig Unit := ∑ i ∈ Finset.Ico s 28, tallyAt (cell (lf c) (96 + i)) () N

theorem oR_step (c : Dev nD) (s : ℕ) (h : s < 32) : oR c s = oR c (s + 1) + tallyAt (cell (rt c) (36 + s)) () N := by
  unfold oR
  rw [show Finset.Ico s 32 = insert s (Finset.Ico (s + 1) 32) by ext x; simp only [Finset.mem_Ico, Finset.mem_insert]; omega,
    Finset.sum_insert (by rw [Finset.mem_Ico]; omega), add_comm]
theorem oL_step (c : Dev nD) (s : ℕ) (h : s < 28) : oL c s = oL c (s + 1) + tallyAt (cell (lf c) (96 + s)) () N := by
  unfold oL
  rw [show Finset.Ico s 28 = insert s (Finset.Ico (s + 1) 28) by ext x; simp only [Finset.mem_Ico, Finset.mem_insert]; omega,
    Finset.sum_insert (by rw [Finset.mem_Ico]; omega), add_comm]
theorem oR_end (c : Dev nD) : oR c 32 = 0 := by unfold oR; rw [Finset.Ico_self, Finset.sum_empty]
theorem oL_end (c : Dev nD) : oL c 28 = 0 := by unfold oL; rw [Finset.Ico_self, Finset.sum_empty]

def L (g : GSem nD τ sig) : Finset Unit := if g.1.2 = .tc then {()} else ∅

/-- The barrier at 1; the receive semaphores of hop `h` at `h + 2`; the send semaphores at 0. -/
def lvN (n : ℕ) : ℕ := if n < 36 then 0 else if n < 68 then (n - 36) / 4 + 2 else if n < 96 then 0 else (n - 96) / 4 + 2
def lv (g : GSem nD τ sig) (_ : Unit) : ℕ :=
  match g.2 with
  | .reg _ => 1
  | .dma s => lvN s.val

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (n : ℕ) (h : n < 124) (u : Unit) : lv (cell c n) u = lvN n := by
  show lvN (semN n).val = _
  rw [semN_val n h]

theorem oR_pos (c : Dev nD) (s : ℕ) (g : GSem nD τ sig) (u : Unit) (h : 0 < oR c s g u) :
    ∃ i, s ≤ i ∧ i < 32 ∧ g = cell (rt c) (36 + i) := by
  unfold oR at h
  rw [Finset.sum_apply, Finsupp.finset_sum_apply] at h
  obtain ⟨i, hi, hp⟩ := Finset.exists_ne_zero_of_sum_ne_zero (Nat.pos_iff_ne_zero.mp h)
  rw [tallyAt_apply] at hp
  have := Finset.mem_Ico.mp hi
  refine ⟨i, this.1, this.2, ?_⟩
  by_contra hg
  exact hp (if_neg fun e => hg e.1)
theorem oL_pos (c : Dev nD) (s : ℕ) (g : GSem nD τ sig) (u : Unit) (h : 0 < oL c s g u) :
    ∃ i, s ≤ i ∧ i < 28 ∧ g = cell (lf c) (96 + i) := by
  unfold oL at h
  rw [Finset.sum_apply, Finsupp.finset_sum_apply] at h
  obtain ⟨i, hi, hp⟩ := Finset.exists_ne_zero_of_sum_ne_zero (Nat.pos_iff_ne_zero.mp h)
  rw [tallyAt_apply] at hp
  have := Finset.mem_Ico.mp hi
  refine ⟨i, this.1, this.2, ?_⟩
  by_contra hg
  exact hp (if_neg fun e => hg e.1)

/-- A wait is allowed when every copy still owed is of a later hop. -/
theorem mayWait (c : Dev nD) (sm : SemLoc sig) (n sR sL : ℕ) (hl : lv ((c : Thread nD τ), sm) () ≤ n)
    (hR : ∀ i, sR ≤ i → i < 32 → n < i / 4 + 2) (hL : ∀ i, sL ≤ i → i < 28 → n < i / 4 + 2) :
    (levAts L lv : sProp 𝕄) ⊢ MayWait (c : Thread nD τ) sm () (oR c sR + oL c sL) := by
  have key : ∀ g u, 0 < (oR c sR + oL c sL) g u → (() ∈ L g) ∧ n < lv g u := by
    intro g u hg
    have hg' : 0 < oR c sR g u + oL c sL g u := hg
    rcases Nat.eq_zero_or_pos (oR c sR g u) with h0 | h0
    · rw [h0, Nat.zero_add] at hg'
      obtain ⟨i, h1, h2, rfl⟩ := oL_pos c sL g u hg'
      refine ⟨by rw [L_tc]; exact Finset.mem_singleton_self _, ?_⟩
      rw [lv_cell _ _ (by omega)]
      unfold lvN
      rw [if_neg (by omega), if_neg (by omega), if_neg (by omega), Nat.add_sub_cancel_left]
      exact hL i h1 h2
    · obtain ⟨i, h1, h2, rfl⟩ := oR_pos c sR g u h0
      refine ⟨by rw [L_tc]; exact Finset.mem_singleton_self _, ?_⟩
      rw [lv_cell _ _ (by omega)]
      unfold lvN
      rw [if_neg (by omega), if_pos (by omega), Nat.add_sub_cancel_left]
      exact hR i h1 h2
  exact MayOwe.of_cut (L := L) (lev := lv) n
    (fun p hp => by rw [Finset.mem_singleton.mp hp, L_tc]; exact Finset.mem_singleton_self _)
    (fun g u hg => (key g u hg).1)
    (fun p hp => by rw [Finset.mem_singleton.mp hp]; exact hl)
    (fun g u hg => (key g u hg).2)

theorem mayWaitR (c : Dev nD) (sR sL w : ℕ) (hw : w < 32)
    (hR : ∀ i, sR ≤ i → i < 32 → w / 4 + 2 < i / 4 + 2) (hL : ∀ i, sL ≤ i → i < 28 → w / 4 + 2 < i / 4 + 2) :
    (levAts L lv : sProp 𝕄) ⊢ MayWait (c : Thread nD τ) (.dma (semN (36 + w))) () (oR c sR + oL c sL) := by
  have hl : lv (cell c (36 + w)) () = w / 4 + 2 := by
    rw [lv_cell c (36 + w) (by omega)]
    unfold lvN
    rw [if_neg (by omega), if_pos (by omega), Nat.add_sub_cancel_left]
  exact mayWait c _ _ sR sL (le_of_eq hl) hR hL
theorem mayWaitL (c : Dev nD) (sR sL w : ℕ) (hw : w < 28)
    (hR : ∀ i, sR ≤ i → i < 32 → w / 4 + 2 < i / 4 + 2) (hL : ∀ i, sL ≤ i → i < 28 → w / 4 + 2 < i / 4 + 2) :
    (levAts L lv : sProp 𝕄) ⊢ MayWait (c : Thread nD τ) (.dma (semN (96 + w))) () (oR c sR + oL c sL) := by
  have hl : lv (cell c (96 + w)) () = w / 4 + 2 := by
    rw [lv_cell c (96 + w) (by omega)]
    unfold lvN
    rw [if_neg (by omega), if_neg (by omega), if_neg (by omega), Nat.add_sub_cancel_left]
  exact mayWait c _ _ sR sL (le_of_eq hl) hR hL

/-- The units a device's neighbours wait for it to give: both barriers', and every copy's arrival. -/
def O₀ (c : Dev nD) : CellTallies nD τ sig Unit :=
  oR c 0 + oL c 0 + tallyAt (bar (rt c)) () 1 + tallyAt (bar (lf c)) () 1

end Cert.KernelIdeal.Own

end
-- ==== Proof.Ideal.Copies.lean ====
/- The copies: sending a chunk, waiting for one to arrive, waiting for one to have left. Each is one step
   of a device's standing in a ring of slots, which three counts describe: the copies made, the chunks
   arrived, the copies known to have left. -/
module

public import proofs.«01_k».proof.Proof.Ideal.Proto

@[expose] public section

set_option maxRecDepth 8000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.isDefEq.respectTransparency.types false

variable {F : FTy → Type} [FloatOps F]

local notation "𝕄" => MT nD τ sig Unit (Elt F) ℕ UU ℕ

variable (X : Dev nD → Vec F S64x1024 .f32)

abbrev 𝒱₀ : Variants := Variants.none

/-- A device's barrier and its DMA semaphores. -/
def barCells : Finset (GSem nD τ sig) := Finset.univ.map ⟨fun c : Dev nD => bar c, fun a b h => congrArg (fun g : GSem nD τ sig => g.1.1) h⟩

theorem cell_inj : Function.Injective (fun p : Dev nD × Fin 120 => cell p.1 (4 + p.2.val)) := by
  intro p p' h
  have h1 : p.1 = p'.1 := congrArg (fun g : GSem nD τ sig => g.1.1) h
  have h2 : (SemLoc.dma (semN (4 + p.2.val)) : SemLoc sig) = .dma (semN (4 + p'.2.val)) := congrArg (fun g : GSem nD τ sig => g.2) h
  have h3 : semN (4 + p.2.val) = semN (4 + p'.2.val) := by injection h2
  have h4 := congrArg Fin.val h3
  rw [semN_val _ (by omega), semN_val _ (by omega)] at h4
  exact Prod.ext h1 (Fin.ext (by omega))

def dmaCells : Finset (GSem nD τ sig) := Finset.univ.map ⟨fun p : Dev nD × Fin 120 => cell p.1 (4 + p.2.val), cell_inj⟩

theorem mem_bar (c : Dev nD) : bar c ∈ barCells ∪ dmaCells :=
  Finset.mem_union_left _ (Finset.mem_map.mpr ⟨c, Finset.mem_univ _, rfl⟩)
theorem mem_cell (c : Dev nD) (n : ℕ) (h : 4 ≤ n) (h' : n < 124) : cell c n ∈ barCells ∪ dmaCells := by
  refine Finset.mem_union_right _ (Finset.mem_map.mpr ⟨(c, ⟨n - 4, by omega⟩), Finset.mem_univ _, ?_⟩)
  show cell c (4 + (n - 4)) = cell c n
  rw [show 4 + (n - 4) = n by omega]

/-! ## What stays known throughout -/

/-- Every semaphore's promise, that a device's own DMA semaphores and its neighbours' receive semaphores have
    been opened, and the levels. -/
def pers (K : GSem nD τ sig → ℕ) (c : Dev nD) : sProp 𝕄 :=
  iprop((bigSep (barCells ∪ dmaCells) fun g => cellInv ER (Rd X) (K g) g)
    ∗ (bigSep (Finset.Ico 4 124) fun n => reached ER (cell c n) 0)
    ∗ (bigSep (Finset.Ico 0 32) fun i => reached ER (cell (rt c) (36 + i)) 0)
    ∗ (bigSep (Finset.Ico 0 28) fun i => reached ER (cell (lf c) (96 + i)) 0)
    ∗ (levAts L lv : sProp 𝕄))

instance pers_persistent (K : GSem nD τ sig → ℕ) (c : Dev nD) : BI.Persistent (pers X K c) := by unfold pers; infer_instance

theorem bigSep_at {I : Type} [DecidableEq I] {s : Finset I} {i : I} (hi : i ∈ s) (Φ : I → sProp 𝕄) : bigSep s Φ ⊢ Φ i := bigSep_elim hi

theorem pers_inv (K : GSem nD τ sig → ℕ) (c : Dev nD) (g : GSem nD τ sig) (hg : g ∈ barCells ∪ dmaCells) :
    pers X K c ⊢ cellInv ER (Rd X) (K g) g := by
  unfold pers
  iintro ⟨H, -, -, -, -⟩
  iapply (bigSep_at hg (fun g => cellInv ER (Rd X) (K g) g))
  iexact H
theorem pers_own (K : GSem nD τ sig → ℕ) (c : Dev nD) (n : ℕ) (h : 4 ≤ n) (h' : n < 124) :
    pers X K c ⊢ reached ER (cell c n) 0 := by
  unfold pers
  iintro ⟨-, H, -, -, -⟩
  iapply (bigSep_at (Finset.mem_Ico.mpr ⟨h, h'⟩) (fun n => reached ER (cell c n) 0))
  iexact H
theorem pers_rt (K : GSem nD τ sig → ℕ) (c : Dev nD) (i : ℕ) (h : i < 32) :
    pers X K c ⊢ reached ER (cell (rt c) (36 + i)) 0 := by
  unfold pers
  iintro ⟨-, -, H, -, -⟩
  iapply (bigSep_at (Finset.mem_Ico.mpr ⟨Nat.zero_le i, h⟩) (fun i => reached ER (cell (rt c) (36 + i)) 0))
  iexact H
theorem pers_lf (K : GSem nD τ sig → ℕ) (c : Dev nD) (i : ℕ) (h : i < 28) :
    pers X K c ⊢ reached ER (cell (lf c) (96 + i)) 0 := by
  unfold pers
  iintro ⟨-, -, -, H, -⟩
  iapply (bigSep_at (Finset.mem_Ico.mpr ⟨Nat.zero_le i, h⟩) (fun i => reached ER (cell (lf c) (96 + i)) 0))
  iexact H
theorem pers_lev (K : GSem nD τ sig → ℕ) (c : Dev nD) : pers X K c ⊢ (levAts L lv : sProp 𝕄) := by
  unfold pers
  iintro ⟨-, -, -, -, H⟩
  iexact H

theorem close (κ : ℕ) (g : GSem nD τ sig) :
    iprop(cellInv ER (Rd X) κ g ∗ atPos ER g (0 + 1) ∅ 0) ⊢ (|={Set.univ}=> semVal g 0 : sProp 𝕄) :=
  Rounds.cell_close ER (Rd X) (Set.mem_univ κ) id (duties_later X g)

/-- What the device owes after the counts' copies. -/
def owing (c : Dev nD) (sR sL : ℕ) : sProp 𝕄 := iprop(∃ W, owes (c : Thread nD τ) (oR c sR + oL c sL) W)

theorem wR_halves (c : Dev nD) (k : ℕ) (f : Vec F S9x64x1024 .f32) :
    wR c fullShare k f = (iprop(wR c qk k f ∗ wR c ql k f) : sProp 𝕄) := by
  have h : (wR c fullShare k f : sProp 𝕄) ⊣⊢ iprop(wR c qk k f ∗ wR c ql k f) :=
    pointsTo_share (PosShare.mem_left_op_right fullShare)
  exact BI.equiv_iff.mp ⟨h.1, h.2⟩
theorem wL_halves (c : Dev nD) (k : ℕ) (f : Vec F S8x64x1024 .f32) :
    wL c fullShare k f = (iprop(wL c qk k f ∗ wL c ql k f) : sProp 𝕄) := by
  have h : (wL c fullShare k f : sProp 𝕄) ⊣⊢ iprop(wL c qk k f ∗ wL c ql k f) :=
    pointsTo_share (PosShare.mem_left_op_right fullShare)
  exact BI.equiv_iff.mp ⟨h.1, h.2⟩

/-! ## The ring to the right -/

/-- The copies not made yet: what pays for each, and where it goes. -/
def todoR (c : Dev nD) (i : ℕ) : sProp 𝕄 :=
  iprop(dutyTok ER (cell c (4 + i)) 0 true ∗ dutyTok ER (cell (rt c) (36 + i)) 0 true ∗ ∃ f, wR (F := F) (rt c) fullShare (i + 4) f)

/-- A device's standing after `s` copies to the right, `w` arrivals and `e` copies known to have left. -/
def stR (c : Dev nD) (s w e : ℕ) : sProp 𝕄 :=
  iprop((bigSep (Finset.Ico s 32) fun i => todoR c i)
    ∗ (bigSep (Finset.Ico e s) fun i => cred (tallyAt (cell c (4 + i)) () N))
    ∗ (bigSep (Finset.Ico e 32) fun i => atPos ER (cell c (4 + i)) 0 ∅ 0)
    ∗ (bigSep (Finset.Ico 0 e) fun i => iprop(semVal (cell c (4 + i)) 0 ∗ wR c ql i (commR X c)))
    ∗ (bigSep (Finset.Ico w 32) fun i => iprop(atPos ER (cell c (36 + i)) 0 ∅ 0 ∗ cred (tallyAt (cell c (36 + i)) () N)))
    ∗ (bigSep (Finset.Ico 0 w) fun i => semVal (cell c (36 + i)) 0)
    ∗ (bigSep (Finset.Ico 0 (w + 4)) fun k => wR c qk k (commR X c))
    ∗ (bigSep (Finset.Ico s (w + 4)) fun k => wR c ql k (commR X c)))

/-- A copy to the right, its destination named. -/
theorem run_sendR (d0 d : Dev nD) (v3 v4 : BitVec 32) (hw1 : k0_chk1 v3) (hw2 : k0_chk2 v4) (i : ℕ) (p : Body F) (h : toR v4 hw2 = d) :
    Step.run d0 v3 hw1 v4 hw2 (.sendR i) p
      = .op (.enqueueDma (chR i) (.remote (Dev.tc d) (chR (i + 4)) (.dma (semN (4 + i)))) (.dma (semN (36 + i))) (chR_word i) (chR_word (i + 4)) ⟨⟨rfl, Or.inl rfl⟩, trivial⟩) fun _ => p := by
  subst h; rfl

section Right

variable (K : GSem nD τ sig → ℕ) (c : Dev nD) (v3 : BitVec 32) (hw1 : k0_chk1 v3) (hw2 : k0_chk2 (word (rt c)))
variable (p : Body F) (Q : PUnit.{1} → sProp (MT nD τ sig Unit (Elt F) ℕ UU ℕ))

theorem sendR_run (s w e l : ℕ) (hs : s < 32) (he : e ≤ s) (hw : s < w + 4) :
    iprop(pers X K c ∗ stR X c s w e ∗ owing c s l)
      ⊢ iprop((iprop(stR X c (s + 1) w e ∗ owing c (s + 1) l) -∗ wp frame (wpE (defs₀ (F := F)) 𝒱₀ c none) Set.univ p Q)
        -∗ wp frame (wpE (defs₀ (F := F)) 𝒱₀ c none) Set.univ (Step.run c v3 hw1 (word (rt c)) hw2 (.sendR s) p) Q) := by
  unfold stR owing
  rw [bigSep_Ico_succ_bot hs, bigSep_Ico_succ_bot hw, bigSep_Ico_succ_top he]
  iintro ⟨#HP, ⟨⟨Ht, H1⟩, H2, H3, H4, H5, H6, H7, ⟨Hsrc, H8⟩⟩, ⟨%W, HO⟩⟩ Hk
  unfold todoR
  icases Ht with ⟨HtS, HtN, %fd, Hdst⟩
  rw [run_sendR c (rt c) v3 (word (rt c)) hw1 hw2 s p (toR_word (rt c) hw2)]
  unfold wR
  iapply (Rounds.wp_send_pointsTo 𝒱₀ ER (Rd X) (c : Thread nD τ) none (c' := (rt c : Thread nD τ)) (src := chR s) (dst := chR (s + 4))
      (sS := .dma (semN (4 + s))) (sem := .dma (semN (36 + s))) (q := ql) (fs := commR X c)
      (κ₁ := K (cell c (4 + s))) (κ₂ := K (cell (rt c) (36 + s)))
      (r₁ := 0) (r₂ := 0) (d₁ := true) (d₂ := true) (fd := fd)
      (by rw [duties_cell]; exact Finset.mem_singleton_self _) (by rw [duties_cell]; exact Finset.mem_singleton_self _)
      () () N rfl rfl rfl (oR c (s + 1) + oL c l) (O₀ := oR c s + oL c l) (by rw [oR_step c s hs, add_right_comm]) (W := W)
      (by rw [pay_cell X c (4 + s) (by omega), payD_sR X c s hs]; exact BI.Entails.refl _)
      (by rw [pay_cell X (rt c) (36 + s) (by omega), payD_rR X (rt c) s hs]; unfold wR; rw [pointsTo_congr (landR X c s hs fd)])) $$ [Hsrc Hdst HO HtS HtN]
  · isplitr; · iapply (pers_inv X K c _ (mem_cell c (4 + s) (by omega) (by omega))); iexact HP
    isplitr; · iapply (pers_inv X K c _ (mem_cell (rt c) (36 + s) (by omega) (by omega))); iexact HP
    isplitl [Hsrc]; · iexact Hsrc
    isplitl [Hdst]; · iexact Hdst
    isplitl [HO]; · iexact HO
    isplitl [HtS]; · iexact HtS
    isplitr; · iapply (pers_own X K c (4 + s) (by omega) (by omega)); iexact HP
    isplitl [HtN]; · iexact HtN
    iapply (pers_rt X K c s hs); iexact HP
  iintro ⟨Hc, HO⟩
  iapply Hk
  isplitr [HO]
  · isplitl [H1]; · iexact H1
    isplitl [Hc H2]
    · isplitl [Hc]; · iexact Hc
      iexact H2
    isplitl [H3]; · iexact H3
    isplitl [H4]; · iexact H4
    isplitl [H5]; · iexact H5
    isplitl [H6]; · iexact H6
    isplitl [H7]; · iexact H7
    iexact H8
  · iexists W; iexact HO

theorem waitR_run (s w e l : ℕ) (hw : w < 32) (hs : s ≤ w + 4)
    (hR : ∀ i, s ≤ i → i < 32 → w / 4 + 2 < i / 4 + 2) (hL : ∀ i, l ≤ i → i < 28 → w / 4 + 2 < i / 4 + 2) :
    iprop(pers X K c ∗ stR X c s w e ∗ owing c s l)
      ⊢ iprop((iprop(stR X c s (w + 1) e ∗ owing c s l) -∗ wp frame (wpE (defs₀ (F := F)) 𝒱₀ c none) Set.univ p Q)
        -∗ wp frame (wpE (defs₀ (F := F)) 𝒱₀ c none) Set.univ (Step.run c v3 hw1 (word (rt c)) hw2 (.waitR w) p) Q) := by
  unfold stR owing
  rw [bigSep_Ico_succ_bot hw, bigSep_Ico_succ_top (Nat.zero_le w), show w + 1 + 4 = (w + 4) + 1 by omega,
    bigSep_Ico_succ_top (Nat.zero_le (w + 4)), bigSep_Ico_succ_top hs]
  iintro ⟨#HP, ⟨H1, H2, H3, H4, ⟨⟨Ha, Hc⟩, H5⟩, H6, H7, H8⟩, ⟨%W, HO⟩⟩ Hk
  dsimp only [Step.run]
  iapply (Rounds.wp_wait_rest_token 𝒱₀ ER (Rd X) (c : Thread nD τ) none (κ := K (cell c (36 + w)))
      (wpE_waitDma2_eq (src := chR w) (dst := chR (w + 4)) 𝒱₀ (c : Thread nD τ) none Set.univ) (Set.mem_univ _) () (O := oR c s + oL c l) (W := W) (R := 0) (m := 0) (T := ∅)
      ((Nat.zero_add _).trans ((credR (w + 4)).trans (expect_cell X c (36 + w)).symm))) $$ [Hc HO Ha]
  · isplitr; · iapply (pers_inv X K c _ (mem_cell c (36 + w) (by omega) (by omega))); iexact HP
    isplitl [Hc]; · iexact Hc
    isplitl [HO]; · iexact HO
    isplitr
    · iapply (mayWaitR (F := F) c s l w hw hR hL)
      iapply (pers_lev X K c); iexact HP
    iexact Ha
  iintro ⟨HO, Ha, -, Hpay⟩
  ihave Hw := (Entails.of_eq ((rest_cell X c (36 + w) (by omega)).trans ((payD_rR X c w hw).trans (wR_halves c (w + 4) (commR X c))))) $$ Hpay
  icases Hw with ⟨Hwk, Hwl⟩
  imod (close X (K (cell c (36 + w))) (cell c (36 + w))) $$ [Ha] with Hv
  · isplitr; · iapply (pers_inv X K c _ (mem_cell c (36 + w) (by omega) (by omega))); iexact HP
    iexact Ha
  iapply Hk
  isplitr [HO]
  · isplitl [H1]; · iexact H1
    isplitl [H2]; · iexact H2
    isplitl [H3]; · iexact H3
    isplitl [H4]; · iexact H4
    isplitl [H5]; · iexact H5
    isplitl [Hv H6]
    · isplitl [Hv]; · iexact Hv
      iexact H6
    isplitl [Hwk H7]
    · isplitl [Hwk]; · iexact Hwk
      iexact H7
    isplitl [Hwl]; · iexact Hwl
    iexact H8
  · iexists _; iexact HO

theorem doneR_run (w e : ℕ) (he : e < 32) :
    iprop(pers X K c ∗ stR X c 32 w e ∗ owing c 32 28)
      ⊢ iprop((iprop(stR X c 32 w (e + 1) ∗ owing c 32 28) -∗ wp frame (wpE (defs₀ (F := F)) 𝒱₀ c none) Set.univ p Q)
        -∗ wp frame (wpE (defs₀ (F := F)) 𝒱₀ c none) Set.univ (Step.run c v3 hw1 (word (rt c)) hw2 (.doneR e) p) Q) := by
  unfold stR owing
  rw [bigSep_Ico_succ_bot he, bigSep_Ico_succ_bot he, bigSep_Ico_succ_top (Nat.zero_le e), oR_end, oL_end, add_zero]
  iintro ⟨#HP, ⟨H1, ⟨Hc, H2⟩, ⟨Ha, H3⟩, H4, H5, H6, H7, H8⟩, ⟨%W, HO⟩⟩ Hk
  dsimp only [Step.run]
  iapply (Rounds.wp_wait_rest_token 𝒱₀ ER (Rd X) (c : Thread nD τ) none (κ := K (cell c (4 + e)))
      (wpE_waitDma2_eq (src := chR (e + 4)) (dst := chR e) 𝒱₀ (c : Thread nD τ) none Set.univ) (Set.mem_univ _) () (O := 0) (W := W) (R := 0) (m := 0) (T := ∅)
      ((Nat.zero_add _).trans ((credR e).trans (expect_cell X c (4 + e)).symm))) $$ [Hc HO Ha]
  · isplitr; · iapply (pers_inv X K c _ (mem_cell c (4 + e) (by omega) (by omega))); iexact HP
    isplitl [Hc]; · iexact Hc
    isplitl [HO]; · iexact HO
    isplitr; · rw [MayWait_zero]; iempintro
    iexact Ha
  iintro ⟨HO, Ha, -, Hpay⟩
  ihave Hw := (Entails.of_eq ((rest_cell X c (4 + e) (by omega)).trans (payD_sR X c e he))) $$ Hpay
  imod (close X (K (cell c (4 + e))) (cell c (4 + e))) $$ [Ha] with Hv
  · isplitr; · iapply (pers_inv X K c _ (mem_cell c (4 + e) (by omega) (by omega))); iexact HP
    iexact Ha
  iapply Hk
  isplitr [HO]
  · isplitl [H1]; · iexact H1
    isplitl [H2]; · iexact H2
    isplitl [H3]; · iexact H3
    isplitl [Hv Hw H4]
    · isplitl [Hv Hw]
      · isplitl [Hv]; · iexact Hv
        iexact Hw
      iexact H4
    isplitl [H5]; · iexact H5
    isplitl [H6]; · iexact H6
    isplitl [H7]; · iexact H7
    iexact H8
  · iexists _; iexact HO

end Right

/-! ## The ring to the left -/

/-- The copies not made yet: what pays for each, and where it goes. -/
def todoL (c : Dev nD) (i : ℕ) : sProp 𝕄 :=
  iprop(dutyTok ER (cell c (68 + i)) 0 true ∗ dutyTok ER (cell (lf c) (96 + i)) 0 true ∗ ∃ f, wL (F := F) (lf c) fullShare (i + 4) f)

/-- A device's standing after `s` copies to the left, `w` arrivals and `e` copies known to have left. -/
def stL (c : Dev nD) (s w e : ℕ) : sProp 𝕄 :=
  iprop((bigSep (Finset.Ico s 28) fun i => todoL c i)
    ∗ (bigSep (Finset.Ico e s) fun i => cred (tallyAt (cell c (68 + i)) () N))
    ∗ (bigSep (Finset.Ico e 28) fun i => atPos ER (cell c (68 + i)) 0 ∅ 0)
    ∗ (bigSep (Finset.Ico 0 e) fun i => iprop(semVal (cell c (68 + i)) 0 ∗ wL c ql i (commL X c)))
    ∗ (bigSep (Finset.Ico w 28) fun i => iprop(atPos ER (cell c (96 + i)) 0 ∅ 0 ∗ cred (tallyAt (cell c (96 + i)) () N)))
    ∗ (bigSep (Finset.Ico 0 w) fun i => semVal (cell c (96 + i)) 0)
    ∗ (bigSep (Finset.Ico 0 (w + 4)) fun k => wL c qk k (commL X c))
    ∗ (bigSep (Finset.Ico s (w + 4)) fun k => wL c ql k (commL X c)))

/-- A copy to the left, its destination named. -/
theorem run_sendL (d0 d : Dev nD) (v3 v4 : BitVec 32) (hw1 : k0_chk1 v3) (hw2 : k0_chk2 v4) (i : ℕ) (p : Body F) (h : toL v3 hw1 = d) :
    Step.run d0 v3 hw1 v4 hw2 (.sendL i) p
      = .op (.enqueueDma (chL i) (.remote (Dev.tc d) (chL (i + 4)) (.dma (semN (68 + i)))) (.dma (semN (96 + i))) (chL_word i) (chL_word (i + 4)) ⟨⟨rfl, Or.inl rfl⟩, trivial⟩) fun _ => p := by
  subst h; rfl

section Left

variable (K : GSem nD τ sig → ℕ) (c : Dev nD) (v4 : BitVec 32) (hw1 : k0_chk1 (word (lf c))) (hw2 : k0_chk2 v4)
variable (p : Body F) (Q : PUnit.{1} → sProp (MT nD τ sig Unit (Elt F) ℕ UU ℕ))

theorem sendL_run (s w e l : ℕ) (hs : s < 28) (he : e ≤ s) (hw : s < w + 4) :
    iprop(pers X K c ∗ stL X c s w e ∗ owing c l s)
      ⊢ iprop((iprop(stL X c (s + 1) w e ∗ owing c l (s + 1)) -∗ wp frame (wpE (defs₀ (F := F)) 𝒱₀ c none) Set.univ p Q)
        -∗ wp frame (wpE (defs₀ (F := F)) 𝒱₀ c none) Set.univ (Step.run c (word (lf c)) hw1 v4 hw2 (.sendL s) p) Q) := by
  unfold stL owing
  rw [bigSep_Ico_succ_bot hs, bigSep_Ico_succ_bot hw, bigSep_Ico_succ_top he]
  iintro ⟨#HP, ⟨⟨Ht, H1⟩, H2, H3, H4, H5, H6, H7, ⟨Hsrc, H8⟩⟩, ⟨%W, HO⟩⟩ Hk
  unfold todoL
  icases Ht with ⟨HtS, HtN, %fd, Hdst⟩
  rw [run_sendL c (lf c) (word (lf c)) v4 hw1 hw2 s p (toL_word (lf c) hw1)]
  unfold wL
  iapply (Rounds.wp_send_pointsTo 𝒱₀ ER (Rd X) (c : Thread nD τ) none (c' := (lf c : Thread nD τ)) (src := chL s) (dst := chL (s + 4))
      (sS := .dma (semN (68 + s))) (sem := .dma (semN (96 + s))) (q := ql) (fs := commL X c)
      (κ₁ := K (cell c (68 + s))) (κ₂ := K (cell (lf c) (96 + s)))
      (r₁ := 0) (r₂ := 0) (d₁ := true) (d₂ := true) (fd := fd)
      (by rw [duties_cell]; exact Finset.mem_singleton_self _) (by rw [duties_cell]; exact Finset.mem_singleton_self _)
      () () N rfl rfl rfl (oR c l + oL c (s + 1)) (O₀ := oR c l + oL c s) (by rw [oL_step c s hs, ← add_assoc]) (W := W)
      (by rw [pay_cell X c (68 + s) (by omega), payD_sL X c s hs]; exact BI.Entails.refl _)
      (by rw [pay_cell X (lf c) (96 + s) (by omega), payD_rL X (lf c) s hs]; unfold wL; rw [pointsTo_congr (landL X c s hs fd)])) $$ [Hsrc Hdst HO HtS HtN]
  · isplitr; · iapply (pers_inv X K c _ (mem_cell c (68 + s) (by omega) (by omega))); iexact HP
    isplitr; · iapply (pers_inv X K c _ (mem_cell (lf c) (96 + s) (by omega) (by omega))); iexact HP
    isplitl [Hsrc]; · iexact Hsrc
    isplitl [Hdst]; · iexact Hdst
    isplitl [HO]; · iexact HO
    isplitl [HtS]; · iexact HtS
    isplitr; · iapply (pers_own X K c (68 + s) (by omega) (by omega)); iexact HP
    isplitl [HtN]; · iexact HtN
    iapply (pers_lf X K c s hs); iexact HP
  iintro ⟨Hc, HO⟩
  iapply Hk
  isplitr [HO]
  · isplitl [H1]; · iexact H1
    isplitl [Hc H2]
    · isplitl [Hc]; · iexact Hc
      iexact H2
    isplitl [H3]; · iexact H3
    isplitl [H4]; · iexact H4
    isplitl [H5]; · iexact H5
    isplitl [H6]; · iexact H6
    isplitl [H7]; · iexact H7
    iexact H8
  · iexists W; iexact HO

theorem waitL_run (s w e l : ℕ) (hw : w < 28) (hs : s ≤ w + 4)
    (hR : ∀ i, s ≤ i → i < 28 → w / 4 + 2 < i / 4 + 2) (hL : ∀ i, l ≤ i → i < 32 → w / 4 + 2 < i / 4 + 2) :
    iprop(pers X K c ∗ stL X c s w e ∗ owing c l s)
      ⊢ iprop((iprop(stL X c s (w + 1) e ∗ owing c l s) -∗ wp frame (wpE (defs₀ (F := F)) 𝒱₀ c none) Set.univ p Q)
        -∗ wp frame (wpE (defs₀ (F := F)) 𝒱₀ c none) Set.univ (Step.run c (word (lf c)) hw1 v4 hw2 (.waitL w) p) Q) := by
  unfold stL owing
  rw [bigSep_Ico_succ_bot hw, bigSep_Ico_succ_top (Nat.zero_le w), show w + 1 + 4 = (w + 4) + 1 by omega,
    bigSep_Ico_succ_top (Nat.zero_le (w + 4)), bigSep_Ico_succ_top hs]
  iintro ⟨#HP, ⟨H1, H2, H3, H4, ⟨⟨Ha, Hc⟩, H5⟩, H6, H7, H8⟩, ⟨%W, HO⟩⟩ Hk
  dsimp only [Step.run]
  iapply (Rounds.wp_wait_rest_token 𝒱₀ ER (Rd X) (c : Thread nD τ) none (κ := K (cell c (96 + w)))
      (wpE_waitDma2_eq (src := chL w) (dst := chL (w + 4)) 𝒱₀ (c : Thread nD τ) none Set.univ) (Set.mem_univ _) () (O := oR c l + oL c s) (W := W) (R := 0) (m := 0) (T := ∅)
      ((Nat.zero_add _).trans ((credL (w + 4)).trans (expect_cell X c (96 + w)).symm))) $$ [Hc HO Ha]
  · isplitr; · iapply (pers_inv X K c _ (mem_cell c (96 + w) (by omega) (by omega))); iexact HP
    isplitl [Hc]; · iexact Hc
    isplitl [HO]; · iexact HO
    isplitr
    · iapply (mayWaitL (F := F) c l s w hw hL hR)
      iapply (pers_lev X K c); iexact HP
    iexact Ha
  iintro ⟨HO, Ha, -, Hpay⟩
  ihave Hw := (Entails.of_eq ((rest_cell X c (96 + w) (by omega)).trans ((payD_rL X c w hw).trans (wL_halves c (w + 4) (commL X c))))) $$ Hpay
  icases Hw with ⟨Hwk, Hwl⟩
  imod (close X (K (cell c (96 + w))) (cell c (96 + w))) $$ [Ha] with Hv
  · isplitr; · iapply (pers_inv X K c _ (mem_cell c (96 + w) (by omega) (by omega))); iexact HP
    iexact Ha
  iapply Hk
  isplitr [HO]
  · isplitl [H1]; · iexact H1
    isplitl [H2]; · iexact H2
    isplitl [H3]; · iexact H3
    isplitl [H4]; · iexact H4
    isplitl [H5]; · iexact H5
    isplitl [Hv H6]
    · isplitl [Hv]; · iexact Hv
      iexact H6
    isplitl [Hwk H7]
    · isplitl [Hwk]; · iexact Hwk
      iexact H7
    isplitl [Hwl]; · iexact Hwl
    iexact H8
  · iexists _; iexact HO

theorem doneL_run (w e : ℕ) (he : e < 28) :
    iprop(pers X K c ∗ stL X c 28 w e ∗ owing c 32 28)
      ⊢ iprop((iprop(stL X c 28 w (e + 1) ∗ owing c 32 28) -∗ wp frame (wpE (defs₀ (F := F)) 𝒱₀ c none) Set.univ p Q)
        -∗ wp frame (wpE (defs₀ (F := F)) 𝒱₀ c none) Set.univ (Step.run c (word (lf c)) hw1 v4 hw2 (.doneL e) p) Q) := by
  unfold stL owing
  rw [bigSep_Ico_succ_bot he, bigSep_Ico_succ_bot he, bigSep_Ico_succ_top (Nat.zero_le e), oR_end, oL_end, add_zero]
  iintro ⟨#HP, ⟨H1, ⟨Hc, H2⟩, ⟨Ha, H3⟩, H4, H5, H6, H7, H8⟩, ⟨%W, HO⟩⟩ Hk
  dsimp only [Step.run]
  iapply (Rounds.wp_wait_rest_token 𝒱₀ ER (Rd X) (c : Thread nD τ) none (κ := K (cell c (68 + e)))
      (wpE_waitDma2_eq (src := chL (e + 4)) (dst := chL e) 𝒱₀ (c : Thread nD τ) none Set.univ) (Set.mem_univ _) () (O := 0) (W := W) (R := 0) (m := 0) (T := ∅)
      ((Nat.zero_add _).trans ((credL e).trans (expect_cell X c (68 + e)).symm))) $$ [Hc HO Ha]
  · isplitr; · iapply (pers_inv X K c _ (mem_cell c (68 + e) (by omega) (by omega))); iexact HP
    isplitl [Hc]; · iexact Hc
    isplitl [HO]; · iexact HO
    isplitr; · rw [MayWait_zero]; iempintro
    iexact Ha
  iintro ⟨HO, Ha, -, Hpay⟩
  ihave Hw := (Entails.of_eq ((rest_cell X c (68 + e) (by omega)).trans (payD_sL X c e he))) $$ Hpay
  imod (close X (K (cell c (68 + e))) (cell c (68 + e))) $$ [Ha] with Hv
  · isplitr; · iapply (pers_inv X K c _ (mem_cell c (68 + e) (by omega) (by omega))); iexact HP
    iexact Ha
  iapply Hk
  isplitr [HO]
  · isplitl [H1]; · iexact H1
    isplitl [H2]; · iexact H2
    isplitl [H3]; · iexact H3
    isplitl [Hv Hw H4]
    · isplitl [Hv Hw]
      · isplitl [Hv]; · iexact Hv
        iexact Hw
      iexact H4
    isplitl [H5]; · iexact H5
    isplitl [H6]; · iexact H6
    isplitl [H7]; · iexact H7
    iexact H8
  · iexists _; iexact HO

end Left

end Cert.KernelIdeal.Own

end
-- ==== Proof.Ideal.Reads.lean ====
/- What the body's loads read and what its stores leave: the table's words, a slot's rows, a block of the
   result. -/
module

public import proofs.«01_k».proof.Proof.Ideal.Ring
public import Idealize.ShloMosaic.Lib.Pipeline.Value

@[expose] public section

noncomputable section

namespace Cert.KernelIdeal.Own

open Idealize.ShloMosaic Idealize.ShloMosaic.TcCoe
open Idealize.SL Idealize.SL.Sem
open Cert.KernelIdeal.Gen
open Idealize.ShloMosaic.ValueIdx

set_option backward.isDefEq.respectTransparency.types false

variable {F : FTy → Type} [FloatOps F]
variable (X : Dev nD → Vec F S64x1024 .f32)

/-- The table's words on a device. -/
def tabV (F : FTy → Type) [FloatOps F] (c : Dev nD) : Vec F S17 .i32 := fun i => word (tabAt c (i 0).val)

theorem read_tab (c : Dev nD) (j : ℕ) (hj : j < 17) (inb : ∀ a, (![j] : Fin 1 → Nat) a + S1.size a ≤ S17.size a) (x) :
    (A0.access (Rect.unit (s := S17) ![j] S1.size inb)).read (Elt F) (tabV F c) x = word (tabAt c j) := by
  show tabV F c ((Rect.unit (s := S17) ![j] S1.size inb).emb x) = _
  unfold tabV
  have h0 : (x 0).val = 0 := by have h : (x 0).val < 1 := (x 0).isLt; omega
  have h : (((Rect.unit (s := S17) ![j] S1.size inb).emb x) 0).val = j := by
    rw [ValueKit.rect_emb_unit_val, h0]; rfl
  rw [h]

theorem read_A1 (f : Vec F S64x1024 .f32) (inb : ∀ a, (![0, 0] : Fin 2 → Nat) a + S64x1024.size a ≤ S64x1024.size a) :
    (A1.access (Rect.unit (s := S64x1024) ![0, 0] S64x1024.size inb)).read (Elt F) f = f := by
  funext x
  show f ((Rect.unit (s := S64x1024) ![0, 0] S64x1024.size inb).emb x) = f x
  congr 1
  funext a
  refine Fin.ext ?_
  rw [ValueKit.rect_emb_unit_val]
  match a with
  | ⟨0, _⟩ => exact Nat.zero_add _
  | ⟨1, _⟩ => exact Nat.zero_add _

theorem read_A2 (f : Vec F S1024x64 .f32) (inb : ∀ a, (![0, 0] : Fin 2 → Nat) a + S1024x64.size a ≤ S1024x64.size a) :
    (A2.access (Rect.unit (s := S1024x64) ![0, 0] S1024x64.size inb)).read (Elt F) f = f := by
  funext x
  show f ((Rect.unit (s := S1024x64) ![0, 0] S1024x64.size inb).emb x) = f x
  congr 1
  funext a
  refine Fin.ext ?_
  rw [ValueKit.rect_emb_unit_val]
  match a with
  | ⟨0, _⟩ => exact Nat.zero_add _
  | ⟨1, _⟩ => exact Nat.zero_add _

/-- What the block of a slot's rows is, the slot read as one block of rows. -/
theorem pay5_of (x : Vec F S64x1024 .f32) (a : Vec F S1x64x1024 .f32) (w : Vec F S1024x64 .f32)
    (h : ∀ i : S64x1024.Idx, a (Fin.cons ⟨0, Nat.one_pos⟩ i) = x i) : k0_pay5 a w = blk x w := by
  have e : shapeCast S64x1024 a shapeCasts_S1x64x1024_S64x1024 = k0_pay3 x := by
    unfold k0_pay3
    rw [shapeCast_self]
    funext i
    exact (shapeCast_dropUnit_apply S64x1024.size a shapeCasts_S1x64x1024_S64x1024 i).trans (h i)
  show k0_pay4 (shapeCast S64x1024 a shapeCasts_S1x64x1024_S64x1024) w = _
  rw [e]
  rfl

theorem read_slR (c : Dev nD) (h : ℕ) (hh : h < 8) (w : Vec F S1024x64 .f32) :
    k0_pay5 ((A4.access (Rect.unit (s := S9x64x1024) ![(h + 1) % 9, 0, 0] S1x64x1024.size (inbSlR h))).read (Elt F) (commR X c)) w
      = blk (X (back c (h + 1))) w := by
  refine pay5_of _ _ _ fun i => ?_
  show commR X c ((Rect.unit (s := S9x64x1024) ![(h + 1) % 9, 0, 0] S1x64x1024.size (inbSlR h)).emb (Fin.cons ⟨0, Nat.one_pos⟩ i)) = _
  have e0 : (((Rect.unit (s := S9x64x1024) ![(h + 1) % 9, 0, 0] S1x64x1024.size (inbSlR h)).emb (Fin.cons ⟨0, Nat.one_pos⟩ i)) 0).val = h + 1 :=
    (ValueKit.rect_emb_unit_val (s := S9x64x1024) ![(h + 1) % 9, 0, 0] S1x64x1024.size (inbSlR h) (Fin.cons ⟨0, Nat.one_pos⟩ i) 0).trans (by
      show (h + 1) % 9 + 0 = h + 1
      omega)
  have e1 : (((Rect.unit (s := S9x64x1024) ![(h + 1) % 9, 0, 0] S1x64x1024.size (inbSlR h)).emb (Fin.cons ⟨0, Nat.one_pos⟩ i)) 1).val = (i 0).val :=
    (ValueKit.rect_emb_unit_val (s := S9x64x1024) ![(h + 1) % 9, 0, 0] S1x64x1024.size (inbSlR h) (Fin.cons ⟨0, Nat.one_pos⟩ i) 1).trans (Nat.zero_add _)
  have e2 : (((Rect.unit (s := S9x64x1024) ![(h + 1) % 9, 0, 0] S1x64x1024.size (inbSlR h)).emb (Fin.cons ⟨0, Nat.one_pos⟩ i)) 2).val = (i 1).val :=
    (ValueKit.rect_emb_unit_val (s := S9x64x1024) ![(h + 1) % 9, 0, 0] S1x64x1024.size (inbSlR h) (Fin.cons ⟨0, Nat.one_pos⟩ i) 2).trans (Nat.zero_add _)
  generalize (Rect.unit (s := S9x64x1024) ![(h + 1) % 9, 0, 0] S1x64x1024.size (inbSlR h)).emb (Fin.cons ⟨0, Nat.one_pos⟩ i) = y at e0 e1 e2
  show X (back c (y 0).val) (ix2 (y 1) (y 2)) = _
  rw [e0]
  congr 1
  funext a
  refine Fin.ext ?_
  match a with
  | ⟨0, _⟩ => exact e1
  | ⟨1, _⟩ => exact e2

theorem read_slL (c : Dev nD) (h : ℕ) (hh : h < 7) (w : Vec F S1024x64 .f32) :
    k0_pay5 ((A5.access (Rect.unit (s := S8x64x1024) ![(h + 1) % 8, 0, 0] S1x64x1024.size (inbSlL h))).read (Elt F) (commL X c)) w
      = blk (X (ahead c (h + 1))) w := by
  refine pay5_of _ _ _ fun i => ?_
  show commL X c ((Rect.unit (s := S8x64x1024) ![(h + 1) % 8, 0, 0] S1x64x1024.size (inbSlL h)).emb (Fin.cons ⟨0, Nat.one_pos⟩ i)) = _
  have e0 : (((Rect.unit (s := S8x64x1024) ![(h + 1) % 8, 0, 0] S1x64x1024.size (inbSlL h)).emb (Fin.cons ⟨0, Nat.one_pos⟩ i)) 0).val = h + 1 :=
    (ValueKit.rect_emb_unit_val (s := S8x64x1024) ![(h + 1) % 8, 0, 0] S1x64x1024.size (inbSlL h) (Fin.cons ⟨0, Nat.one_pos⟩ i) 0).trans (by
      show (h + 1) % 8 + 0 = h + 1
      omega)
  have e1 : (((Rect.unit (s := S8x64x1024) ![(h + 1) % 8, 0, 0] S1x64x1024.size (inbSlL h)).emb (Fin.cons ⟨0, Nat.one_pos⟩ i)) 1).val = (i 0).val :=
    (ValueKit.rect_emb_unit_val (s := S8x64x1024) ![(h + 1) % 8, 0, 0] S1x64x1024.size (inbSlL h) (Fin.cons ⟨0, Nat.one_pos⟩ i) 1).trans (Nat.zero_add _)
  have e2 : (((Rect.unit (s := S8x64x1024) ![(h + 1) % 8, 0, 0] S1x64x1024.size (inbSlL h)).emb (Fin.cons ⟨0, Nat.one_pos⟩ i)) 2).val = (i 1).val :=
    (ValueKit.rect_emb_unit_val (s := S8x64x1024) ![(h + 1) % 8, 0, 0] S1x64x1024.size (inbSlL h) (Fin.cons ⟨0, Nat.one_pos⟩ i) 2).trans (Nat.zero_add _)
  generalize (Rect.unit (s := S8x64x1024) ![(h + 1) % 8, 0, 0] S1x64x1024.size (inbSlL h)).emb (Fin.cons ⟨0, Nat.one_pos⟩ i) = y at e0 e1 e2
  show X (ahead c (y 0).val) (ix2 (y 1) (y 2)) = _
  rw [e0]
  congr 1
  funext a
  refine Fin.ext ?_
  match a with
  | ⟨0, _⟩ => exact e1
  | ⟨1, _⟩ => exact e2

/-- Where the elements a slot's load reads lie. -/
theorem no_slR (h : ℕ) (hh : h < 8) (i : S9x64x1024.Idx)
    (hi : i ∈ (A4.access (Rect.unit (s := S9x64x1024) ![(h + 1) % 9, 0, 0] S1x64x1024.size (inbSlR h))).set) : noR i < 4 * h + 8 := by
  obtain ⟨x, -, rfl⟩ := Finset.mem_map.mp hi
  have e0 := ValueKit.rect_emb_unit_val (s := S9x64x1024) ![(h + 1) % 9, 0, 0] S1x64x1024.size (inbSlR h) x 0
  have e1 := ValueKit.rect_emb_unit_val (s := S9x64x1024) ![(h + 1) % 9, 0, 0] S1x64x1024.size (inbSlR h) x 1
  have h0 : (x 0).val < 1 := (x 0).isLt
  have h1 : (x 1).val < 64 := (x 1).isLt
  show 4 * (((Rect.unit (s := S9x64x1024) ![(h + 1) % 9, 0, 0] S1x64x1024.size (inbSlR h)).emb x) 0).val
    + (((Rect.unit (s := S9x64x1024) ![(h + 1) % 9, 0, 0] S1x64x1024.size (inbSlR h)).emb x) 1).val / 16 < _
  rw [e0, e1]
  show 4 * ((h + 1) % 9 + (x 0).val) + (0 + (x 1).val) / 16 < _
  omega
theorem no_slL (h : ℕ) (hh : h < 7) (i : S8x64x1024.Idx)
    (hi : i ∈ (A5.access (Rect.unit (s := S8x64x1024) ![(h + 1) % 8, 0, 0] S1x64x1024.size (inbSlL h))).set) : noL i < 4 * h + 8 := by
  obtain ⟨x, -, rfl⟩ := Finset.mem_map.mp hi
  have e0 := ValueKit.rect_emb_unit_val (s := S8x64x1024) ![(h + 1) % 8, 0, 0] S1x64x1024.size (inbSlL h) x 0
  have e1 := ValueKit.rect_emb_unit_val (s := S8x64x1024) ![(h + 1) % 8, 0, 0] S1x64x1024.size (inbSlL h) x 1
  have h0 : (x 0).val < 1 := (x 0).isLt
  have h1 : (x 1).val < 64 := (x 1).isLt
  show 4 * (((Rect.unit (s := S8x64x1024) ![(h + 1) % 8, 0, 0] S1x64x1024.size (inbSlL h)).emb x) 0).val
    + (((Rect.unit (s := S8x64x1024) ![(h + 1) % 8, 0, 0] S1x64x1024.size (inbSlL h)).emb x) 1).val / 16 < _
  rw [e0, e1]
  show 4 * ((h + 1) % 8 + (x 0).val) + (0 + (x 1).val) / 16 < _
  omega

/-! ## The result's blocks -/

/-- The device whose rows an element of the result is computed from. -/
def ofRow (i : S1024x64.Idx) : Dev nD := ⟨(i 0).val / 64, Nat.div_lt_of_lt_mul (i 0).isLt⟩

/-- After a device's block is stored, that block holds what it is to hold, the others what they held. -/
theorem store_blk (w : Vec F S1024x64 .f32) (d : Dev nD) (dn : Finset (Dev nD)) (f : Vec F S1024x64 .f32)
    (hf : ∀ i, ofRow i ∈ dn → f i = outF X w i) (off : Fin 2 → ℕ) (hoff : off = ![64 * d.val, 0])
    (inb : ∀ a, off a + S64x64.size a ≤ S1024x64.size a) :
    ∀ i, ofRow i ∈ insert d dn →
      (A3.access (Rect.unit (s := S1024x64) off S64x64.size inb)).write (Elt F) f (blk (X d) w) Finset.univ i = outF X w i := by
  subst hoff
  intro i hi
  by_cases hm : i ∈ (A3.access (Rect.unit (s := S1024x64) ![64 * d.val, 0] S64x64.size inb)).setOn Finset.univ
  · obtain ⟨x, -, rfl⟩ := Finset.mem_map.mp hm
    refine (View.write_emb_of_mem _ _ (Finset.mem_univ _)).trans ?_
    show blk (X d) w x = outF X w ((Rect.unit (s := S1024x64) ![64 * d.val, 0] S64x64.size inb).emb x)
    have e0 : (((Rect.unit (s := S1024x64) ![64 * d.val, 0] S64x64.size inb).emb x) 0).val = 64 * d.val + (x 0).val :=
      ValueKit.rect_emb_unit_val (s := S1024x64) ![64 * d.val, 0] S64x64.size inb x 0
    have e1 : (((Rect.unit (s := S1024x64) ![64 * d.val, 0] S64x64.size inb).emb x) 1).val = 0 + (x 1).val :=
      ValueKit.rect_emb_unit_val (s := S1024x64) ![64 * d.val, 0] S64x64.size inb x 1
    have hx : (x 0).val < 64 := (x 0).isLt
    generalize (Rect.unit (s := S1024x64) ![64 * d.val, 0] S64x64.size inb).emb x = y at e0 e1
    have hd : ofRow y = d := Fin.ext (by show (y 0).val / 64 = d.val; omega)
    show blk (X d) w x = blk (X (ofRow y)) w (ix2 ⟨(y 0).val % 64, _⟩ (y 1))
    rw [hd]
    congr 1
    funext a
    refine Fin.ext ?_
    match a with
    | ⟨0, _⟩ => show (x 0).val = (y 0).val % 64; omega
    | ⟨1, _⟩ => show (x 1).val = (y 1).val; omega
  · rw [View.write_of_not_mem _ _ _ hm]
    refine hf i ((Finset.mem_insert.mp hi).resolve_left fun e => hm ?_)
    have e' : (i 0).val / 64 = d.val := congrArg Fin.val e
    refine Finset.mem_map.mpr ⟨ix2 ⟨(i 0).val % 64, Nat.mod_lt _ (by decide)⟩ (i 1), Finset.mem_univ _, ?_⟩
    show (Rect.unit (s := S1024x64) ![64 * d.val, 0] S64x64.size inb).emb _ = i
    funext a
    refine Fin.ext ?_
    rw [ValueKit.rect_emb_unit_val]
    match a with
    | ⟨0, _⟩ => show 64 * d.val + (i 0).val % 64 = (i 0).val; omega
    | ⟨1, _⟩ => exact Nat.zero_add _

theorem done_all (c : Dev nD) : ∀ d : Dev nD, d = c ∨ (∃ h, h < 8 ∧ d = back c (h + 1)) ∨ ∃ h, h < 7 ∧ d = ahead c (h + 1) := by
  revert c
  decide

end Cert.KernelIdeal.Own

end
-- ==== Proof.Ideal.Blocks.lean ====
/- The computations: each reads a slot's rows, the right factor's columns and a word of the table, and stores
   one block of the result. -/
module

public import proofs.«01_k».proof.Proof.Ideal.Copies
public import proofs.«01_k».proof.Proof.Ideal.Reads

@[expose] public section

set_option maxRecDepth 8000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.isDefEq.respectTransparency.types false

variable {F : FTy → Type} [FloatOps F]

local notation "𝕄" => MT nD τ sig Unit (Elt F) ℕ UU ℕ

variable (X : Dev nD → Vec F S64x1024 .f32) (W : Dev nD → Vec F S1024x64 .f32)

/-- The staged arrays: the table, the rows, the columns, and the result, of which the blocks of the devices
    `dn` are done. -/
def stg (c : Dev nD) (dn : Finset (Dev nD)) : sProp 𝕄 :=
  iprop((A0.view.loc (c : Thread nD τ) ↦{fullShare} tabV F c) ∗ (A1.view.loc (c : Thread nD τ) ↦{fullShare} X c)
    ∗ (A2.view.loc (c : Thread nD τ) ↦{fullShare} W c)
    ∗ ∃ f : Vec F S1024x64 .f32, ⌜∀ i, ofRow i ∈ dn → f i = outF X (W c) i⌝ ∗ (A3.view.loc (c : Thread nD τ) ↦{fullShare} f))

theorem bind_smem (m : Memref sig .tc .smem S17 .i32) (r : Rect S17) (h1 : r.shape.numel = 1) (hp) (k : Elt F .i32 → Body F) :
    Prog.bind (smemLoad m r h1 hp) k = smemLoadElt m r (View.loads_smem_one hp h1) (Shape.Idx.first (h1.symm ▸ Nat.one_pos)) k := rfl

/-- A load, a store and a load of a word, in the vector memory and the scalar memory of a device. -/
theorem ld {sh : Shape} {e : EltTy} (c : Dev nD) (Q : PUnit.{1} → sProp (MT nD τ sig Unit (Elt F) ℕ UU ℕ)) (m : Memref sig .tc .vmem sh e) (r : Rect sh) {hl : m.view.LoadsAt r.toLoadRect} {k : Vec F r.shape e → Body F}
    {S : Finset (Idx (m.view.loc (c : Thread nD τ)))} {q : PosShare TreeShare} {f : Buf (Elt F) (m.view.loc (c : Thread nD τ))} (hS : (m.access r).set ⊆ S) :
    (m.view.loc (c : Thread nD τ) ↦[S]{q} f)
      ⊢ iprop(((m.view.loc (c : Thread nD τ) ↦[S]{q} f) -∗ wp frame (wpE (defs₀ (F := F)) 𝒱₀ c none) Set.univ (k ((m.access r).read (Elt F) f)) Q)
        -∗ wp frame (wpE (defs₀ (F := F)) 𝒱₀ c none) Set.univ (.op (.load m r.toLoadRect hl) k) Q : sProp 𝕄) :=
  wp_load_rect (defs := defs₀ (F := F)) 𝒱₀ (c : Thread nD τ) none (Ix := Unit) (Name := ℕ) (U := UU) (Lvl := ℕ) (Γ := .empty) Set.univ (Q := Q) (m := m) (r := r) (hl := hl) (k := k) (S := S) (q := q) (f := f) hS
theorem st {sh : Shape} {e : EltTy} (c : Dev nD) (Q : PUnit.{1} → sProp (MT nD τ sig Unit (Elt F) ℕ UU ℕ)) (m : Memref sig .tc .vmem sh e) (r : Rect sh) {w : Vec F r.shape e} {hx : (m.access r).Stores Finset.univ} {hm} {k : PUnit → Body F}
    {S : Finset (Idx (m.view.loc (c : Thread nD τ)))} {f : Buf (Elt F) (m.view.loc (c : Thread nD τ))} (hS : (m.access r).set ⊆ S) :
    (m.view.loc (c : Thread nD τ) ↦[S]{fullShare} f)
      ⊢ iprop(((m.view.loc (c : Thread nD τ) ↦[S]{fullShare} ((m.access r).write (Elt F) f w Finset.univ)) -∗ wp frame (wpE (defs₀ (F := F)) 𝒱₀ c none) Set.univ (k ⟨⟩) Q)
        -∗ wp frame (wpE (defs₀ (F := F)) 𝒱₀ c none) Set.univ (.op (.store m r w Finset.univ hx hm) k) Q : sProp 𝕄) :=
  wp_store (defs := defs₀ (F := F)) 𝒱₀ (c : Thread nD τ) none (Ix := Unit) (Name := ℕ) (U := UU) (Lvl := ℕ) (Γ := .empty) Set.univ (Q := Q) (m := m) (r := r) (w := w) (Mk := Finset.univ) (hx := hx) (hm := hm) (k := k) (S := S) (f := f) hS
theorem ldw {sh : Shape} {e : EltTy} (c : Dev nD) (Q : PUnit.{1} → sProp (MT nD τ sig Unit (Elt F) ℕ UU ℕ)) (m : Memref sig .tc .smem sh e) (r : Rect sh) {hl : (m.access r).Loads} {x : r.shape.Idx} {k : Elt F e → Body F}
    {q : PosShare TreeShare} {f : Buf (Elt F) (m.view.loc (c : Thread nD τ))} :
    (m.view.loc (c : Thread nD τ) ↦{q} f)
      ⊢ iprop(((m.view.loc (c : Thread nD τ) ↦{q} f) -∗ wp frame (wpE (defs₀ (F := F)) 𝒱₀ c none) Set.univ (k ((m.access r).read (Elt F) f x)) Q)
        -∗ wp frame (wpE (defs₀ (F := F)) 𝒱₀ c none) Set.univ (smemLoadElt m r hl x k) Q : sProp 𝕄) :=
  wp_smemLoadElt (defs := defs₀ (F := F)) 𝒱₀ (c : Thread nD τ) none (Ix := Unit) (Name := ℕ) (U := UU) (Lvl := ℕ) (Γ := .empty) Set.univ (Q := Q) (m := m) (r := r) (hw := hl) (x := x) (k := k) (S := Finset.univ) (q := q) (f := f) (Finset.subset_univ _)
theorem asm (c : Dev nD) (Q : PUnit.{1} → sProp (MT nD τ sig Unit (Elt F) ℕ UU ℕ)) {P : Prop} {d : Decidable P} {k : PLift P → Body F} (h : P) :
    wp frame (wpE (defs₀ (F := F)) 𝒱₀ c none) Set.univ (k ⟨h⟩) Q
      ⊢ (wp frame (wpE (defs₀ (F := F)) 𝒱₀ c none) Set.univ (.op (.assume P d) k) Q : sProp 𝕄) :=
  wp_assume (defs := defs₀ (F := F)) 𝒱₀ (c : Thread nD τ) none (Ix := Unit) (Name := ℕ) (U := UU) (Lvl := ℕ) (Γ := .empty) Set.univ (Q := Q) (P := P) (d := d) (k := k) h

/-- The elements of a chunk. -/
def setR (k : ℕ) : Finset S9x64x1024.Idx := (chR k).view.set
def setL (k : ℕ) : Finset S8x64x1024.Idx := (chL k).view.set

theorem wR_eq (c : Dev nD) (q : PosShare TreeShare) (k : ℕ) (f : Vec F S9x64x1024 .f32) :
    wR c q k f = (A4.view.loc (c : Thread nD τ) ↦[setR k]{q} f : sProp 𝕄) := rfl
theorem wL_eq (c : Dev nD) (q : PosShare TreeShare) (k : ℕ) (f : Vec F S8x64x1024 .f32) :
    wL c q k f = (A5.view.loc (c : Thread nD τ) ↦[setL k]{q} f : sProp 𝕄) := rfl

theorem setR_disjoint (t t' : ℕ) (h : t < 36) (h' : t' < 36) (hne : t ≠ t') : Disjoint (setR t) (setR t') :=
  Finset.disjoint_left.mpr fun i hi hi' => hne (((mem_chR t h i).mp hi).symm.trans ((mem_chR t' h' i).mp hi'))
theorem setL_disjoint (t t' : ℕ) (h : t < 32) (h' : t' < 32) (hne : t ≠ t') : Disjoint (setL t) (setL t') :=
  Finset.disjoint_left.mpr fun i hi hi' => hne (((mem_chL t h i).mp hi).symm.trans ((mem_chL t' h' i).mp hi'))

section

variable (c : Dev nD) (p : Body F) (Q : PUnit.{1} → sProp (MT nD τ sig Unit (Elt F) ℕ UU ℕ))

theorem compTail_run (dn : Finset (Dev nD)) (a : Vec F S1x64x1024 .f32) (j : ℕ) (d : Dev nD) (ht : tabAt c (j % 17) = d)
    (hp : k0_pay5 a (W c) = blk (X d) (W c)) :
    stg X W c dn
      ⊢ iprop((stg X W c (insert d dn) -∗ wp frame (wpE (defs₀ (F := F)) 𝒱₀ c none) Set.univ p Q)
        -∗ wp frame (wpE (defs₀ (F := F)) 𝒱₀ c none) Set.univ (compTail a j p) Q) := by
  unfold stg compTail
  iintro ⟨H0, H1, H2, %f, %hf, H3⟩ Hk
  iapply (ld c Q A2 (Rect.unit (s := S1024x64) ![0, 0] S1024x64.size inb_S1024x64_S1024x64_0_0) (Finset.subset_univ _)) $$ H2
  iintro H2
  rw [read_A2, bind_smem]
  iapply (ldw c Q A0 (Rect.unit (s := S17) ![j % 17] S1.size (inbTab j))) $$ H0
  iintro H0
  rw [read_tab c (j % 17) (Nat.mod_lt _ (by decide)), ht]
  iapply (asm c Q (chk3_word d))
  iapply (ld c Q A3 (Rect.unit (s := S1024x64) (k0_off2 (word d)) S64x64.size (k0_off2_inb (word d) (chk3_word d))) (Finset.subset_univ _)) $$ H3
  iintro H3
  iapply (st c Q A3 (Rect.unit (s := S1024x64) (k0_off2 (word d)) S64x64.size (k0_off2_inb (word d) (chk3_word d))) (Finset.subset_univ _)) $$ H3
  iintro H3
  iapply Hk
  isplitl [H0]; · iexact H0
  isplitl [H1]; · iexact H1
  isplitl [H2]; · iexact H2
  iexists ((A3.access (Rect.unit (s := S1024x64) (k0_off2 (word d)) S64x64.size (k0_off2_inb (word d) (chk3_word d)))).write (Elt F) f (k0_pay5 a (W c)) Finset.univ)
  isplitr
  · ipureintro
    rw [hp]
    exact store_blk X (W c) d dn f hf (k0_off2 (word d)) (off2_word d) _
  iexact H3

theorem own_run (dn : Finset (Dev nD)) (v3 v4 : BitVec 32) (hw1 : k0_chk1 v3) (hw2 : k0_chk2 v4) :
    stg X W c dn
      ⊢ iprop((stg X W c (insert c dn) -∗ wp frame (wpE (defs₀ (F := F)) 𝒱₀ c none) Set.univ p Q)
        -∗ wp frame (wpE (defs₀ (F := F)) 𝒱₀ c none) Set.univ (Step.run c v3 hw1 v4 hw2 .own p) Q) := by
  unfold stg
  dsimp only [Step.run]
  iintro ⟨H0, H1, H2, %f, %hf, H3⟩ Hk
  iapply (ld c Q A1 (Rect.unit (s := S64x1024) ![0, 0] S64x1024.size inb_S64x1024_S64x1024_0_0) (Finset.subset_univ _)) $$ H1
  iintro H1
  rw [read_A1]
  iapply (ld c Q A2 (Rect.unit (s := S1024x64) ![0, 0] S1024x64.size inb_S1024x64_S1024x64_0_0) (Finset.subset_univ _)) $$ H2
  iintro H2
  rw [read_A2]
  iapply (ld c Q A3 (Rect.unit (s := S1024x64) (k0_off1 c) S64x64.size (k0_off1_inb c)) (Finset.subset_univ _)) $$ H3
  iintro H3
  iapply (st c Q A3 (Rect.unit (s := S1024x64) (k0_off1 c) S64x64.size (k0_off1_inb c)) (Finset.subset_univ _)) $$ H3
  iintro H3
  iapply Hk
  isplitl [H0]; · iexact H0
  isplitl [H1]; · iexact H1
  isplitl [H2]; · iexact H2
  iexists ((A3.access (Rect.unit (s := S1024x64) (k0_off1 c) S64x64.size (k0_off1_inb c))).write (Elt F) f (blk (X c) (W c)) Finset.univ)
  isplitr
  · ipureintro
    exact store_blk X (W c) c dn f hf (k0_off1 c) (off1_eq c) _
  iexact H3

/-- The kept halves of the chunks that have arrived, as one piece. -/
theorem keptR (n : ℕ) (hn : n ≤ 36) :
    (bigSep (Finset.Ico 0 n) fun k => wR c qk k (commR X c))
      = (A4.view.loc (c : Thread nD τ) ↦[(Finset.Ico 0 n).biUnion setR]{qk} commR X c : sProp 𝕄) := by
  simp only [wR_eq]
  refine (pointsTo_biUnion (ℓ := A4.view.loc (c : Thread nD τ)) (Finset.Ico 0 n) setR ?_).symm
  intro t ht t' ht' hne
  have h1 := Finset.mem_Ico.mp ht
  have h2 := Finset.mem_Ico.mp ht'
  exact setR_disjoint t t' (by omega) (by omega) hne
theorem keptL (n : ℕ) (hn : n ≤ 32) :
    (bigSep (Finset.Ico 0 n) fun k => wL c qk k (commL X c))
      = (A5.view.loc (c : Thread nD τ) ↦[(Finset.Ico 0 n).biUnion setL]{qk} commL X c : sProp 𝕄) := by
  simp only [wL_eq]
  refine (pointsTo_biUnion (ℓ := A5.view.loc (c : Thread nD τ)) (Finset.Ico 0 n) setL ?_).symm
  intro t ht t' ht' hne
  have h1 := Finset.mem_Ico.mp ht
  have h2 := Finset.mem_Ico.mp ht'
  exact setL_disjoint t t' (by omega) (by omega) hne

theorem compR_run (dn : Finset (Dev nD)) (v3 v4 : BitVec 32) (hw1 : k0_chk1 v3) (hw2 : k0_chk2 v4) (s w e h : ℕ) (hh : h < 8) (hw : w ≤ 32) (hhw : 4 * h + 4 ≤ w) :
    iprop(stR X c s w e ∗ stg X W c dn)
      ⊢ iprop((iprop(stR X c s w e ∗ stg X W c (insert (back c (h + 1)) dn)) -∗ wp frame (wpE (defs₀ (F := F)) 𝒱₀ c none) Set.univ p Q)
        -∗ wp frame (wpE (defs₀ (F := F)) 𝒱₀ c none) Set.univ (Step.run c v3 hw1 v4 hw2 (.compR h) p) Q) := by
  unfold stR
  rw [keptR X c (w + 4) (by omega)]
  dsimp only [Step.run]
  iintro ⟨⟨G1, G2, G3, G4, G5, G6, G7, G8⟩, HS⟩ Hk
  have hS : (A4.access (Rect.unit (s := S9x64x1024) ![(h + 1) % 9, 0, 0] S1x64x1024.size (inbSlR h))).set ⊆ (Finset.Ico 0 (w + 4)).biUnion setR := by
    intro i hi
    have h1 := no_slR h hh i hi
    exact Finset.mem_biUnion.mpr ⟨noR i, Finset.mem_Ico.mpr ⟨Nat.zero_le _, by omega⟩, (mem_chR _ (by omega) i).mpr rfl⟩
  iapply (ld c Q A4 (Rect.unit (s := S9x64x1024) ![(h + 1) % 9, 0, 0] S1x64x1024.size (inbSlR h)) hS) $$ G7
  iintro G7
  iapply (compTail_run X W c p Q dn _ (2 + h) (back c (h + 1)) (by rw [Nat.mod_eq_of_lt (by omega), tabAt_R c h hh]) (read_slR X c h hh (W c))) $$ HS
  iintro HS
  iapply Hk
  isplitr [HS]
  · isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  · iexact HS

theorem compL_run (dn : Finset (Dev nD)) (v3 v4 : BitVec 32) (hw1 : k0_chk1 v3) (hw2 : k0_chk2 v4) (s w e h : ℕ) (hh : h < 7) (hw : w ≤ 28) (hhw : 4 * h + 4 ≤ w) :
    iprop(stL X c s w e ∗ stg X W c dn)
      ⊢ iprop((iprop(stL X c s w e ∗ stg X W c (insert (ahead c (h + 1)) dn)) -∗ wp frame (wpE (defs₀ (F := F)) 𝒱₀ c none) Set.univ p Q)
        -∗ wp frame (wpE (defs₀ (F := F)) 𝒱₀ c none) Set.univ (Step.run c v3 hw1 v4 hw2 (.compL h) p) Q) := by
  unfold stL
  rw [keptL X c (w + 4) (by omega)]
  dsimp only [Step.run]
  iintro ⟨⟨G1, G2, G3, G4, G5, G6, G7, G8⟩, HS⟩ Hk
  have hS : (A5.access (Rect.unit (s := S8x64x1024) ![(h + 1) % 8, 0, 0] S1x64x1024.size (inbSlL h))).set ⊆ (Finset.Ico 0 (w + 4)).biUnion setL := by
    intro i hi
    have h1 := no_slL h hh i hi
    exact Finset.mem_biUnion.mpr ⟨noL i, Finset.mem_Ico.mpr ⟨Nat.zero_le _, by omega⟩, (mem_chL _ (by omega) i).mpr rfl⟩
  iapply (ld c Q A5 (Rect.unit (s := S8x64x1024) ![(h + 1) % 8, 0, 0] S1x64x1024.size (inbSlL h)) hS) $$ G7
  iintro G7
  iapply (compTail_run X W c p Q dn _ (10 + h) (ahead c (h + 1)) (by rw [Nat.mod_eq_of_lt (by omega), tabAt_L c h]) (read_slL X c h hh (W c))) $$ HS
  iintro HS
  iapply Hk
  isplitr [HS]
  · isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  · iexact HS

end

end Cert.KernelIdeal.Own

end
-- ==== Proof.Ideal.Walk.lean ====
/- The kernel's body is its list of steps: part by part, each by unfolding. -/
module

public import proofs.«01_k».proof.Proof.Ideal.Steps

@[expose] public section

noncomputable section

namespace Cert.KernelIdeal.Own

open Idealize.ShloMosaic Idealize.ShloMosaic.TcCoe
open Idealize.SL Idealize.SL.Sem
open Cert.KernelIdeal.Gen

variable {F : FTy → Type} [FloatOps F]

set_option maxRecDepth 65536 in
set_option maxHeartbeats 4000000 in
theorem walk0 (d0 : Dev nD) (v2 v3 : BitVec 32) (hw1 : k0_chk1 v3) (v4 : BitVec 32) (hw2 : k0_chk2 v4) (p : Body F) :
    (do
      k0_part2 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 v4 hw2
      p)
      = runAll d0 v3 hw1 v4 hw2 [.sendR 0, .sendL 0, .sendR 1] p := rfl

set_option maxRecDepth 65536 in
set_option maxHeartbeats 4000000 in
theorem walk1 (d0 : Dev nD) (v2 v3 : BitVec 32) (hw1 : k0_chk1 v3) (v4 : BitVec 32) (hw2 : k0_chk2 v4) (p : Body F) :
    (do
      k0_part3 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 v4 hw2
      p)
      = runAll d0 v3 hw1 v4 hw2 [.sendL 1, .sendR 2] p := rfl

set_option maxRecDepth 65536 in
set_option maxHeartbeats 4000000 in
theorem walk2 (d0 : Dev nD) (v2 v3 : BitVec 32) (hw1 : k0_chk1 v3) (v4 : BitVec 32) (hw2 : k0_chk2 v4) (p : Body F) :
    (do
      let v101 : FVec F S64x1024 .f32 ← k0_part4 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 v4 hw2
      k0_part5 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 d0 v2 v4 v101
      p)
      = runAll d0 v3 hw1 v4 hw2 [.sendL 2, .sendR 3, .sendL 3, .own, .waitR 0] p := rfl

set_option maxRecDepth 65536 in
set_option maxHeartbeats 4000000 in
theorem walk3 (d0 : Dev nD) (v2 v3 : BitVec 32) (hw1 : k0_chk1 v3) (v4 : BitVec 32) (hw2 : k0_chk2 v4) (p : Body F) :
    (do
      k0_part6 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      p)
      = runAll d0 v3 hw1 v4 hw2 [.sendR 4, .waitR 1, .sendR 5] p := rfl

set_option maxRecDepth 65536 in
set_option maxHeartbeats 4000000 in
theorem walk4 (d0 : Dev nD) (v2 v3 : BitVec 32) (hw1 : k0_chk1 v3) (v4 : BitVec 32) (hw2 : k0_chk2 v4) (p : Body F) :
    (do
      k0_part7 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      p)
      = runAll d0 v3 hw1 v4 hw2 [.waitR 2, .sendR 6, .waitR 3] p := rfl

set_option maxRecDepth 65536 in
set_option maxHeartbeats 4000000 in
theorem walk5 (d0 : Dev nD) (v2 v3 : BitVec 32) (hw1 : k0_chk1 v3) (v4 : BitVec 32) (hw2 : k0_chk2 v4) (p : Body F) :
    (do
      k0_part8 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 v4 hw2
      p)
      = runAll d0 v3 hw1 v4 hw2 [.sendR 7, .waitL 0] p := rfl

set_option maxRecDepth 65536 in
set_option maxHeartbeats 4000000 in
theorem walk6 (d0 : Dev nD) (v2 v3 : BitVec 32) (hw1 : k0_chk1 v3) (v4 : BitVec 32) (hw2 : k0_chk2 v4) (p : Body F) :
    (do
      let ⟨v229, c0_i32_268⟩ : Σ' (v229 : BitVec 32), BitVec 32 ← k0_part9 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part10 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 v229 c0_i32_268
      p)
      = runAll d0 v3 hw1 v4 hw2 [.sendL 4, .waitL 1, .sendL 5, .waitL 2, .sendL 6, .waitL 3] p := rfl

set_option maxRecDepth 65536 in
set_option maxHeartbeats 4000000 in
theorem walk7 (d0 : Dev nD) (v2 v3 : BitVec 32) (hw1 : k0_chk1 v3) (v4 : BitVec 32) (hw2 : k0_chk2 v4) (p : Body F) :
    (do
      let v287 : Vec F S1x64x1024 .f32 ← k0_part11 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part12 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 v287
      p)
      = runAll d0 v3 hw1 v4 hw2 [.sendL 7, .compR 0, .compL 0, .waitR 4] p := rfl

set_option maxRecDepth 65536 in
set_option maxHeartbeats 4000000 in
theorem walk8 (d0 : Dev nD) (v2 v3 : BitVec 32) (hw1 : k0_chk1 v3) (v4 : BitVec 32) (hw2 : k0_chk2 v4) (p : Body F) :
    (do
      k0_part13 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      p)
      = runAll d0 v3 hw1 v4 hw2 [.sendR 8, .waitR 5] p := rfl

set_option maxRecDepth 65536 in
set_option maxHeartbeats 4000000 in
theorem walk9 (d0 : Dev nD) (v2 v3 : BitVec 32) (hw1 : k0_chk1 v3) (v4 : BitVec 32) (hw2 : k0_chk2 v4) (p : Body F) :
    (do
      k0_part14 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      p)
      = runAll d0 v3 hw1 v4 hw2 [.sendR 9, .waitR 6, .sendR 10] p := rfl

set_option maxRecDepth 65536 in
set_option maxHeartbeats 4000000 in
theorem walk10 (d0 : Dev nD) (v2 v3 : BitVec 32) (hw1 : k0_chk1 v3) (v4 : BitVec 32) (hw2 : k0_chk2 v4) (p : Body F) :
    (do
      k0_part15 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 v4 hw2
      p)
      = runAll d0 v3 hw1 v4 hw2 [.waitR 7, .sendR 11, .waitL 4] p := rfl

set_option maxRecDepth 65536 in
set_option maxHeartbeats 4000000 in
theorem walk11 (d0 : Dev nD) (v2 v3 : BitVec 32) (hw1 : k0_chk1 v3) (v4 : BitVec 32) (hw2 : k0_chk2 v4) (p : Body F) :
    (do
      k0_part16 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      p)
      = runAll d0 v3 hw1 v4 hw2 [.sendL 8, .waitL 5, .sendL 9] p := rfl

set_option maxRecDepth 65536 in
set_option maxHeartbeats 4000000 in
theorem walk12 (d0 : Dev nD) (v2 v3 : BitVec 32) (hw1 : k0_chk1 v3) (v4 : BitVec 32) (hw2 : k0_chk2 v4) (p : Body F) :
    (do
      k0_part17 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      p)
      = runAll d0 v3 hw1 v4 hw2 [.waitL 6, .sendL 10] p := rfl

set_option maxRecDepth 65536 in
set_option maxHeartbeats 4000000 in
theorem walk13 (d0 : Dev nD) (v2 v3 : BitVec 32) (hw1 : k0_chk1 v3) (v4 : BitVec 32) (hw2 : k0_chk2 v4) (p : Body F) :
    (do
      let ⟨v470, v471, k0_hw5⟩ : Σ' (v470 : FVec F S64x64 .f32) (v471 : Elt F .i32), k0_chk5 v471 ← k0_part18 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part19 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 v470 v471 k0_hw5
      p)
      = runAll d0 v3 hw1 v4 hw2 [.waitL 7, .sendL 11, .compR 1, .compL 1, .waitR 8] p := rfl

set_option maxRecDepth 65536 in
set_option maxHeartbeats 4000000 in
theorem walk14 (d0 : Dev nD) (v2 v3 : BitVec 32) (hw1 : k0_chk1 v3) (v4 : BitVec 32) (hw2 : k0_chk2 v4) (p : Body F) :
    (do
      k0_part20 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      p)
      = runAll d0 v3 hw1 v4 hw2 [.sendR 12, .waitR 9] p := rfl

set_option maxRecDepth 65536 in
set_option maxHeartbeats 4000000 in
theorem walk15 (d0 : Dev nD) (v2 v3 : BitVec 32) (hw1 : k0_chk1 v3) (v4 : BitVec 32) (hw2 : k0_chk2 v4) (p : Body F) :
    (do
      let ⟨v551, c0_i32_627⟩ : Σ' (v551 : BitVec 32), BitVec 32 ← k0_part21 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part22 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 v4 hw2 v551 c0_i32_627
      p)
      = runAll d0 v3 hw1 v4 hw2 [.sendR 13, .waitR 10, .sendR 14, .waitR 11, .sendR 15, .waitL 8] p := rfl

set_option maxRecDepth 65536 in
set_option maxHeartbeats 4000000 in
theorem walk16 (d0 : Dev nD) (v2 v3 : BitVec 32) (hw1 : k0_chk1 v3) (v4 : BitVec 32) (hw2 : k0_chk2 v4) (p : Body F) :
    (do
      k0_part23 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      p)
      = runAll d0 v3 hw1 v4 hw2 [.sendL 12, .waitL 9] p := rfl

set_option maxRecDepth 65536 in
set_option maxHeartbeats 4000000 in
theorem walk17 (d0 : Dev nD) (v2 v3 : BitVec 32) (hw1 : k0_chk1 v3) (v4 : BitVec 32) (hw2 : k0_chk2 v4) (p : Body F) :
    (do
      k0_part24 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      p)
      = runAll d0 v3 hw1 v4 hw2 [.sendL 13, .waitL 10, .sendL 14] p := rfl

set_option maxRecDepth 65536 in
set_option maxHeartbeats 4000000 in
theorem walk18 (d0 : Dev nD) (v2 v3 : BitVec 32) (hw1 : k0_chk1 v3) (v4 : BitVec 32) (hw2 : k0_chk2 v4) (p : Body F) :
    (do
      let v658 : FVec F S64x64 .f32 ← k0_part25 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part26 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 v658
      p)
      = runAll d0 v3 hw1 v4 hw2 [.waitL 11, .sendL 15, .compR 2, .compL 2] p := rfl

set_option maxRecDepth 65536 in
set_option maxHeartbeats 4000000 in
theorem walk19 (d0 : Dev nD) (v2 v3 : BitVec 32) (hw1 : k0_chk1 v3) (v4 : BitVec 32) (hw2 : k0_chk2 v4) (p : Body F) :
    (do
      k0_part27 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      p)
      = runAll d0 v3 hw1 v4 hw2 [.waitR 12, .sendR 16, .waitR 13] p := rfl

set_option maxRecDepth 65536 in
set_option maxHeartbeats 4000000 in
theorem walk20 (d0 : Dev nD) (v2 v3 : BitVec 32) (hw1 : k0_chk1 v3) (v4 : BitVec 32) (hw2 : k0_chk2 v4) (p : Body F) :
    (do
      k0_part28 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      p)
      = runAll d0 v3 hw1 v4 hw2 [.sendR 17, .waitR 14, .sendR 18] p := rfl

set_option maxRecDepth 65536 in
set_option maxHeartbeats 4000000 in
theorem walk21 (d0 : Dev nD) (v2 v3 : BitVec 32) (hw1 : k0_chk1 v3) (v4 : BitVec 32) (hw2 : k0_chk2 v4) (p : Body F) :
    (do
      k0_part29 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 v4 hw2
      p)
      = runAll d0 v3 hw1 v4 hw2 [.waitR 15, .sendR 19] p := rfl

set_option maxRecDepth 65536 in
set_option maxHeartbeats 4000000 in
theorem walk22 (d0 : Dev nD) (v2 v3 : BitVec 32) (hw1 : k0_chk1 v3) (v4 : BitVec 32) (hw2 : k0_chk2 v4) (p : Body F) :
    (do
      k0_part30 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      p)
      = runAll d0 v3 hw1 v4 hw2 [.waitL 12, .sendL 16, .waitL 13] p := rfl

set_option maxRecDepth 65536 in
set_option maxHeartbeats 4000000 in
theorem walk23 (d0 : Dev nD) (v2 v3 : BitVec 32) (hw1 : k0_chk1 v3) (v4 : BitVec 32) (hw2 : k0_chk2 v4) (p : Body F) :
    (do
      let c1_i32_937 : BitVec 32 ← k0_part31 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      let ⟨v835, v842⟩ : Σ' (v835 : FVec F S64x64 .f32), FVec F S64x64 .f32 ← k0_part32 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 c1_i32_937
      let ⟨v873, c0_i32_986⟩ : Σ' (v873 : BitVec 32), BitVec 32 ← k0_part33 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 v835 v842
      k0_part34 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2 v873 c0_i32_986
      p)
      = runAll d0 v3 hw1 v4 hw2 [.sendL 17, .waitL 14, .sendL 18, .waitL 15, .sendL 19, .compR 3, .compL 3, .waitR 16, .sendR 20, .waitR 17] p := rfl

set_option maxRecDepth 65536 in
set_option maxHeartbeats 4000000 in
theorem walk24 (d0 : Dev nD) (v2 v3 : BitVec 32) (hw1 : k0_chk1 v3) (v4 : BitVec 32) (hw2 : k0_chk2 v4) (p : Body F) :
    (do
      k0_part35 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      p)
      = runAll d0 v3 hw1 v4 hw2 [.sendR 21, .waitR 18] p := rfl

set_option maxRecDepth 65536 in
set_option maxHeartbeats 4000000 in
theorem walk25 (d0 : Dev nD) (v2 v3 : BitVec 32) (hw1 : k0_chk1 v3) (v4 : BitVec 32) (hw2 : k0_chk2 v4) (p : Body F) :
    (do
      k0_part36 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 v4 hw2
      p)
      = runAll d0 v3 hw1 v4 hw2 [.sendR 22, .waitR 19, .sendR 23] p := rfl

set_option maxRecDepth 65536 in
set_option maxHeartbeats 4000000 in
theorem walk26 (d0 : Dev nD) (v2 v3 : BitVec 32) (hw1 : k0_chk1 v3) (v4 : BitVec 32) (hw2 : k0_chk2 v4) (p : Body F) :
    (do
      let v971 : BitVec 32 ← k0_part37 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part38 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 v971
      p)
      = runAll d0 v3 hw1 v4 hw2 [.waitL 16, .sendL 20, .waitL 17, .sendL 21, .waitL 18, .sendL 22] p := rfl

set_option maxRecDepth 65536 in
set_option maxHeartbeats 4000000 in
theorem walk27 (d0 : Dev nD) (v2 v3 : BitVec 32) (hw1 : k0_chk1 v3) (v4 : BitVec 32) (hw2 : k0_chk2 v4) (p : Body F) :
    (do
      let ⟨v1021, v1023, v1025⟩ : Σ' (v1021 : FVec F S64x64 .f32) (v1023 : FVec F S64x64 .f32), FVec F S64x64 .f32 ← k0_part39 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part40 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v1021 v1023 v1025
      p)
      = runAll d0 v3 hw1 v4 hw2 [.waitL 19, .sendL 23, .compR 4, .compL 4] p := rfl

set_option maxRecDepth 65536 in
set_option maxHeartbeats 4000000 in
theorem walk28 (d0 : Dev nD) (v2 v3 : BitVec 32) (hw1 : k0_chk1 v3) (v4 : BitVec 32) (hw2 : k0_chk2 v4) (p : Body F) :
    (do
      k0_part41 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      p)
      = runAll d0 v3 hw1 v4 hw2 [.waitR 20, .sendR 24] p := rfl

set_option maxRecDepth 65536 in
set_option maxHeartbeats 4000000 in
theorem walk29 (d0 : Dev nD) (v2 v3 : BitVec 32) (hw1 : k0_chk1 v3) (v4 : BitVec 32) (hw2 : k0_chk2 v4) (p : Body F) :
    (do
      k0_part42 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      p)
      = runAll d0 v3 hw1 v4 hw2 [.waitR 21, .sendR 25, .waitR 22] p := rfl

set_option maxRecDepth 65536 in
set_option maxHeartbeats 4000000 in
theorem walk30 (d0 : Dev nD) (v2 v3 : BitVec 32) (hw1 : k0_chk1 v3) (v4 : BitVec 32) (hw2 : k0_chk2 v4) (p : Body F) :
    (do
      let c1_i32_1295 : BitVec 32 ← k0_part43 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part44 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 c1_i32_1295
      p)
      = runAll d0 v3 hw1 v4 hw2 [.sendR 26, .waitR 23, .sendR 27, .waitL 20, .sendL 24, .waitL 21] p := rfl

set_option maxRecDepth 65536 in
set_option maxHeartbeats 4000000 in
theorem walk31 (d0 : Dev nD) (v2 v3 : BitVec 32) (hw1 : k0_chk1 v3) (v4 : BitVec 32) (hw2 : k0_chk2 v4) (p : Body F) :
    (do
      k0_part45 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      p)
      = runAll d0 v3 hw1 v4 hw2 [.sendL 25, .waitL 22] p := rfl

set_option maxRecDepth 65536 in
set_option maxHeartbeats 4000000 in
theorem walk32 (d0 : Dev nD) (v2 v3 : BitVec 32) (hw1 : k0_chk1 v3) (v4 : BitVec 32) (hw2 : k0_chk2 v4) (p : Body F) :
    (do
      let v1209 : FVec F S64x64 .f32 ← k0_part46 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      let ⟨v1244, v1245, hw14⟩ : Σ' (v1244 : FVec F S64x64 .f32) (v1245 : Elt F .i32), k0_chk14 v1245 ← k0_part47 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v1209
      k0_part48 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2 v1244 v1245 hw14
      p)
      = runAll d0 v3 hw1 v4 hw2 [.sendL 26, .waitL 23, .sendL 27, .compR 5, .compL 5, .waitR 24, .sendR 28] p := rfl

set_option maxRecDepth 65536 in
set_option maxHeartbeats 4000000 in
theorem walk33 (d0 : Dev nD) (v2 v3 : BitVec 32) (hw1 : k0_chk1 v3) (v4 : BitVec 32) (hw2 : k0_chk2 v4) (p : Body F) :
    (do
      let v1293 : BitVec 32 ← k0_part49 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part50 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2 v1293
      p)
      = runAll d0 v3 hw1 v4 hw2 [.waitR 25, .sendR 29, .waitR 26, .sendR 30, .waitR 27, .sendR 31] p := rfl

set_option maxRecDepth 65536 in
set_option maxHeartbeats 4000000 in
theorem walk34 (d0 : Dev nD) (v2 v3 : BitVec 32) (hw1 : k0_chk1 v3) (v4 : BitVec 32) (hw2 : k0_chk2 v4) (p : Body F) :
    (do
      k0_part51 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3
      p)
      = runAll d0 v3 hw1 v4 hw2 [.waitL 24, .waitL 25] p := rfl

set_option maxRecDepth 65536 in
set_option maxHeartbeats 4000000 in
theorem walk35 (d0 : Dev nD) (v2 v3 : BitVec 32) (hw1 : k0_chk1 v3) (v4 : BitVec 32) (hw2 : k0_chk2 v4) (p : Body F) :
    (do
      k0_part52 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3
      p)
      = runAll d0 v3 hw1 v4 hw2 [.waitL 26, .waitL 27, .compR 6] p := rfl

set_option maxRecDepth 65536 in
set_option maxHeartbeats 4000000 in
theorem walk36 (d0 : Dev nD) (v2 v3 : BitVec 32) (hw1 : k0_chk1 v3) (v4 : BitVec 32) (hw2 : k0_chk2 v4) (p : Body F) :
    (do
      k0_part53 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4
      p)
      = runAll d0 v3 hw1 v4 hw2 [.compL 6, .waitR 28] p := rfl

set_option maxRecDepth 65536 in
set_option maxHeartbeats 4000000 in
theorem walk37 (d0 : Dev nD) (v2 v3 : BitVec 32) (hw1 : k0_chk1 v3) (v4 : BitVec 32) (hw2 : k0_chk2 v4) (p : Body F) :
    (do
      k0_part54 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4
      p)
      = runAll d0 v3 hw1 v4 hw2 [.waitR 29, .waitR 30] p := rfl

set_option maxRecDepth 65536 in
set_option maxHeartbeats 4000000 in
theorem walk38 (d0 : Dev nD) (v2 v3 : BitVec 32) (hw1 : k0_chk1 v3) (v4 : BitVec 32) (hw2 : k0_chk2 v4) (p : Body F) :
    (do
      k0_part55 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.waitR 31, .compR 7, .doneR 0] p := rfl

set_option maxRecDepth 65536 in
set_option maxHeartbeats 4000000 in
theorem walk39 (d0 : Dev nD) (v2 v3 : BitVec 32) (hw1 : k0_chk1 v3) (v4 : BitVec 32) (hw2 : k0_chk2 v4) (p : Body F) :
    (do
      k0_part56 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneR 1, .doneR 2, .doneR 3] p := rfl

set_option maxRecDepth 65536 in
set_option maxHeartbeats 4000000 in
theorem walk40 (d0 : Dev nD) (v2 v3 : BitVec 32) (hw1 : k0_chk1 v3) (v4 : BitVec 32) (hw2 : k0_chk2 v4) (p : Body F) :
    (do
      k0_part57 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneR 4, .doneR 5, .doneR 6] p := rfl

set_option maxRecDepth 65536 in
set_option maxHeartbeats 4000000 in
theorem walk41 (d0 : Dev nD) (v2 v3 : BitVec 32) (hw1 : k0_chk1 v3) (v4 : BitVec 32) (hw2 : k0_chk2 v4) (p : Body F) :
    (do
      k0_part58 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneR 7, .doneR 8, .doneR 9, .doneR 10] p := rfl

set_option maxRecDepth 65536 in
set_option maxHeartbeats 4000000 in
theorem walk42 (d0 : Dev nD) (v2 v3 : BitVec 32) (hw1 : k0_chk1 v3) (v4 : BitVec 32) (hw2 : k0_chk2 v4) (p : Body F) :
    (do
      k0_part59 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneR 11, .doneR 12, .doneR 13] p := rfl

set_option maxRecDepth 65536 in
set_option maxHeartbeats 4000000 in
theorem walk43 (d0 : Dev nD) (v2 v3 : BitVec 32) (hw1 : k0_chk1 v3) (v4 : BitVec 32) (hw2 : k0_chk2 v4) (p : Body F) :
    (do
      k0_part60 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneR 14, .doneR 15, .doneR 16] p := rfl

set_option maxRecDepth 65536 in
set_option maxHeartbeats 4000000 in
theorem walk44 (d0 : Dev nD) (v2 v3 : BitVec 32) (hw1 : k0_chk1 v3) (v4 : BitVec 32) (hw2 : k0_chk2 v4) (p : Body F) :
    (do
      k0_part61 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneR 17, .doneR 18, .doneR 19, .doneR 20] p := rfl

set_option maxRecDepth 65536 in
set_option maxHeartbeats 4000000 in
theorem walk45 (d0 : Dev nD) (v2 v3 : BitVec 32) (hw1 : k0_chk1 v3) (v4 : BitVec 32) (hw2 : k0_chk2 v4) (p : Body F) :
    (do
      k0_part62 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneR 21, .doneR 22, .doneR 23] p := rfl

set_option maxRecDepth 65536 in
set_option maxHeartbeats 4000000 in
theorem walk46 (d0 : Dev nD) (v2 v3 : BitVec 32) (hw1 : k0_chk1 v3) (v4 : BitVec 32) (hw2 : k0_chk2 v4) (p : Body F) :
    (do
      k0_part63 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneR 24, .doneR 25, .doneR 26] p := rfl

set_option maxRecDepth 65536 in
set_option maxHeartbeats 4000000 in
theorem walk47 (d0 : Dev nD) (v2 v3 : BitVec 32) (hw1 : k0_chk1 v3) (v4 : BitVec 32) (hw2 : k0_chk2 v4) (p : Body F) :
    (do
      k0_part64 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneR 27, .doneR 28, .doneR 29, .doneR 30] p := rfl

set_option maxRecDepth 65536 in
set_option maxHeartbeats 4000000 in
theorem walk48 (d0 : Dev nD) (v2 v3 : BitVec 32) (hw1 : k0_chk1 v3) (v4 : BitVec 32) (hw2 : k0_chk2 v4) (p : Body F) :
    (do
      k0_part65 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneR 31, .doneL 0, .doneL 1] p := rfl

set_option maxRecDepth 65536 in
set_option maxHeartbeats 4000000 in
theorem walk49 (d0 : Dev nD) (v2 v3 : BitVec 32) (hw1 : k0_chk1 v3) (v4 : BitVec 32) (hw2 : k0_chk2 v4) (p : Body F) :
    (do
      k0_part66 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneL 2, .doneL 3, .doneL 4] p := rfl

set_option maxRecDepth 65536 in
set_option maxHeartbeats 4000000 in
theorem walk50 (d0 : Dev nD) (v2 v3 : BitVec 32) (hw1 : k0_chk1 v3) (v4 : BitVec 32) (hw2 : k0_chk2 v4) (p : Body F) :
    (do
      k0_part67 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneL 5, .doneL 6, .doneL 7, .doneL 8] p := rfl

set_option maxRecDepth 65536 in
set_option maxHeartbeats 4000000 in
theorem walk51 (d0 : Dev nD) (v2 v3 : BitVec 32) (hw1 : k0_chk1 v3) (v4 : BitVec 32) (hw2 : k0_chk2 v4) (p : Body F) :
    (do
      k0_part68 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneL 9, .doneL 10, .doneL 11] p := rfl

set_option maxRecDepth 65536 in
set_option maxHeartbeats 4000000 in
theorem walk52 (d0 : Dev nD) (v2 v3 : BitVec 32) (hw1 : k0_chk1 v3) (v4 : BitVec 32) (hw2 : k0_chk2 v4) (p : Body F) :
    (do
      k0_part69 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneL 12, .doneL 13, .doneL 14] p := rfl

set_option maxRecDepth 65536 in
set_option maxHeartbeats 4000000 in
theorem walk53 (d0 : Dev nD) (v2 v3 : BitVec 32) (hw1 : k0_chk1 v3) (v4 : BitVec 32) (hw2 : k0_chk2 v4) (p : Body F) :
    (do
      k0_part70 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneL 15, .doneL 16, .doneL 17, .doneL 18] p := rfl

set_option maxRecDepth 65536 in
set_option maxHeartbeats 4000000 in
theorem walk54 (d0 : Dev nD) (v2 v3 : BitVec 32) (hw1 : k0_chk1 v3) (v4 : BitVec 32) (hw2 : k0_chk2 v4) (p : Body F) :
    (do
      k0_part71 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneL 19, .doneL 20, .doneL 21] p := rfl

set_option maxRecDepth 65536 in
set_option maxHeartbeats 4000000 in
theorem walk55 (d0 : Dev nD) (v2 v3 : BitVec 32) (hw1 : k0_chk1 v3) (v4 : BitVec 32) (hw2 : k0_chk2 v4) (p : Body F) :
    (do
      k0_part72 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 [.doneL 22, .doneL 23, .doneL 24] p := rfl

set_option maxRecDepth 65536 in
set_option maxHeartbeats 4000000 in
/-- The end of the body. -/
def tailProg : Body F := do
      let v1797 : Memref sig .tc .vmem S1x16x1024 .f32 := A5.slice (Rect.unit (s := S8x64x1024) ![7, 16, 0] S1x16x1024.size Gen.inb_S8x64x1024_S1x16x1024_7_16_0) (fun _ => rfl)
      let v1798 : Memref sig .tc .vmem S16x1024 .f32 := v1797.squeeze S16x1024 Gen.squeezes_S1x16x1024_S16x1024
      let v1793 : DmaSems sig S1x1 := cc0_scratch4.slice (Rect.unit (s := S7x4) ![6, 1] S1x1.size Gen.inb_S7x4_S1x1_6_1)
      let v1794 : DmaSems sig S_ := v1793.squeeze S_ Gen.squeezes_S1x1_S_
      let v1795 : Memref sig .tc .vmem S1x16x1024 .f32 := A5.slice (Rect.unit (s := S8x64x1024) ![6, 16, 0] S1x16x1024.size Gen.inb_S8x64x1024_S1x16x1024_6_16_0) (fun _ => rfl)
      let v1796 : Memref sig .tc .vmem S16x1024 .f32 := v1795.squeeze S16x1024 Gen.squeezes_S1x16x1024_S16x1024
      Prog.lift (.waitDma2 v1794.sem v1798 v1796 ((View.wordExact_bits rfl).reshape _ _) ((View.wordExact_bits rfl).reshape _ _))
      let v1799 : DmaSems sig S1x1 := cc0_scratch4.slice (Rect.unit (s := S7x4) ![6, 2] S1x1.size Gen.inb_S7x4_S1x1_6_2)
      let v1800 : DmaSems sig S_ := v1799.squeeze S_ Gen.squeezes_S1x1_S_
      let v1801 : Memref sig .tc .vmem S1x16x1024 .f32 := A5.slice (Rect.unit (s := S8x64x1024) ![6, 32, 0] S1x16x1024.size Gen.inb_S8x64x1024_S1x16x1024_6_32_0) (fun _ => rfl)
      let v1802 : Memref sig .tc .vmem S16x1024 .f32 := v1801.squeeze S16x1024 Gen.squeezes_S1x16x1024_S16x1024
      let v1803 : Memref sig .tc .vmem S1x16x1024 .f32 := A5.slice (Rect.unit (s := S8x64x1024) ![7, 32, 0] S1x16x1024.size Gen.inb_S8x64x1024_S1x16x1024_7_32_0) (fun _ => rfl)
      let v1804 : Memref sig .tc .vmem S16x1024 .f32 := v1803.squeeze S16x1024 Gen.squeezes_S1x16x1024_S16x1024
      Prog.lift (.waitDma2 v1800.sem v1804 v1802 ((View.wordExact_bits rfl).reshape _ _) ((View.wordExact_bits rfl).reshape _ _))
      let v1805 : DmaSems sig S1x1 := cc0_scratch4.slice (Rect.unit (s := S7x4) ![6, 3] S1x1.size Gen.inb_S7x4_S1x1_6_3)
      let v1806 : DmaSems sig S_ := v1805.squeeze S_ Gen.squeezes_S1x1_S_
      let v1807 : Memref sig .tc .vmem S1x16x1024 .f32 := A5.slice (Rect.unit (s := S8x64x1024) ![6, 48, 0] S1x16x1024.size Gen.inb_S8x64x1024_S1x16x1024_6_48_0) (fun _ => rfl)
      let v1808 : Memref sig .tc .vmem S16x1024 .f32 := v1807.squeeze S16x1024 Gen.squeezes_S1x16x1024_S16x1024
      let v1809 : Memref sig .tc .vmem S1x16x1024 .f32 := A5.slice (Rect.unit (s := S8x64x1024) ![7, 48, 0] S1x16x1024.size Gen.inb_S8x64x1024_S1x16x1024_7_48_0) (fun _ => rfl)
      let v1810 : Memref sig .tc .vmem S16x1024 .f32 := v1809.squeeze S16x1024 Gen.squeezes_S1x16x1024_S16x1024
      Prog.lift (.waitDma2 v1806.sem v1810 v1808 ((View.wordExact_bits rfl).reshape _ _) ((View.wordExact_bits rfl).reshape _ _))
      pure ⟨⟩

theorem walkTail (d0 : Dev nD) (v3 : BitVec 32) (hw1 : k0_chk1 v3) (v4 : BitVec 32) (hw2 : k0_chk2 v4) :
    tailProg (F := F)
      = runAll d0 v3 hw1 v4 hw2 [.doneL 25, .doneL 26, .doneL 27] (.ret ⟨⟩) := rfl

end Cert.KernelIdeal.Own

end
-- ==== Proof.Ideal.BodyEq.lean ====
/- The kernel's body whole: the prologue, then the list of steps. -/
module

public import proofs.«01_k».proof.Proof.Ideal.Walk

@[expose] public section

noncomputable section

namespace Cert.KernelIdeal.Own

open Idealize.ShloMosaic Idealize.ShloMosaic.TcCoe
open Idealize.SL Idealize.SL.Sem
open Cert.KernelIdeal.Gen

variable {F : FTy → Type} [FloatOps F]

/-- The steps after the prologue. -/
def steps : List Step :=
  [.sendR 0, .sendL 0, .sendR 1, .sendL 1, .sendR 2, .sendL 2, .sendR 3, .sendL 3, .own, .waitR 0,
   .sendR 4, .waitR 1, .sendR 5, .waitR 2, .sendR 6, .waitR 3, .sendR 7, .waitL 0, .sendL 4, .waitL 1,
   .sendL 5, .waitL 2, .sendL 6, .waitL 3, .sendL 7, .compR 0, .compL 0, .waitR 4, .sendR 8, .waitR 5,
   .sendR 9, .waitR 6, .sendR 10, .waitR 7, .sendR 11, .waitL 4, .sendL 8, .waitL 5, .sendL 9, .waitL 6,
   .sendL 10, .waitL 7, .sendL 11, .compR 1, .compL 1, .waitR 8, .sendR 12, .waitR 9, .sendR 13, .waitR 10,
   .sendR 14, .waitR 11, .sendR 15, .waitL 8, .sendL 12, .waitL 9, .sendL 13, .waitL 10, .sendL 14, .waitL 11,
   .sendL 15, .compR 2, .compL 2, .waitR 12, .sendR 16, .waitR 13, .sendR 17, .waitR 14, .sendR 18, .waitR 15,
   .sendR 19, .waitL 12, .sendL 16, .waitL 13, .sendL 17, .waitL 14, .sendL 18, .waitL 15, .sendL 19, .compR 3,
   .compL 3, .waitR 16, .sendR 20, .waitR 17, .sendR 21, .waitR 18, .sendR 22, .waitR 19, .sendR 23, .waitL 16,
   .sendL 20, .waitL 17, .sendL 21, .waitL 18, .sendL 22, .waitL 19, .sendL 23, .compR 4, .compL 4, .waitR 20,
   .sendR 24, .waitR 21, .sendR 25, .waitR 22, .sendR 26, .waitR 23, .sendR 27, .waitL 20, .sendL 24, .waitL 21,
   .sendL 25, .waitL 22, .sendL 26, .waitL 23, .sendL 27, .compR 5, .compL 5, .waitR 24, .sendR 28, .waitR 25,
   .sendR 29, .waitR 26, .sendR 30, .waitR 27, .sendR 31, .waitL 24, .waitL 25, .waitL 26, .waitL 27, .compR 6,
   .compL 6, .waitR 28, .waitR 29, .waitR 30, .waitR 31, .compR 7, .doneR 0, .doneR 1, .doneR 2, .doneR 3,
   .doneR 4, .doneR 5, .doneR 6, .doneR 7, .doneR 8, .doneR 9, .doneR 10, .doneR 11, .doneR 12, .doneR 13,
   .doneR 14, .doneR 15, .doneR 16, .doneR 17, .doneR 18, .doneR 19, .doneR 20, .doneR 21, .doneR 22, .doneR 23,
   .doneR 24, .doneR 25, .doneR 26, .doneR 27, .doneR 28, .doneR 29, .doneR 30, .doneR 31, .doneL 0, .doneL 1,
   .doneL 2, .doneL 3, .doneL 4, .doneL 5, .doneL 6, .doneL 7, .doneL 8, .doneL 9, .doneL 10, .doneL 11,
   .doneL 12, .doneL 13, .doneL 14, .doneL 15, .doneL 16, .doneL 17, .doneL 18, .doneL 19, .doneL 20, .doneL 21,
   .doneL 22, .doneL 23, .doneL 24, .doneL 25, .doneL 26, .doneL 27]

/-- The steps of the first sixty parts. -/
def stepsA : List Step := steps.take 153
/-- The others. -/
def stepsB : List Step := steps.drop 153

theorem runAll_bind (d0 : Dev nD) (v3 : BitVec 32) (hw1 : k0_chk1 v3) (v4 : BitVec 32) (hw2 : k0_chk2 v4) (l : List Step) (p : Body F) (k : PUnit → Body F) :
    Prog.bind (runAll d0 v3 hw1 v4 hw2 l p) k = runAll d0 v3 hw1 v4 hw2 l (Prog.bind p k) := by
  induction l with
  | nil => rfl
  | cons s l ih =>
    cases s <;> simp only [runAll] <;> rw [← ih] <;> rfl

set_option maxRecDepth 65536 in
set_option maxHeartbeats 4000000 in
/-- The first sixty parts after the prologue. -/
theorem walkA (d0 : Dev nD) (v2 v3 : BitVec 32) (hw1 : k0_chk1 v3) (v4 : BitVec 32) (hw2 : k0_chk2 v4) (p : Body F) :
    (do
      k0_part2 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 v4 hw2
      k0_part3 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 v4 hw2
      let v101 : FVec F S64x1024 .f32 ← k0_part4 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 v4 hw2
      k0_part5 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 d0 v2 v4 v101
      k0_part6 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part7 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part8 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 v4 hw2
      let ⟨v229, c0_i32_268⟩ : Σ' (v229 : BitVec 32), BitVec 32 ← k0_part9 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part10 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 v229 c0_i32_268
      let v287 : Vec F S1x64x1024 .f32 ← k0_part11 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part12 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 v287
      k0_part13 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part14 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part15 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 v4 hw2
      k0_part16 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part17 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      let ⟨v470, v471, k0_hw5⟩ : Σ' (v470 : FVec F S64x64 .f32) (v471 : Elt F .i32), k0_chk5 v471 ← k0_part18 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part19 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 v470 v471 k0_hw5
      k0_part20 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      let ⟨v551, c0_i32_627⟩ : Σ' (v551 : BitVec 32), BitVec 32 ← k0_part21 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part22 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 v4 hw2 v551 c0_i32_627
      k0_part23 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part24 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      let v658 : FVec F S64x64 .f32 ← k0_part25 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part26 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 v658
      k0_part27 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part28 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part29 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 v4 hw2
      k0_part30 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      let c1_i32_937 : BitVec 32 ← k0_part31 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      let ⟨v835, v842⟩ : Σ' (v835 : FVec F S64x64 .f32), FVec F S64x64 .f32 ← k0_part32 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 c1_i32_937
      let ⟨v873, c0_i32_986⟩ : Σ' (v873 : BitVec 32), BitVec 32 ← k0_part33 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 v835 v842
      k0_part34 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2 v873 c0_i32_986
      k0_part35 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part36 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 v4 hw2
      let v971 : BitVec 32 ← k0_part37 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part38 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 v971
      let ⟨v1021, v1023, v1025⟩ : Σ' (v1021 : FVec F S64x64 .f32) (v1023 : FVec F S64x64 .f32), FVec F S64x64 .f32 ← k0_part39 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      k0_part40 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v1021 v1023 v1025
      k0_part41 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part42 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      let c1_i32_1295 : BitVec 32 ← k0_part43 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part44 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1 c1_i32_1295
      k0_part45 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      let v1209 : FVec F S64x64 .f32 ← k0_part46 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3 hw1
      let ⟨v1244, v1245, hw14⟩ : Σ' (v1244 : FVec F S64x64 .f32) (v1245 : Elt F .i32), k0_chk14 v1245 ← k0_part47 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v1209
      k0_part48 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2 v1244 v1245 hw14
      let v1293 : BitVec 32 ← k0_part49 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2
      k0_part50 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4 hw2 v1293
      k0_part51 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3
      k0_part52 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v3
      k0_part53 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4
      k0_part54 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5 v4
      k0_part55 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part56 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part57 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part58 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part59 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part60 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      p)
      = runAll d0 v3 hw1 v4 hw2 stepsA p :=
    (walk0 d0 v2 v3 hw1 v4 hw2 _).trans (congrArg (runAll d0 v3 hw1 v4 hw2 _) (
    (walk1 d0 v2 v3 hw1 v4 hw2 _).trans (congrArg (runAll d0 v3 hw1 v4 hw2 _) (
    (walk2 d0 v2 v3 hw1 v4 hw2 _).trans (congrArg (runAll d0 v3 hw1 v4 hw2 _) (
    (walk3 d0 v2 v3 hw1 v4 hw2 _).trans (congrArg (runAll d0 v3 hw1 v4 hw2 _) (
    (walk4 d0 v2 v3 hw1 v4 hw2 _).trans (congrArg (runAll d0 v3 hw1 v4 hw2 _) (
    (walk5 d0 v2 v3 hw1 v4 hw2 _).trans (congrArg (runAll d0 v3 hw1 v4 hw2 _) (
    (walk6 d0 v2 v3 hw1 v4 hw2 _).trans (congrArg (runAll d0 v3 hw1 v4 hw2 _) (
    (walk7 d0 v2 v3 hw1 v4 hw2 _).trans (congrArg (runAll d0 v3 hw1 v4 hw2 _) (
    (walk8 d0 v2 v3 hw1 v4 hw2 _).trans (congrArg (runAll d0 v3 hw1 v4 hw2 _) (
    (walk9 d0 v2 v3 hw1 v4 hw2 _).trans (congrArg (runAll d0 v3 hw1 v4 hw2 _) (
    (walk10 d0 v2 v3 hw1 v4 hw2 _).trans (congrArg (runAll d0 v3 hw1 v4 hw2 _) (
    (walk11 d0 v2 v3 hw1 v4 hw2 _).trans (congrArg (runAll d0 v3 hw1 v4 hw2 _) (
    (walk12 d0 v2 v3 hw1 v4 hw2 _).trans (congrArg (runAll d0 v3 hw1 v4 hw2 _) (
    (walk13 d0 v2 v3 hw1 v4 hw2 _).trans (congrArg (runAll d0 v3 hw1 v4 hw2 _) (
    (walk14 d0 v2 v3 hw1 v4 hw2 _).trans (congrArg (runAll d0 v3 hw1 v4 hw2 _) (
    (walk15 d0 v2 v3 hw1 v4 hw2 _).trans (congrArg (runAll d0 v3 hw1 v4 hw2 _) (
    (walk16 d0 v2 v3 hw1 v4 hw2 _).trans (congrArg (runAll d0 v3 hw1 v4 hw2 _) (
    (walk17 d0 v2 v3 hw1 v4 hw2 _).trans (congrArg (runAll d0 v3 hw1 v4 hw2 _) (
    (walk18 d0 v2 v3 hw1 v4 hw2 _).trans (congrArg (runAll d0 v3 hw1 v4 hw2 _) (
    (walk19 d0 v2 v3 hw1 v4 hw2 _).trans (congrArg (runAll d0 v3 hw1 v4 hw2 _) (
    (walk20 d0 v2 v3 hw1 v4 hw2 _).trans (congrArg (runAll d0 v3 hw1 v4 hw2 _) (
    (walk21 d0 v2 v3 hw1 v4 hw2 _).trans (congrArg (runAll d0 v3 hw1 v4 hw2 _) (
    (walk22 d0 v2 v3 hw1 v4 hw2 _).trans (congrArg (runAll d0 v3 hw1 v4 hw2 _) (
    (walk23 d0 v2 v3 hw1 v4 hw2 _).trans (congrArg (runAll d0 v3 hw1 v4 hw2 _) (
    (walk24 d0 v2 v3 hw1 v4 hw2 _).trans (congrArg (runAll d0 v3 hw1 v4 hw2 _) (
    (walk25 d0 v2 v3 hw1 v4 hw2 _).trans (congrArg (runAll d0 v3 hw1 v4 hw2 _) (
    (walk26 d0 v2 v3 hw1 v4 hw2 _).trans (congrArg (runAll d0 v3 hw1 v4 hw2 _) (
    (walk27 d0 v2 v3 hw1 v4 hw2 _).trans (congrArg (runAll d0 v3 hw1 v4 hw2 _) (
    (walk28 d0 v2 v3 hw1 v4 hw2 _).trans (congrArg (runAll d0 v3 hw1 v4 hw2 _) (
    (walk29 d0 v2 v3 hw1 v4 hw2 _).trans (congrArg (runAll d0 v3 hw1 v4 hw2 _) (
    (walk30 d0 v2 v3 hw1 v4 hw2 _).trans (congrArg (runAll d0 v3 hw1 v4 hw2 _) (
    (walk31 d0 v2 v3 hw1 v4 hw2 _).trans (congrArg (runAll d0 v3 hw1 v4 hw2 _) (
    (walk32 d0 v2 v3 hw1 v4 hw2 _).trans (congrArg (runAll d0 v3 hw1 v4 hw2 _) (
    (walk33 d0 v2 v3 hw1 v4 hw2 _).trans (congrArg (runAll d0 v3 hw1 v4 hw2 _) (
    (walk34 d0 v2 v3 hw1 v4 hw2 _).trans (congrArg (runAll d0 v3 hw1 v4 hw2 _) (
    (walk35 d0 v2 v3 hw1 v4 hw2 _).trans (congrArg (runAll d0 v3 hw1 v4 hw2 _) (
    (walk36 d0 v2 v3 hw1 v4 hw2 _).trans (congrArg (runAll d0 v3 hw1 v4 hw2 _) (
    (walk37 d0 v2 v3 hw1 v4 hw2 _).trans (congrArg (runAll d0 v3 hw1 v4 hw2 _) (
    (walk38 d0 v2 v3 hw1 v4 hw2 _).trans (congrArg (runAll d0 v3 hw1 v4 hw2 _) (
    (walk39 d0 v2 v3 hw1 v4 hw2 _).trans (congrArg (runAll d0 v3 hw1 v4 hw2 _) (
    (walk40 d0 v2 v3 hw1 v4 hw2 _).trans (congrArg (runAll d0 v3 hw1 v4 hw2 _) (
    (walk41 d0 v2 v3 hw1 v4 hw2 _).trans (congrArg (runAll d0 v3 hw1 v4 hw2 _) (
    (walk42 d0 v2 v3 hw1 v4 hw2 _).trans (congrArg (runAll d0 v3 hw1 v4 hw2 _) (
    (walk43 d0 v2 v3 hw1 v4 hw2 _).trans (congrArg (runAll d0 v3 hw1 v4 hw2 _) (
    rfl))))))))))))))))))))))))))))))))))))))))))))))))))))))))))))))))))))))))))))))))))))))))

set_option maxRecDepth 65536 in
set_option maxHeartbeats 4000000 in
/-- The parts that end the body. -/
theorem walkB (d0 : Dev nD) (v2 v3 : BitVec 32) (hw1 : k0_chk1 v3) (v4 : BitVec 32) (hw2 : k0_chk2 v4) :
    (do
      k0_part61 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part62 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part63 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part64 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part65 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part66 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part67 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part68 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part69 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part70 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part71 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      k0_part72 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5
      tailProg (F := F))
      = runAll d0 v3 hw1 v4 hw2 stepsB (.ret ⟨⟩) :=
    (walk44 d0 v2 v3 hw1 v4 hw2 _).trans (congrArg (runAll d0 v3 hw1 v4 hw2 _) (
    (walk45 d0 v2 v3 hw1 v4 hw2 _).trans (congrArg (runAll d0 v3 hw1 v4 hw2 _) (
    (walk46 d0 v2 v3 hw1 v4 hw2 _).trans (congrArg (runAll d0 v3 hw1 v4 hw2 _) (
    (walk47 d0 v2 v3 hw1 v4 hw2 _).trans (congrArg (runAll d0 v3 hw1 v4 hw2 _) (
    (walk48 d0 v2 v3 hw1 v4 hw2 _).trans (congrArg (runAll d0 v3 hw1 v4 hw2 _) (
    (walk49 d0 v2 v3 hw1 v4 hw2 _).trans (congrArg (runAll d0 v3 hw1 v4 hw2 _) (
    (walk50 d0 v2 v3 hw1 v4 hw2 _).trans (congrArg (runAll d0 v3 hw1 v4 hw2 _) (
    (walk51 d0 v2 v3 hw1 v4 hw2 _).trans (congrArg (runAll d0 v3 hw1 v4 hw2 _) (
    (walk52 d0 v2 v3 hw1 v4 hw2 _).trans (congrArg (runAll d0 v3 hw1 v4 hw2 _) (
    (walk53 d0 v2 v3 hw1 v4 hw2 _).trans (congrArg (runAll d0 v3 hw1 v4 hw2 _) (
    (walk54 d0 v2 v3 hw1 v4 hw2 _).trans (congrArg (runAll d0 v3 hw1 v4 hw2 _) (
    (walk55 d0 v2 v3 hw1 v4 hw2 _).trans (congrArg (runAll d0 v3 hw1 v4 hw2 _) (
    walkTail d0 v3 hw1 v4 hw2))))))))))))))))))))))))

set_option maxRecDepth 65536 in
set_option maxHeartbeats 4000000 in
/-- The body at the grid's point: the prologue, then the steps. -/
theorem body_eq (t : Fin grid0.N) :
    bodyAt0 (F := F) t
      = Prog.bind (k0_part1 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5) fun r => runAll r.1 r.2.2.1 r.2.2.2.1 r.2.2.2.2.1 r.2.2.2.2.2 steps (.ret ⟨⟩) := by
  refine (Prog.bind_assoc (k0_part1 (F := F) A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5) _ _).trans (congrArg (Prog.bind _) (funext fun r => ?_))
  obtain ⟨d0, v2, v3, hw1, v4, hw2⟩ := r
  refine ((congrArg (fun q => Prog.bind q _) (walkA d0 v2 v3 hw1 v4 hw2 (.ret ⟨⟩))).trans (runAll_bind d0 v3 hw1 v4 hw2 stepsA _ _)).trans ?_
  exact congrArg (runAll d0 v3 hw1 v4 hw2 stepsA) (walkB d0 v2 v3 hw1 v4 hw2)

end Cert.KernelIdeal.Own

end
-- ==== Proof.Ideal.Run.lean ====
/- A whole list of steps: counts say how far a device has come, each step is allowed at certain counts, and a
   list all of whose steps are allowed takes the device from the first counts to the last. -/
module

public import proofs.«01_k».proof.Proof.Ideal.Blocks
public import proofs.«01_k».proof.Proof.Ideal.BodyEq

@[expose] public section

set_option maxRecDepth 8000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.isDefEq.respectTransparency.types false

variable {F : FTy → Type} [FloatOps F]

local notation "𝕄" => MT nD τ sig Unit (Elt F) ℕ UU ℕ

/-- How far a device has come: copies made, chunks arrived, copies known to have left, on either side. -/
structure Cnt where
  sR : ℕ
  wR : ℕ
  eR : ℕ
  sL : ℕ
  wL : ℕ
  eL : ℕ
deriving DecidableEq

/-- The counts after a step. -/
def Cnt.next (n : Cnt) : Step → Cnt
  | .sendR _ => { n with sR := n.sR + 1 }
  | .sendL _ => { n with sL := n.sL + 1 }
  | .waitR _ => { n with wR := n.wR + 1 }
  | .waitL _ => { n with wL := n.wL + 1 }
  | .doneR _ => { n with eR := n.eR + 1 }
  | .doneL _ => { n with eL := n.eL + 1 }
  | _ => n

/-- When a step is allowed. A wait needs every copy of its hop and of the hops before to have been made. -/
def Cnt.ok (n : Cnt) : Step → Prop
  | .sendR i => i = n.sR ∧ i < 32 ∧ n.eR ≤ i ∧ i < n.wR + 4
  | .sendL i => i = n.sL ∧ i < 28 ∧ n.eL ≤ i ∧ i < n.wL + 4
  | .waitR i => i = n.wR ∧ i < 32 ∧ n.sR ≤ i + 4 ∧ (i / 4 < n.sR / 4 ∨ n.sR = 32) ∧ (i / 4 < n.sL / 4 ∨ n.sL = 28)
  | .waitL i => i = n.wL ∧ i < 28 ∧ n.sL ≤ i + 4 ∧ (i / 4 < n.sL / 4 ∨ n.sL = 28) ∧ (i / 4 < n.sR / 4 ∨ n.sR = 32)
  | .doneR i => i = n.eR ∧ i < 32 ∧ n.sR = 32 ∧ n.sL = 28
  | .doneL i => i = n.eL ∧ i < 28 ∧ n.sR = 32 ∧ n.sL = 28
  | .own => True
  | .compR h => h < 8 ∧ n.wR ≤ 32 ∧ 4 * h + 4 ≤ n.wR
  | .compL h => h < 7 ∧ n.wL ≤ 28 ∧ 4 * h + 4 ≤ n.wL

instance (n : Cnt) (s : Step) : Decidable (n.ok s) := by cases s <;> unfold Cnt.ok <;> infer_instance

def Cnt.nextAll (n : Cnt) : List Step → Cnt
  | [] => n
  | s :: l => (n.next s).nextAll l

def Cnt.okAll (n : Cnt) : List Step → Bool
  | [] => true
  | s :: l => decide (n.ok s) && (n.next s).okAll l

/-- The blocks of the result that are done after a step, after a list of steps. -/
def blkOf (c : Dev nD) : Step → Finset (Dev nD)
  | .own => {c}
  | .compR h => {back c (h + 1)}
  | .compL h => {ahead c (h + 1)}
  | _ => ∅
def dnAll (c : Dev nD) (dn : Finset (Dev nD)) : List Step → Finset (Dev nD)
  | [] => dn
  | s :: l => dnAll c (blkOf c s ∪ dn) l

theorem mem_dnAll (c d : Dev nD) (l : List Step) (dn : Finset (Dev nD)) (h : d ∈ dn ∨ ∃ s ∈ l, d ∈ blkOf c s) : d ∈ dnAll c dn l := by
  induction l generalizing dn with
  | nil =>
    rcases h with h | ⟨s, hs, -⟩
    · exact h
    · exact absurd hs List.not_mem_nil
  | cons s l ih =>
    refine ih _ ?_
    rcases h with h | ⟨s', hs, hd⟩
    · exact Or.inl (Finset.mem_union_right _ h)
    · rcases List.mem_cons.mp hs with rfl | hs
      · exact Or.inl (Finset.mem_union_left _ hd)
      · exact Or.inr ⟨s', hs, hd⟩

variable (X : Dev nD → Vec F S64x1024 .f32) (W : Dev nD → Vec F S1024x64 .f32)

/-- A device's standing. -/
def stand (c : Dev nD) (n : Cnt) (dn : Finset (Dev nD)) : sProp 𝕄 :=
  iprop(stR X c n.sR n.wR n.eR ∗ stL X c n.sL n.wL n.eL ∗ owing c n.sR n.sL ∗ stg X W c dn)

section

variable (K : GSem nD τ sig → ℕ) (c : Dev nD) (hw1 : k0_chk1 (word (lf c))) (hw2 : k0_chk2 (word (rt c)))
variable (p : Body F) (Q : PUnit.{1} → sProp (MT nD τ sig Unit (Elt F) ℕ UU ℕ))

theorem step_run (n : Cnt) (dn : Finset (Dev nD)) (s : Step) (h : n.ok s) :
    iprop(pers X K c ∗ stand X W c n dn)
      ⊢ iprop((stand X W c (n.next s) (blkOf c s ∪ dn) -∗ wp frame (wpE (defs₀ (F := F)) 𝒱₀ c none) Set.univ p Q)
        -∗ wp frame (wpE (defs₀ (F := F)) 𝒱₀ c none) Set.univ (Step.run c (word (lf c)) hw1 (word (rt c)) hw2 s p) Q) := by
  unfold stand
  cases s with
  | sendR i =>
    obtain ⟨rfl, h1, h2, h3⟩ := h
    iintro ⟨#HP, HR, HL, HO, HS⟩ Hk
    iapply (sendR_run X K c (word (lf c)) hw1 hw2 p Q n.sR n.wR n.eR n.sL h1 h2 h3) $$ [HR HO]
    · isplitr; · iexact HP
      isplitl [HR]; · iexact HR
      iexact HO
    iintro ⟨HR, HO⟩
    iapply Hk
    isplitl [HR]; · iexact HR
    isplitl [HL]; · iexact HL
    isplitl [HO]; · iexact HO
    rw [show blkOf c (.sendR n.sR) ∪ dn = dn from Finset.empty_union dn]
    iexact HS
  | sendL i =>
    obtain ⟨rfl, h1, h2, h3⟩ := h
    iintro ⟨#HP, HR, HL, HO, HS⟩ Hk
    iapply (sendL_run X K c (word (rt c)) hw1 hw2 p Q n.sL n.wL n.eL n.sR h1 h2 h3) $$ [HL HO]
    · isplitr; · iexact HP
      isplitl [HL]; · iexact HL
      iexact HO
    iintro ⟨HL, HO⟩
    iapply Hk
    isplitl [HR]; · iexact HR
    isplitl [HL]; · iexact HL
    isplitl [HO]; · iexact HO
    rw [show blkOf c (.sendL n.sL) ∪ dn = dn from Finset.empty_union dn]
    iexact HS
  | waitR i =>
    obtain ⟨rfl, h1, h2, h3, h4⟩ := h
    iintro ⟨#HP, HR, HL, HO, HS⟩ Hk
    iapply (waitR_run X K c (word (lf c)) hw1 hw2 p Q n.sR n.wR n.eR n.sL h1 h2 (fun i hi hi' => by omega) (fun i hi hi' => by omega)) $$ [HR HO]
    · isplitr; · iexact HP
      isplitl [HR]; · iexact HR
      iexact HO
    iintro ⟨HR, HO⟩
    iapply Hk
    isplitl [HR]; · iexact HR
    isplitl [HL]; · iexact HL
    isplitl [HO]; · iexact HO
    rw [show blkOf c (.waitR n.wR) ∪ dn = dn from Finset.empty_union dn]
    iexact HS
  | waitL i =>
    obtain ⟨rfl, h1, h2, h3, h4⟩ := h
    iintro ⟨#HP, HR, HL, HO, HS⟩ Hk
    iapply (waitL_run X K c (word (rt c)) hw1 hw2 p Q n.sL n.wL n.eL n.sR h1 h2 (fun i hi hi' => by omega) (fun i hi hi' => by omega)) $$ [HL HO]
    · isplitr; · iexact HP
      isplitl [HL]; · iexact HL
      iexact HO
    iintro ⟨HL, HO⟩
    iapply Hk
    isplitl [HR]; · iexact HR
    isplitl [HL]; · iexact HL
    isplitl [HO]; · iexact HO
    rw [show blkOf c (.waitL n.wL) ∪ dn = dn from Finset.empty_union dn]
    iexact HS
  | doneR i =>
    obtain ⟨rfl, h1, h2, h3⟩ := h
    dsimp only [Cnt.next]
    rw [h2, h3]
    iintro ⟨#HP, HR, HL, HO, HS⟩ Hk
    iapply (doneR_run X K c (word (lf c)) hw1 hw2 p Q n.wR n.eR h1) $$ [HR HO]
    · isplitr; · iexact HP
      isplitl [HR]; · iexact HR
      iexact HO
    iintro ⟨HR, HO⟩
    iapply Hk
    isplitl [HR]; · iexact HR
    isplitl [HL]; · iexact HL
    isplitl [HO]; · iexact HO
    rw [show blkOf c (.doneR n.eR) ∪ dn = dn from Finset.empty_union dn]
    iexact HS
  | doneL i =>
    obtain ⟨rfl, h1, h2, h3⟩ := h
    dsimp only [Cnt.next]
    rw [h2, h3]
    iintro ⟨#HP, HR, HL, HO, HS⟩ Hk
    iapply (doneL_run X K c (word (rt c)) hw1 hw2 p Q n.wL n.eL h1) $$ [HL HO]
    · isplitr; · iexact HP
      isplitl [HL]; · iexact HL
      iexact HO
    iintro ⟨HL, HO⟩
    iapply Hk
    isplitl [HR]; · iexact HR
    isplitl [HL]; · iexact HL
    isplitl [HO]; · iexact HO
    rw [show blkOf c (.doneL n.eL) ∪ dn = dn from Finset.empty_union dn]
    iexact HS
  | own =>
    iintro ⟨-, HR, HL, HO, HS⟩ Hk
    iapply (own_run X W c p Q dn (word (lf c)) (word (rt c)) hw1 hw2) $$ HS
    iintro HS
    iapply Hk
    isplitl [HR]; · iexact HR
    isplitl [HL]; · iexact HL
    isplitl [HO]; · iexact HO
    iexact HS
  | compR i =>
    obtain ⟨h1, h2, h3⟩ := h
    iintro ⟨-, HR, HL, HO, HS⟩ Hk
    iapply (compR_run X W c p Q dn (word (lf c)) (word (rt c)) hw1 hw2 n.sR n.wR n.eR i h1 h2 h3) $$ [HR HS]
    · isplitl [HR]; · iexact HR
      iexact HS
    iintro ⟨HR, HS⟩
    iapply Hk
    isplitl [HR]; · iexact HR
    isplitl [HL]; · iexact HL
    isplitl [HO]; · iexact HO
    iexact HS
  | compL i =>
    obtain ⟨h1, h2, h3⟩ := h
    iintro ⟨-, HR, HL, HO, HS⟩ Hk
    iapply (compL_run X W c p Q dn (word (lf c)) (word (rt c)) hw1 hw2 n.sL n.wL n.eL i h1 h2 h3) $$ [HL HS]
    · isplitl [HL]; · iexact HL
      iexact HS
    iintro ⟨HL, HS⟩
    iapply Hk
    isplitl [HR]; · iexact HR
    isplitl [HL]; · iexact HL
    isplitl [HO]; · iexact HO
    iexact HS

theorem all_run (l : List Step) (n : Cnt) (dn : Finset (Dev nD)) (h : n.okAll l = true) :
    iprop(pers X K c ∗ stand X W c n dn)
      ⊢ iprop((stand X W c (n.nextAll l) (dnAll c dn l) -∗ wp frame (wpE (defs₀ (F := F)) 𝒱₀ c none) Set.univ p Q)
        -∗ wp frame (wpE (defs₀ (F := F)) 𝒱₀ c none) Set.univ (runAll c (word (lf c)) hw1 (word (rt c)) hw2 l p) Q) := by
  induction l generalizing n dn with
  | nil =>
    iintro ⟨-, H⟩ Hk
    iapply Hk
    iexact H
  | cons s l ih =>
    have h' := Bool.and_eq_true_iff.mp h
    iintro ⟨#HP, H⟩ Hk
    dsimp only [runAll]
    iapply (step_run X W K c hw1 hw2 _ Q n dn s (of_decide_eq_true h'.1)) $$ [H]
    · isplitr; · iexact HP
      iexact H
    iintro H
    iapply (ih (n.next s) (blkOf c s ∪ dn) h'.2) $$ [H]
    · isplitr; · iexact HP
      iexact H
    iintro H
    iapply Hk
    iexact H

end

/-! ## The kernel's steps -/

/-- The counts before the first step and after the last. -/
def cnt0 : Cnt := ⟨0, 0, 0, 0, 0, 0⟩
def cnt1 : Cnt := ⟨32, 32, 32, 28, 28, 28⟩

theorem steps_ok : cnt0.okAll steps = true := by decide +kernel
theorem steps_end : cnt0.nextAll steps = cnt1 := by decide +kernel

theorem steps_own : Step.own ∈ steps := by unfold steps; simp only [List.mem_cons, true_or, or_true]
theorem steps_compR (h : ℕ) (hh : h < 8) : Step.compR h ∈ steps := by
  interval_cases h <;> (unfold steps; simp only [List.mem_cons, true_or, or_true])
theorem steps_compL (h : ℕ) (hh : h < 7) : Step.compL h ∈ steps := by
  interval_cases h <;> (unfold steps; simp only [List.mem_cons, true_or, or_true])

/-- After the last step every block is done. -/
theorem steps_done (c d : Dev nD) : d ∈ dnAll c ∅ steps := by
  refine mem_dnAll c d steps ∅ (Or.inr ?_)
  rcases done_all c d with rfl | ⟨h, hh, rfl⟩ | ⟨h, hh, rfl⟩
  · exact ⟨.own, steps_own, Finset.mem_singleton_self _⟩
  · exact ⟨.compR h, steps_compR h hh, Finset.mem_singleton_self _⟩
  · exact ⟨.compL h, steps_compL h hh, Finset.mem_singleton_self _⟩

end Cert.KernelIdeal.Own

end
-- ==== Proof.Ideal.Slots.lean ====
/- The slots of a device: split into chunks at the start, whole again at the end, and the first of each ring
   filled with the device's own rows. -/
module

public import proofs.«01_k».proof.Proof.Ideal.Run

@[expose] public section

set_option maxRecDepth 8000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx

set_option backward.isDefEq.respectTransparency.types false

variable {F : FTy → Type} [FloatOps F]

local notation "𝕄" => MT nD τ sig Unit (Elt F) ℕ UU ℕ

variable (X : Dev nD → Vec F S64x1024 .f32)

theorem noR_lt (i : S9x64x1024.Idx) : noR i < 36 := by
  have h0 : (i 0).val < 9 := (i 0).isLt
  have h1 : (i 1).val < 64 := (i 1).isLt
  unfold noR; omega
theorem noL_lt (i : S8x64x1024.Idx) : noL i < 32 := by
  have h0 : (i 0).val < 8 := (i 0).isLt
  have h1 : (i 1).val < 64 := (i 1).isLt
  unfold noL; omega

/-- The first slot of a ring. -/
def ownR : Finset S9x64x1024.Idx := (Finset.Ico 0 4).biUnion setR
def ownL : Finset S8x64x1024.Idx := (Finset.Ico 0 4).biUnion setL

theorem mem_upR (n k : ℕ) (i : S9x64x1024.Idx) (h : k + n ≤ 36) : i ∈ (Finset.Ico 0 n).biUnion (fun t => setR (t + k)) ↔ k ≤ noR i ∧ noR i < n + k := by
  rw [Finset.mem_biUnion]
  constructor
  · rintro ⟨t, ht, hi⟩
    have h1 := Finset.mem_Ico.mp ht
    have h2 := (mem_chR (t + k) (by omega) i).mp hi
    omega
  · rintro ⟨h1, h2⟩
    exact ⟨noR i - k, Finset.mem_Ico.mpr ⟨Nat.zero_le _, by omega⟩, (mem_chR _ (by omega) i).mpr (by omega)⟩
theorem mem_upL (n k : ℕ) (i : S8x64x1024.Idx) (h : k + n ≤ 32) : i ∈ (Finset.Ico 0 n).biUnion (fun t => setL (t + k)) ↔ k ≤ noL i ∧ noL i < n + k := by
  rw [Finset.mem_biUnion]
  constructor
  · rintro ⟨t, ht, hi⟩
    have h1 := Finset.mem_Ico.mp ht
    have h2 := (mem_chL (t + k) (by omega) i).mp hi
    omega
  · rintro ⟨h1, h2⟩
    exact ⟨noL i - k, Finset.mem_Ico.mpr ⟨Nat.zero_le _, by omega⟩, (mem_chL _ (by omega) i).mpr (by omega)⟩

theorem mem_ownR (i : S9x64x1024.Idx) : i ∈ ownR ↔ noR i < 4 :=
  (mem_upR 4 0 i (by omega)).trans ⟨fun h => h.2, fun h => ⟨Nat.zero_le _, h⟩⟩
theorem mem_ownL (i : S8x64x1024.Idx) : i ∈ ownL ↔ noL i < 4 :=
  (mem_upL 4 0 i (by omega)).trans ⟨fun h => h.2, fun h => ⟨Nat.zero_le _, h⟩⟩

theorem allR : (Finset.univ : Finset S9x64x1024.Idx) = (Finset.Ico 0 36).biUnion setR := by
  ext i
  exact ⟨fun _ => (mem_upR 36 0 i (by omega)).mpr ⟨Nat.zero_le _, noR_lt i⟩, fun _ => Finset.mem_univ _⟩
theorem allL : (Finset.univ : Finset S8x64x1024.Idx) = (Finset.Ico 0 32).biUnion setL := by
  ext i
  exact ⟨fun _ => (mem_upL 32 0 i (by omega)).mpr ⟨Nat.zero_le _, noL_lt i⟩, fun _ => Finset.mem_univ _⟩

theorem cutR : (Finset.univ : Finset S9x64x1024.Idx) = ownR ∪ (Finset.Ico 0 32).biUnion (fun t => setR (t + 4)) := by
  ext i
  rw [Finset.mem_union, mem_ownR, mem_upR 32 4 i (by omega)]
  have := noR_lt i
  exact ⟨fun _ => by omega, fun _ => Finset.mem_univ _⟩
theorem cutL : (Finset.univ : Finset S8x64x1024.Idx) = ownL ∪ (Finset.Ico 0 28).biUnion (fun t => setL (t + 4)) := by
  ext i
  rw [Finset.mem_union, mem_ownL, mem_upL 28 4 i (by omega)]
  have := noL_lt i
  exact ⟨fun _ => by omega, fun _ => Finset.mem_univ _⟩

/-- A ring's slots: the first, and the chunks of the others. -/
theorem splitR (c : Dev nD) (f : Vec F S9x64x1024 .f32) :
    (A4.view.loc (c : Thread nD τ) ↦{fullShare} f : sProp 𝕄)
      = iprop((A4.view.loc (c : Thread nD τ) ↦[ownR]{fullShare} f) ∗ bigSep (Finset.Ico 0 32) fun i => wR c fullShare (i + 4) f) := by
  simp only [wR_eq]
  rw [show (bigSep (Finset.Ico 0 32) fun i => (A4.view.loc (c : Thread nD τ) ↦[setR (i + 4)]{fullShare} f : sProp 𝕄))
      = (A4.view.loc (c : Thread nD τ) ↦[(Finset.Ico 0 32).biUnion fun t => setR (t + 4)]{fullShare} f : sProp 𝕄) from
    (pointsTo_biUnion (ℓ := A4.view.loc (c : Thread nD τ)) (Finset.Ico 0 32) (fun t => setR (t + 4)) (by
      intro t ht t' ht' hne
      have h1 := Finset.mem_Ico.mp ht
      have h2 := Finset.mem_Ico.mp ht'
      exact setR_disjoint (t + 4) (t' + 4) (by omega) (by omega) (by omega))).symm]
  have hd : Disjoint ownR ((Finset.Ico 0 32).biUnion fun t => setR (t + 4)) := Finset.disjoint_left.mpr fun i hi hi' => by
    have h1 := (mem_ownR i).mp hi
    have h2 := (mem_upR 32 4 i (by omega)).mp hi'
    omega
  refine Eq.trans ?_ (BI.equiv_iff.mp ⟨(pointsTo_union (ℓ := A4.view.loc (c : Thread nD τ)) hd).1, (pointsTo_union (ℓ := A4.view.loc (c : Thread nD τ)) hd).2⟩)
  exact congrArg (fun S : Finset S9x64x1024.Idx => (A4.view.loc (c : Thread nD τ) ↦[S]{fullShare} f : sProp 𝕄)) cutR
theorem splitL (c : Dev nD) (f : Vec F S8x64x1024 .f32) :
    (A5.view.loc (c : Thread nD τ) ↦{fullShare} f : sProp 𝕄)
      = iprop((A5.view.loc (c : Thread nD τ) ↦[ownL]{fullShare} f) ∗ bigSep (Finset.Ico 0 28) fun i => wL c fullShare (i + 4) f) := by
  simp only [wL_eq]
  rw [show (bigSep (Finset.Ico 0 28) fun i => (A5.view.loc (c : Thread nD τ) ↦[setL (i + 4)]{fullShare} f : sProp 𝕄))
      = (A5.view.loc (c : Thread nD τ) ↦[(Finset.Ico 0 28).biUnion fun t => setL (t + 4)]{fullShare} f : sProp 𝕄) from
    (pointsTo_biUnion (ℓ := A5.view.loc (c : Thread nD τ)) (Finset.Ico 0 28) (fun t => setL (t + 4)) (by
      intro t ht t' ht' hne
      have h1 := Finset.mem_Ico.mp ht
      have h2 := Finset.mem_Ico.mp ht'
      exact setL_disjoint (t + 4) (t' + 4) (by omega) (by omega) (by omega))).symm]
  have hd : Disjoint ownL ((Finset.Ico 0 28).biUnion fun t => setL (t + 4)) := Finset.disjoint_left.mpr fun i hi hi' => by
    have h1 := (mem_ownL i).mp hi
    have h2 := (mem_upL 28 4 i (by omega)).mp hi'
    omega
  refine Eq.trans ?_ (BI.equiv_iff.mp ⟨(pointsTo_union (ℓ := A5.view.loc (c : Thread nD τ)) hd).1, (pointsTo_union (ℓ := A5.view.loc (c : Thread nD τ)) hd).2⟩)
  exact congrArg (fun S : Finset S8x64x1024.Idx => (A5.view.loc (c : Thread nD τ) ↦[S]{fullShare} f : sProp 𝕄)) cutL

/-- Chunks at the full share are their two halves, and the chunks `0 … n` are one piece. -/
theorem chunksR (c : Dev nD) (n : ℕ) (hn : n ≤ 36) (f : Vec F S9x64x1024 .f32) :
    (A4.view.loc (c : Thread nD τ) ↦[(Finset.Ico 0 n).biUnion setR]{fullShare} f : sProp 𝕄)
      = iprop((bigSep (Finset.Ico 0 n) fun k => wR c qk k f) ∗ bigSep (Finset.Ico 0 n) fun k => wR c ql k f) := by
  refine Eq.trans ?_ ((bigSep_congr fun k _ => wR_halves c k f).trans (bigSep_sep _ _ _))
  simp only [wR_eq]
  refine pointsTo_biUnion (ℓ := A4.view.loc (c : Thread nD τ)) (Finset.Ico 0 n) setR ?_
  intro t ht t' ht' hne
  have h1 := Finset.mem_Ico.mp ht
  have h2 := Finset.mem_Ico.mp ht'
  exact setR_disjoint t t' (by omega) (by omega) hne
theorem chunksL (c : Dev nD) (n : ℕ) (hn : n ≤ 32) (f : Vec F S8x64x1024 .f32) :
    (A5.view.loc (c : Thread nD τ) ↦[(Finset.Ico 0 n).biUnion setL]{fullShare} f : sProp 𝕄)
      = iprop((bigSep (Finset.Ico 0 n) fun k => wL c qk k f) ∗ bigSep (Finset.Ico 0 n) fun k => wL c ql k f) := by
  refine Eq.trans ?_ ((bigSep_congr fun k _ => wL_halves c k f).trans (bigSep_sep _ _ _))
  simp only [wL_eq]
  refine pointsTo_biUnion (ℓ := A5.view.loc (c : Thread nD τ)) (Finset.Ico 0 n) setL ?_
  intro t ht t' ht' hne
  have h1 := Finset.mem_Ico.mp ht
  have h2 := Finset.mem_Ico.mp ht'
  exact setL_disjoint t t' (by omega) (by omega) hne

theorem joinIco (a b : ℕ) (h : a ≤ b) (Φ : ℕ → sProp (MT nD τ sig Unit (Elt F) ℕ UU ℕ)) :
    bigSep (Finset.Ico 0 b) Φ = iprop(bigSep (Finset.Ico 0 a) Φ ∗ bigSep (Finset.Ico a b) Φ) := by
  rw [← Finset.Ico_union_Ico_eq_Ico (Nat.zero_le a) h, bigSep_union (Finset.Ico_disjoint_Ico_consecutive 0 a b)]
  rfl

/-- At the end every chunk is whole again. -/
theorem backR (c : Dev nD) (f : Vec F S9x64x1024 .f32) :
    iprop((bigSep (Finset.Ico 0 36) fun k => wR c qk k f) ∗ (bigSep (Finset.Ico 0 32) fun k => wR c ql k f) ∗ bigSep (Finset.Ico 32 36) fun k => wR c ql k f)
      = (A4.view.loc (c : Thread nD τ) ↦{fullShare} f : sProp 𝕄) := by
  rw [← joinIco 32 36 (by omega) (fun k => wR c ql k f), ← chunksR c 36 (le_refl _) f]
  exact (congrArg (fun S : Finset S9x64x1024.Idx => (A4.view.loc (c : Thread nD τ) ↦[S]{fullShare} f : sProp 𝕄)) allR).symm
theorem backL (c : Dev nD) (f : Vec F S8x64x1024 .f32) :
    iprop((bigSep (Finset.Ico 0 32) fun k => wL c qk k f) ∗ (bigSep (Finset.Ico 0 28) fun k => wL c ql k f) ∗ bigSep (Finset.Ico 28 32) fun k => wL c ql k f)
      = (A5.view.loc (c : Thread nD τ) ↦{fullShare} f : sProp 𝕄) := by
  rw [← joinIco 28 32 (by omega) (fun k => wL c ql k f), ← chunksL c 32 (le_refl _) f]
  exact (congrArg (fun S : Finset S8x64x1024.Idx => (A5.view.loc (c : Thread nD τ) ↦[S]{fullShare} f : sProp 𝕄)) allL).symm

/-! ## A device's own rows, stored in the first slots -/

abbrev rectR : Rect S9x64x1024 := Rect.unit (s := S9x64x1024) ![0, 0, 0] S1x64x1024.size inb_S9x64x1024_S1x64x1024_0_0_0
abbrev rectL : Rect S8x64x1024 := Rect.unit (s := S8x64x1024) ![0, 0, 0] S1x64x1024.size inb_S8x64x1024_S1x64x1024_0_0_0

theorem pay1_at (v : Vec F S64x1024 .f32) (j : S1x64x1024.Idx) : k0_pay1 v j = v (ix2 (j 1) (j 2)) := by
  unfold k0_pay1
  rw [shapeCast_self]
  refine (shapeCast_addUnit_apply S64x1024.size v shapeCasts_S64x1024_S1x64x1024 j).trans (congrArg v ?_)
  funext a
  match a with
  | ⟨0, _⟩ => rfl
  | ⟨1, _⟩ => rfl
theorem pay2_at (v : Vec F S64x1024 .f32) (j : S1x64x1024.Idx) : k0_pay2 v j = v (ix2 (j 1) (j 2)) := pay1_at v j

theorem rectR_own : (A4.access rectR).set ⊆ ownR := by
  intro i hi
  obtain ⟨x, -, rfl⟩ := Finset.mem_map.mp hi
  have e0 := ValueKit.rect_emb_unit_val (s := S9x64x1024) ![0, 0, 0] S1x64x1024.size inb_S9x64x1024_S1x64x1024_0_0_0 x 0
  have e1 := ValueKit.rect_emb_unit_val (s := S9x64x1024) ![0, 0, 0] S1x64x1024.size inb_S9x64x1024_S1x64x1024_0_0_0 x 1
  have h0 : (x 0).val < 1 := (x 0).isLt
  have h1 : (x 1).val < 64 := (x 1).isLt
  refine (mem_ownR _).mpr ?_
  show 4 * ((rectR.emb x) 0).val + ((rectR.emb x) 1).val / 16 < _
  rw [e0, e1]
  show 4 * (0 + (x 0).val) + (0 + (x 1).val) / 16 < 4
  omega
theorem rectL_own : (A5.access rectL).set ⊆ ownL := by
  intro i hi
  obtain ⟨x, -, rfl⟩ := Finset.mem_map.mp hi
  have e0 := ValueKit.rect_emb_unit_val (s := S8x64x1024) ![0, 0, 0] S1x64x1024.size inb_S8x64x1024_S1x64x1024_0_0_0 x 0
  have e1 := ValueKit.rect_emb_unit_val (s := S8x64x1024) ![0, 0, 0] S1x64x1024.size inb_S8x64x1024_S1x64x1024_0_0_0 x 1
  have h0 : (x 0).val < 1 := (x 0).isLt
  have h1 : (x 1).val < 64 := (x 1).isLt
  refine (mem_ownL _).mpr ?_
  show 4 * ((rectL.emb x) 0).val + ((rectL.emb x) 1).val / 16 < _
  rw [e0, e1]
  show 4 * (0 + (x 0).val) + (0 + (x 1).val) / 16 < 4
  omega

theorem stored_R (c : Dev nD) (f : Vec F S9x64x1024 .f32) :
    ∀ i ∈ ownR, (A4.access rectR).write (Elt F) f (k0_pay1 (X c)) Finset.univ i = commR X c i := by
  intro i hi
  have hn := (mem_ownR i).mp hi
  have hi0 : (i 0).val = 0 := by unfold noR at hn; omega
  have hx : rectR.emb (fun a => match a with | ⟨0, _⟩ => ⟨0, Nat.one_pos⟩ | ⟨1, _⟩ => i 1 | ⟨2, _⟩ => i 2 : S1x64x1024.Idx) = i := by
    funext a
    refine Fin.ext ((ValueKit.rect_emb_unit_val (s := S9x64x1024) ![0, 0, 0] S1x64x1024.size inb_S9x64x1024_S1x64x1024_0_0_0 _ a).trans ?_)
    match a with
    | ⟨0, _⟩ => exact (Nat.zero_add _).trans hi0.symm
    | ⟨1, _⟩ => exact Nat.zero_add _
    | ⟨2, _⟩ => exact Nat.zero_add _
  generalize hj : (fun a => match a with | ⟨0, _⟩ => ⟨0, Nat.one_pos⟩ | ⟨1, _⟩ => i 1 | ⟨2, _⟩ => i 2 : S1x64x1024.Idx) = j at hx
  have hj1 : j 1 = i 1 := by rw [← hj]
  have hj2 : j 2 = i 2 := by rw [← hj]
  have hw : (A4.access rectR).write (Elt F) f (k0_pay1 (X c)) Finset.univ (rectR.emb j) = k0_pay1 (X c) j :=
    View.write_emb_of_mem _ _ (Finset.mem_univ _)
  rw [hx, pay1_at, hj1, hj2] at hw
  refine hw.trans ?_
  unfold commR
  rw [hi0, back_zero]
theorem stored_L (c : Dev nD) (f : Vec F S8x64x1024 .f32) :
    ∀ i ∈ ownL, (A5.access rectL).write (Elt F) f (k0_pay2 (X c)) Finset.univ i = commL X c i := by
  intro i hi
  have hn := (mem_ownL i).mp hi
  have hi0 : (i 0).val = 0 := by unfold noL at hn; omega
  have hx : rectL.emb (fun a => match a with | ⟨0, _⟩ => ⟨0, Nat.one_pos⟩ | ⟨1, _⟩ => i 1 | ⟨2, _⟩ => i 2 : S1x64x1024.Idx) = i := by
    funext a
    refine Fin.ext ((ValueKit.rect_emb_unit_val (s := S8x64x1024) ![0, 0, 0] S1x64x1024.size inb_S8x64x1024_S1x64x1024_0_0_0 _ a).trans ?_)
    match a with
    | ⟨0, _⟩ => exact (Nat.zero_add _).trans hi0.symm
    | ⟨1, _⟩ => exact Nat.zero_add _
    | ⟨2, _⟩ => exact Nat.zero_add _
  generalize hj : (fun a => match a with | ⟨0, _⟩ => ⟨0, Nat.one_pos⟩ | ⟨1, _⟩ => i 1 | ⟨2, _⟩ => i 2 : S1x64x1024.Idx) = j at hx
  have hj1 : j 1 = i 1 := by rw [← hj]
  have hj2 : j 2 = i 2 := by rw [← hj]
  have hw : (A5.access rectL).write (Elt F) f (k0_pay2 (X c)) Finset.univ (rectL.emb j) = k0_pay2 (X c) j :=
    View.write_emb_of_mem _ _ (Finset.mem_univ _)
  rw [hx, pay2_at, hj1, hj2] at hw
  refine hw.trans ?_
  unfold commL
  rw [hi0, ahead_zero]

/-- After the store the first slot is its four chunks, each in two halves. -/
theorem first_R (c : Dev nD) (f : Vec F S9x64x1024 .f32) :
    (A4.view.loc (c : Thread nD τ) ↦[ownR]{fullShare} (A4.access rectR).write (Elt F) f (k0_pay1 (X c)) Finset.univ : sProp 𝕄)
      = iprop((bigSep (Finset.Ico 0 4) fun k => wR c qk k (commR X c)) ∗ bigSep (Finset.Ico 0 4) fun k => wR c ql k (commR X c)) := by
  rw [pointsTo_congr (stored_R X c f)]
  exact chunksR c 4 (by omega) (commR X c)
theorem first_L (c : Dev nD) (f : Vec F S8x64x1024 .f32) :
    (A5.view.loc (c : Thread nD τ) ↦[ownL]{fullShare} (A5.access rectL).write (Elt F) f (k0_pay2 (X c)) Finset.univ : sProp 𝕄)
      = iprop((bigSep (Finset.Ico 0 4) fun k => wL c qk k (commL X c)) ∗ bigSep (Finset.Ico 0 4) fun k => wL c ql k (commL X c)) := by
  rw [pointsTo_congr (stored_L X c f)]
  exact chunksL c 4 (by omega) (commL X c)

end Cert.KernelIdeal.Own

end
-- ==== Proof.Ideal.Prologue.lean ====
/- A device's whole body: the greetings of the neighbours, the own rows stored, then the steps. -/
module

public import proofs.«01_k».proof.Proof.Ideal.Slots
public import proofs.«01_k».proof.Proof.Ideal.BodyEq

@[expose] public section

set_option maxRecDepth 8000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.isDefEq.respectTransparency.types false

variable {F : FTy → Type} [FloatOps F]

local notation "𝕄" => MT nD τ sig Unit (Elt F) ℕ UU ℕ

variable (X : Dev nD → Vec F S64x1024 .f32) (W : Dev nD → Vec F S1024x64 .f32)

/-! ## The first operations of the body -/

/-- The device a word names: to the left, to the right. -/
abbrev devL (v3 : BitVec 32) (h : k0_chk1 v3) : Dev nD := ⟨k0_dev1 v3, k0_dev1_lt v3 h⟩
abbrev devR (v4 : BitVec 32) (h : k0_chk2 v4) : Dev nD := ⟨k0_dev2 v4, k0_dev2_lt v4 h⟩

theorem devL_word (d : Dev nD) (h : k0_chk1 (word d)) : devL (word d) h = d := Fin.ext (dev1_word d)
theorem devR_word (d : Dev nD) (h : k0_chk2 (word d)) : devR (word d) h = d := Fin.ext (dev2_word d)

/-- The own rows stored in both rings' first slots. -/
def fillOwn (p : Body F) : Body F :=
  .op (.load A1 (Rect.unit (s := S64x1024) ![0, 0] S64x1024.size inb_S64x1024_S64x1024_0_0).toLoadRect (View.loadsAt_vmem h_S64x1024)) fun v10 =>
  .op (.load A4 rectR.toLoadRect (View.loadsAt_vmem h_S1x64x1024)) fun _ =>
  .op (.store A4 rectR (k0_pay1 v10) Finset.univ (View.stores_vmem_bits_univ h_S1x64x1024 rfl) (.inl rfl)) fun _ =>
  .op (.load A1 (Rect.unit (s := S64x1024) ![0, 0] S64x1024.size inb_S64x1024_S64x1024_0_0).toLoadRect (View.loadsAt_vmem h_S64x1024)) fun v15 =>
  .op (.load A5 rectL.toLoadRect (View.loadsAt_vmem h_S1x64x1024)) fun _ =>
  .op (.store A5 rectL (k0_pay2 v15) Finset.univ (View.stores_vmem_bits_univ h_S1x64x1024 rfl) (.inl rfl)) fun _ => p

/-- A greeting to each neighbour and the wait for theirs. -/
def greet (dl dr : Dev nD) (p : Body F) : Body F :=
  .op (.semSignal (dl : Thread nD τ) barS ((1 : ℕ) : Int)) fun _ =>
  .op (.semSignal (dr : Thread nD τ) barS ((1 : ℕ) : Int)) fun _ =>
  .op (.semWait barS ((2 : ℕ) : Int)) fun _ => p

def prolog (k : (d0 : Dev nD) → (v3 : Elt F .i32) → k0_chk1 v3 → (v4 : Elt F .i32) → k0_chk2 v4 → Body F) : Body F :=
  .op .deviceId fun d0 =>
  smemLoadElt A0 (Rect.unit (s := S17) ![0] S1.size inb_S17_S1_0) (View.loads_smem_one rfl numel1_S1) (Shape.Idx.first (numel1_S1.symm ▸ Nat.one_pos)) fun v3 =>
  .op (.assume (k0_chk1 v3) (k0_chk1.dec v3)) fun h1 =>
  smemLoadElt A0 (Rect.unit (s := S17) ![1] S1.size inb_S17_S1_1) (View.loads_smem_one rfl numel1_S1) (Shape.Idx.first (numel1_S1.symm ▸ Nat.one_pos)) fun v4 =>
  .op (.assume (k0_chk2 v4) (k0_chk2.dec v4)) fun h2 =>
  greet (devL v3 h1.down) (devR v4 h2.down) (fillOwn (k d0 v3 h1.down v4 h2.down))

theorem part1_eq (k : (d0 : Dev nD) → (v3 : Elt F .i32) → k0_chk1 v3 → (v4 : Elt F .i32) → k0_chk2 v4 → Body F) :
    Prog.bind (k0_part1 A0 (Memref.isWhole_whole _) A1 (Memref.isWhole_whole _) A2 (Memref.isWhole_whole _) A3 (Memref.isWhole_whole _) A4 (Memref.isWhole_whole _) A5 (Memref.isWhole_whole _) cc0_scratch2 cc0_scratch3 cc0_scratch4 cc0_scratch5)
        (fun r => k r.1 r.2.2.1 r.2.2.2.1 r.2.2.2.2.1 r.2.2.2.2.2)
      = prolog k := by
  rw [k0_part1_eq_skeleton]
  rfl

theorem body_prolog (t : Fin grid0.N) :
    bodyAt0 (F := F) t = prolog fun d0 v3 hw1 v4 hw2 => runAll d0 v3 hw1 v4 hw2 steps (.ret ⟨⟩) :=
  (body_eq t).trans (part1_eq fun d0 v3 hw1 v4 hw2 => runAll d0 v3 hw1 v4 hw2 steps (.ret ⟨⟩))

/-! ## What a device starts with -/

/-- What stays known from the start: every promise, that the own semaphores have been opened and the
    neighbours' barriers too, and the levels. -/
def pers0 (K : GSem nD τ sig → ℕ) (c : Dev nD) : sProp 𝕄 :=
  iprop((bigSep (barCells ∪ dmaCells) fun g => cellInv ER (Rd X) (K g) g)
    ∗ (bigSep (Finset.Ico 4 124) fun n => reached ER (cell c n) 0)
    ∗ reached ER (bar (lf c)) 0 ∗ reached ER (bar (rt c)) 0
    ∗ (levAts L lv : sProp 𝕄))

instance pers0_persistent (K : GSem nD τ sig → ℕ) (c : Dev nD) : BI.Persistent (pers0 X K c) := by unfold pers0; infer_instance

theorem pers0_inv (K : GSem nD τ sig → ℕ) (c : Dev nD) (g : GSem nD τ sig) (hg : g ∈ barCells ∪ dmaCells) :
    pers0 X K c ⊢ cellInv ER (Rd X) (K g) g := by
  unfold pers0
  iintro ⟨H, -, -, -, -⟩
  iapply (bigSep_at hg (fun g => cellInv ER (Rd X) (K g) g))
  iexact H
theorem pers0_own (K : GSem nD τ sig → ℕ) (c : Dev nD) (n : ℕ) (h : 4 ≤ n) (h' : n < 124) :
    pers0 X K c ⊢ reached ER (cell c n) 0 := by
  unfold pers0
  iintro ⟨-, H, -, -, -⟩
  iapply (bigSep_at (Finset.mem_Ico.mpr ⟨h, h'⟩) (fun n => reached ER (cell c n) 0))
  iexact H
theorem pers0_lf (K : GSem nD τ sig → ℕ) (c : Dev nD) : pers0 X K c ⊢ reached ER (bar (lf c)) 0 := by
  unfold pers0
  iintro ⟨-, -, H, -, -⟩; iexact H
theorem pers0_rt (K : GSem nD τ sig → ℕ) (c : Dev nD) : pers0 X K c ⊢ reached ER (bar (rt c)) 0 := by
  unfold pers0
  iintro ⟨-, -, -, H, -⟩; iexact H
theorem pers0_lev (K : GSem nD τ sig → ℕ) (c : Dev nD) : pers0 X K c ⊢ (levAts L lv : sProp 𝕄) := by
  unfold pers0
  iintro ⟨-, -, -, -, H⟩; iexact H

/-- What pays for a copy, its destination apart. -/
def tokR (c : Dev nD) (i : ℕ) : sProp 𝕄 := iprop(dutyTok ER (cell c (4 + i)) 0 true ∗ dutyTok ER (cell (rt c) (36 + i)) 0 true)
def tokL (c : Dev nD) (i : ℕ) : sProp 𝕄 := iprop(dutyTok ER (cell c (68 + i)) 0 true ∗ dutyTok ER (cell (lf c) (96 + i)) 0 true)

/-- A device's part in the two rings. -/
def partR (c : Dev nD) : sProp 𝕄 :=
  iprop((bigSep (Finset.Ico 0 32) fun i => tokR (F := F) c i)
    ∗ (bigSep (Finset.Ico 0 32) fun i => atPos ER (cell c (4 + i)) 0 ∅ 0)
    ∗ (bigSep (Finset.Ico 0 32) fun i => iprop(atPos ER (cell c (36 + i)) 0 ∅ 0 ∗ cred (tallyAt (cell c (36 + i)) () N))))
def partL (c : Dev nD) : sProp 𝕄 :=
  iprop((bigSep (Finset.Ico 0 28) fun i => tokL (F := F) c i)
    ∗ (bigSep (Finset.Ico 0 28) fun i => atPos ER (cell c (68 + i)) 0 ∅ 0)
    ∗ (bigSep (Finset.Ico 0 28) fun i => iprop(atPos ER (cell c (96 + i)) 0 ∅ 0 ∗ cred (tallyAt (cell c (96 + i)) () N))))

/-- A device's part in the greetings. -/
def partB (c : Dev nD) : sProp 𝕄 :=
  iprop(dutyTok ER (bar (lf c)) 0 true ∗ dutyTok ER (bar (rt c)) 0 false ∗ atPos ER (bar c) 0 ∅ 0 ∗ cred (tallyAt (bar c) () 2))

/-- Two families together. -/
theorem both (s : Finset ℕ) (Φ Ψ : ℕ → sProp (MT nD τ sig Unit (Elt F) ℕ UU ℕ)) :
    bigSep s (fun i => iprop(Φ i ∗ Ψ i)) = iprop(bigSep s Φ ∗ bigSep s Ψ) := bigSep_sep s Φ Ψ

/-- A destination for every copy, and then every copy can be made. -/
theorem todo_R (c : Dev nD) :
    iprop((bigSep (Finset.Ico 0 32) fun i => tokR (F := F) c i) ∗ bigSep (Finset.Ico 0 32) fun i => iprop(∃ f, wR (F := F) (rt c) fullShare (i + 4) f))
      ⊢ (bigSep (Finset.Ico 0 32) fun i => todoR (F := F) c i : sProp 𝕄) := by
  have h : ∀ i, (iprop(tokR (F := F) c i ∗ ∃ f, wR (F := F) (rt c) fullShare (i + 4) f) : sProp 𝕄) ⊢ todoR (F := F) c i := by
    intro i
    unfold tokR todoR
    iintro ⟨⟨H1, H2⟩, H3⟩
    isplitl [H1]; · iexact H1
    isplitl [H2]; · iexact H2
    iexact H3
  exact (Entails.of_eq (both (Finset.Ico 0 32) (fun i => tokR (F := F) c i) (fun i => iprop(∃ f, wR (F := F) (rt c) fullShare (i + 4) f))).symm).trans (bigSep_mono fun i _ => h i)
theorem todo_L (c : Dev nD) :
    iprop((bigSep (Finset.Ico 0 28) fun i => tokL (F := F) c i) ∗ bigSep (Finset.Ico 0 28) fun i => iprop(∃ f, wL (F := F) (lf c) fullShare (i + 4) f))
      ⊢ (bigSep (Finset.Ico 0 28) fun i => todoL (F := F) c i : sProp 𝕄) := by
  have h : ∀ i, (iprop(tokL (F := F) c i ∗ ∃ f, wL (F := F) (lf c) fullShare (i + 4) f) : sProp 𝕄) ⊢ todoL (F := F) c i := by
    intro i
    unfold tokL todoL
    iintro ⟨⟨H1, H2⟩, H3⟩
    isplitl [H1]; · iexact H1
    isplitl [H2]; · iexact H2
    iexact H3
  exact (Entails.of_eq (both (Finset.Ico 0 28) (fun i => tokL (F := F) c i) (fun i => iprop(∃ f, wL (F := F) (lf c) fullShare (i + 4) f))).symm).trans (bigSep_mono fun i _ => h i)

/-! ## The greetings -/

/-- What the greeting to the left hands over, and to the right. -/
theorem give_R (K : GSem nD τ sig → ℕ) (c : Dev nD) (f : Vec F S9x64x1024 .f32) :
    iprop(pers0 X K c ∗ bigSep (Finset.Ico 0 32) fun i => wR c fullShare (i + 4) f) ⊢ (payBR (F := F) (lf c) : sProp 𝕄) := by
  unfold payBR
  rw [rt_lf]
  refine bigSep_with_persistent (S := Finset.Ico 0 32) (Φ := fun i => wR c fullShare (i + 4) f) fun i hi => ?_
  have h := Finset.mem_Ico.mp hi
  iintro ⟨#HP, Hw⟩
  isplitl [Hw]; · iexists f; iexact Hw
  iapply (pers0_own X K c (36 + i) (by omega) (by omega)); iexact HP
theorem give_L (K : GSem nD τ sig → ℕ) (c : Dev nD) (f : Vec F S8x64x1024 .f32) :
    iprop(pers0 X K c ∗ bigSep (Finset.Ico 0 28) fun i => wL c fullShare (i + 4) f) ⊢ (payBL (F := F) (rt c) : sProp 𝕄) := by
  unfold payBL
  rw [lf_rt]
  refine bigSep_with_persistent (S := Finset.Ico 0 28) (Φ := fun i => wL c fullShare (i + 4) f) fun i hi => ?_
  have h := Finset.mem_Ico.mp hi
  iintro ⟨#HP, Hw⟩
  isplitl [Hw]; · iexists f; iexact Hw
  iapply (pers0_own X K c (96 + i) (by omega) (by omega)); iexact HP

theorem got_R (c : Dev nD) :
    (payBR (F := F) c : sProp 𝕄) = iprop((bigSep (Finset.Ico 0 32) fun i => iprop(∃ f, wR (F := F) (rt c) fullShare (i + 4) f))
      ∗ bigSep (Finset.Ico 0 32) fun i => reached ER (cell (rt c) (36 + i)) 0) := both _ _ _
theorem got_L (c : Dev nD) :
    (payBL (F := F) c : sProp 𝕄) = iprop((bigSep (Finset.Ico 0 28) fun i => iprop(∃ f, wL (F := F) (lf c) fullShare (i + 4) f))
      ∗ bigSep (Finset.Ico 0 28) fun i => reached ER (cell (lf c) (96 + i)) 0) := both _ _ _

section

variable (K : GSem nD τ sig → ℕ) (c : Dev nD) (p : Body F) (Q : PUnit.{1} → sProp (MT nD τ sig Unit (Elt F) ℕ UU ℕ))

theorem greet_run (Wt : Waits sig Unit) (f4 : Vec F S9x64x1024 .f32) (f5 : Vec F S8x64x1024 .f32) :
    iprop(pers0 X K c ∗ partB (F := F) c ∗ owes (c : Thread nD τ) (O₀ c) Wt
        ∗ (bigSep (Finset.Ico 0 32) fun i => wR c fullShare (i + 4) f4) ∗ (bigSep (Finset.Ico 0 28) fun i => wL c fullShare (i + 4) f5))
      ⊢ iprop((iprop(pers X K c ∗ semVal (bar c) 0 ∗ owing c 0 0
          ∗ (bigSep (Finset.Ico 0 32) fun i => iprop(∃ f, wR (F := F) (rt c) fullShare (i + 4) f))
          ∗ (bigSep (Finset.Ico 0 28) fun i => iprop(∃ f, wL (F := F) (lf c) fullShare (i + 4) f))) -∗ wp frame (wpE (defs₀ (F := F)) 𝒱₀ c none) Set.univ p Q)
        -∗ wp frame (wpE (defs₀ (F := F)) 𝒱₀ c none) Set.univ (greet (lf c) (rt c) p) Q) := by
  unfold partB greet
  iintro ⟨#HP, ⟨Ht1, Ht2, Hat, Hc⟩, HO, H4, H5⟩ Hk
  iapply (Rounds.wp_signal 𝒱₀ ER (Rd X) (c : Thread nD τ) none (dst := (lf c : Thread nD τ)) (sem := barS) (r := 0) (d := true) (k' := 1) (κ := K (bar (lf c)))
      (by rw [duties_bar]; decide) rfl () (O₀ := O₀ c) (oR c 0 + oL c 0 + tallyAt (bar (rt c)) () 1) rfl (W := Wt)) $$ [HO Ht1 H4]
  · isplitr; · iapply (pers0_inv X K c _ (mem_bar (lf c))); iexact HP
    isplitl [HO]; · iexact HO
    isplitl [Ht1]; · iexact Ht1
    isplitl [H4]
    · rw [show (Rd X).payload ((lf c : Thread nD τ), .reg barS) 0 true = payBR (F := F) (lf c) from rfl]
      iapply (give_R X K c f4)
      isplitr; · iexact HP
      iexact H4
    iapply (pers0_lf X K c); iexact HP
  iintro HO
  iapply (Rounds.wp_signal 𝒱₀ ER (Rd X) (c : Thread nD τ) none (dst := (rt c : Thread nD τ)) (sem := barS) (r := 0) (d := false) (k' := 1) (κ := K (bar (rt c)))
      (by rw [duties_bar]; decide) rfl () (O₀ := oR c 0 + oL c 0 + tallyAt (bar (rt c)) () 1) (oR c 0 + oL c 0) rfl (W := Wt)) $$ [HO Ht2 H5]
  · isplitr; · iapply (pers0_inv X K c _ (mem_bar (rt c))); iexact HP
    isplitl [HO]; · iexact HO
    isplitl [Ht2]; · iexact Ht2
    isplitl [H5]
    · rw [show (Rd X).payload ((rt c : Thread nD τ), .reg barS) 0 false = payBL (F := F) (rt c) from rfl]
      iapply (give_L X K c f5)
      isplitr; · iexact HP
      iexact H5
    iapply (pers0_rt X K c); iexact HP
  iintro HO
  iapply (Rounds.wp_wait_rest_token 𝒱₀ ER (Rd X) (c : Thread nD τ) none (κ := K (bar c))
      (wpE_semWait_eq 𝒱₀ (c : Thread nD τ) none Set.univ) (Set.mem_univ _) () (O := oR c 0 + oL c 0) (W := Wt) (R := 0) (m := 0) (T := ∅)
      ((Nat.zero_add 2).trans (expect_bar X c).symm)) $$ [Hc HO Hat]
  · isplitr; · iapply (pers0_inv X K c _ (mem_bar c)); iexact HP
    isplitl [Hc]; · iexact Hc
    isplitl [HO]; · iexact HO
    isplitr
    · iapply (mayWait (F := F) c (.reg barS) 1 0 0 (le_refl _) (fun i _ _ => by omega) (fun i _ _ => by omega))
      iapply (pers0_lev X K c); iexact HP
    iexact Hat
  iintro ⟨HO, Hat, -, Hpay⟩
  ihave Hp := (Entails.of_eq (rest_bar X c)) $$ Hpay
  rw [got_R, got_L]
  icases Hp with ⟨⟨H4, #Hr4⟩, ⟨H5, #Hr5⟩⟩
  imod (close X (K (bar c)) (bar c)) $$ [Hat] with Hv
  · isplitr; · iapply (pers0_inv X K c _ (mem_bar c)); iexact HP
    iexact Hat
  iapply Hk
  isplitr
  · unfold pers0 pers
    icases HP with ⟨#G1, #G2, -, -, #G5⟩
    isplitr; · iexact G1
    isplitr; · iexact G2
    isplitr; · iexact Hr4
    isplitr; · iexact Hr5
    iexact G5
  isplitl [Hv]; · iexact Hv
  isplitl [HO]; · unfold owing; iexists _; iexact HO
  isplitl [H4]; · iexact H4
  iexact H5

/-! ## The own rows -/

theorem fill_run (f4 : Vec F S9x64x1024 .f32) (f5 : Vec F S8x64x1024 .f32) :
    iprop((A1.view.loc (c : Thread nD τ) ↦{fullShare} X c) ∗ (A4.view.loc (c : Thread nD τ) ↦[ownR]{fullShare} f4) ∗ (A5.view.loc (c : Thread nD τ) ↦[ownL]{fullShare} f5))
      ⊢ iprop((iprop((A1.view.loc (c : Thread nD τ) ↦{fullShare} X c)
          ∗ ((bigSep (Finset.Ico 0 4) fun k => wR c qk k (commR X c)) ∗ bigSep (Finset.Ico 0 4) fun k => wR c ql k (commR X c))
          ∗ ((bigSep (Finset.Ico 0 4) fun k => wL c qk k (commL X c)) ∗ bigSep (Finset.Ico 0 4) fun k => wL c ql k (commL X c)))
          -∗ wp frame (wpE (defs₀ (F := F)) 𝒱₀ c none) Set.univ p Q)
        -∗ wp frame (wpE (defs₀ (F := F)) 𝒱₀ c none) Set.univ (fillOwn p) Q) := by
  unfold fillOwn
  iintro ⟨H1, H4, H5⟩ Hk
  iapply (ld c Q A1 (Rect.unit (s := S64x1024) ![0, 0] S64x1024.size inb_S64x1024_S64x1024_0_0) (Finset.subset_univ _)) $$ H1
  iintro H1
  rw [read_A1]
  iapply (ld c Q A4 rectR rectR_own) $$ H4
  iintro H4
  iapply (st c Q A4 rectR rectR_own) $$ H4
  iintro H4
  iapply (ld c Q A1 (Rect.unit (s := S64x1024) ![0, 0] S64x1024.size inb_S64x1024_S64x1024_0_0) (Finset.subset_univ _)) $$ H1
  iintro H1
  rw [read_A1]
  iapply (ld c Q A5 rectL rectL_own) $$ H5
  iintro H5
  iapply (st c Q A5 rectL rectL_own) $$ H5
  iintro H5
  iapply Hk
  isplitl [H1]; · iexact H1
  isplitl [H4]
  · iapply (Entails.of_eq (first_R X c f4)); iexact H4
  iapply (Entails.of_eq (first_L X c f5)); iexact H5

end

/-! ## The whole body -/

/-- Before the body: the device's part in the protocol, what it owes, its staged arrays and its slots. -/
def bodyPre (K : GSem nD τ sig → ℕ) (c : Dev nD) (Wt : Waits sig Unit) : sProp 𝕄 :=
  iprop(pers0 X K c ∗ partB (F := F) c ∗ partR (F := F) c ∗ partL (F := F) c ∗ owes (c : Thread nD τ) (O₀ c) Wt
    ∗ stg X W c ∅ ∗ (∃ f, A4.view.loc (c : Thread nD τ) ↦{fullShare} f) ∗ (∃ f, A5.view.loc (c : Thread nD τ) ↦{fullShare} f))

/-- After it: nothing owed, every semaphore at zero, the result computed, the slots whole. -/
def bodyPost (c : Dev nD) : sProp 𝕄 :=
  iprop(semVal (bar c) 0
    ∗ (bigSep (Finset.Ico 0 32) fun i => semVal (cell c (4 + i)) 0) ∗ (bigSep (Finset.Ico 0 32) fun i => semVal (cell c (36 + i)) 0)
    ∗ (bigSep (Finset.Ico 0 28) fun i => semVal (cell c (68 + i)) 0) ∗ (bigSep (Finset.Ico 0 28) fun i => semVal (cell c (96 + i)) 0)
    ∗ (∃ Wt, owes (c : Thread nD τ) (0 : CellTallies nD τ sig Unit) Wt)
    ∗ (A0.view.loc (c : Thread nD τ) ↦{fullShare} tabV F c) ∗ (A1.view.loc (c : Thread nD τ) ↦{fullShare} X c)
    ∗ (A2.view.loc (c : Thread nD τ) ↦{fullShare} W c) ∗ (A3.view.loc (c : Thread nD τ) ↦{fullShare} outF X (W c))
    ∗ (∃ f, A4.view.loc (c : Thread nD τ) ↦{fullShare} f) ∗ (∃ f, A5.view.loc (c : Thread nD τ) ↦{fullShare} f))

section

variable (K : GSem nD τ sig → ℕ) (c : Dev nD)

theorem start_R :
    iprop(partR (F := F) c ∗ (bigSep (Finset.Ico 0 32) fun i => iprop(∃ f, wR (F := F) (rt c) fullShare (i + 4) f))
        ∗ ((bigSep (Finset.Ico 0 4) fun k => wR c qk k (commR X c)) ∗ bigSep (Finset.Ico 0 4) fun k => wR c ql k (commR X c)))
      ⊢ (stR X c 0 0 0 : sProp 𝕄) := by
  unfold partR stR
  rw [Finset.Ico_self, bigSep_empty, bigSep_empty, bigSep_empty]
  iintro ⟨⟨Ht, Ha, Hb⟩, Hw, Hk, Hl⟩
  isplitl [Ht Hw]
  · iapply (todo_R c)
    isplitl [Ht] <;> iassumption
  isplitr; · iempintro
  isplitl [Ha]; · iexact Ha
  isplitr; · iempintro
  isplitl [Hb]; · iexact Hb
  isplitr; · iempintro
  isplitl [Hk]; · iexact Hk
  iexact Hl
theorem start_L :
    iprop(partL (F := F) c ∗ (bigSep (Finset.Ico 0 28) fun i => iprop(∃ f, wL (F := F) (lf c) fullShare (i + 4) f))
        ∗ ((bigSep (Finset.Ico 0 4) fun k => wL c qk k (commL X c)) ∗ bigSep (Finset.Ico 0 4) fun k => wL c ql k (commL X c)))
      ⊢ (stL X c 0 0 0 : sProp 𝕄) := by
  unfold partL stL
  rw [Finset.Ico_self, bigSep_empty, bigSep_empty, bigSep_empty]
  iintro ⟨⟨Ht, Ha, Hb⟩, Hw, Hk, Hl⟩
  isplitl [Ht Hw]
  · iapply (todo_L c)
    isplitl [Ht] <;> iassumption
  isplitr; · iempintro
  isplitl [Ha]; · iexact Ha
  isplitr; · iempintro
  isplitl [Hb]; · iexact Hb
  isplitr; · iempintro
  isplitl [Hk]; · iexact Hk
  iexact Hl

theorem end_R :
    (stR X c 32 32 32 : sProp 𝕄)
      ⊢ iprop((bigSep (Finset.Ico 0 32) fun i => semVal (cell c (4 + i)) 0) ∗ (bigSep (Finset.Ico 0 32) fun i => semVal (cell c (36 + i)) 0)
        ∗ (A4.view.loc (c : Thread nD τ) ↦{fullShare} commR X c)) := by
  have hs := both (Finset.Ico 0 32) (fun i => (semVal (cell c (4 + i)) 0 : sProp (MT nD τ sig Unit (Elt F) ℕ UU ℕ))) (fun i => wR c ql i (commR X c))
  unfold stR
  iintro ⟨-, -, -, H4, -, H6, H7, H8⟩
  ihave H := (Entails.of_eq hs) $$ H4
  icases H with ⟨Hv, Hl⟩
  isplitl [Hv]; · iexact Hv
  isplitl [H6]; · iexact H6
  iapply (Entails.of_eq (backR c (commR X c)))
  isplitl [H7]; · iexact H7
  isplitl [Hl]; · iexact Hl
  iexact H8
theorem end_L :
    (stL X c 28 28 28 : sProp 𝕄)
      ⊢ iprop((bigSep (Finset.Ico 0 28) fun i => semVal (cell c (68 + i)) 0) ∗ (bigSep (Finset.Ico 0 28) fun i => semVal (cell c (96 + i)) 0)
        ∗ (A5.view.loc (c : Thread nD τ) ↦{fullShare} commL X c)) := by
  have hs := both (Finset.Ico 0 28) (fun i => (semVal (cell c (68 + i)) 0 : sProp (MT nD τ sig Unit (Elt F) ℕ UU ℕ))) (fun i => wL c ql i (commL X c))
  unfold stL
  iintro ⟨-, -, -, H4, -, H6, H7, H8⟩
  ihave H := (Entails.of_eq hs) $$ H4
  icases H with ⟨Hv, Hl⟩
  isplitl [Hv]; · iexact Hv
  isplitl [H6]; · iexact H6
  iapply (Entails.of_eq (backL c (commL X c)))
  isplitl [H7]; · iexact H7
  isplitl [Hl]; · iexact Hl
  iexact H8

theorem finish :
    iprop(semVal (bar c) 0 ∗ stand X W c cnt1 (dnAll c ∅ steps)) ⊢ (bodyPost X W c : sProp 𝕄) := by
  unfold stand bodyPost owing stg
  dsimp only [cnt1]
  rw [oR_end, oL_end, add_zero]
  iintro ⟨Hb, HR, HL, HO, H0, H1, H2, %f, %hf, H3⟩
  have hf' : f = outF X (W c) := funext fun i => hf i (steps_done c _)
  subst hf'
  ihave GR := (end_R X c) $$ HR
  icases GR with ⟨GR1, GR2, GR3⟩
  ihave GL := (end_L X c) $$ HL
  icases GL with ⟨GL1, GL2, GL3⟩
  isplitl [Hb]; · iexact Hb
  isplitl [GR1]; · iexact GR1
  isplitl [GR2]; · iexact GR2
  isplitl [GL1]; · iexact GL1
  isplitl [GL2]; · iexact GL2
  isplitl [HO]; · iexact HO
  isplitl [H0]; · iexact H0
  isplitl [H1]; · iexact H1
  isplitl [H2]; · iexact H2
  isplitl [H3]; · iexact H3
  isplitl [GR3]; · iexists (commR X c); iexact GR3
  iexists (commL X c); iexact GL3

theorem steps_run (Q : PUnit.{1} → sProp (MT nD τ sig Unit (Elt F) ℕ UU ℕ)) :
    iprop(pers X K c ∗ stand X W c cnt0 ∅)
      ⊢ iprop((stand X W c cnt1 (dnAll c ∅ steps) -∗ wp frame (wpE (defs₀ (F := F)) 𝒱₀ c none) Set.univ (.ret ⟨⟩) Q)
        -∗ wp frame (wpE (defs₀ (F := F)) 𝒱₀ c none) Set.univ (runAll c (word (lf c)) (chk1_word (lf c)) (word (rt c)) (chk2_word (rt c)) steps (.ret ⟨⟩)) Q) := by
  have h := all_run X W K c (chk1_word (lf c)) (chk2_word (rt c)) (.ret ⟨⟩) Q steps cnt0 ∅ steps_ok
  rw [steps_end] at h
  exact h

attribute [local irreducible] steps in
theorem body_run (t : Fin grid0.N) (Wt : Waits sig Unit) (Q : PUnit.{1} → sProp (MT nD τ sig Unit (Elt F) ℕ UU ℕ)) :
    iprop(bodyPre X W K c Wt ∗ (bodyPost X W c -∗ Q ⟨⟩))
      ⊢ wp frame (wpE (defs₀ (F := F)) 𝒱₀ c none) Set.univ (bodyAt0 (F := F) t) Q := by
  rw [body_prolog]
  unfold prolog
  rw [wp_deviceId]
  unfold bodyPre stg
  iintro ⟨⟨#HP, HB, HR, HL, HO, ⟨H0, H1, H2, %f3, -, H3⟩, ⟨%f4, H4⟩, ⟨%f5, H5⟩⟩, HQ⟩
  iapply (ldw c Q A0 (Rect.unit (s := S17) ![0] S1.size inb_S17_S1_0)) $$ H0
  iintro H0
  rw [read_tab c 0 (by decide), show tabAt c 0 = lf c from rfl]
  iapply (asm c Q (chk1_word (lf c)))
  iapply (ldw c Q A0 (Rect.unit (s := S17) ![1] S1.size inb_S17_S1_1)) $$ H0
  iintro H0
  rw [read_tab c 1 (by decide), show tabAt c 1 = rt c from rfl]
  iapply (asm c Q (chk2_word (rt c)))
  rw [devL_word, devR_word]
  ihave G4 := (Entails.of_eq (splitR c f4)) $$ H4
  icases G4 with ⟨H4, G4⟩
  ihave G5 := (Entails.of_eq (splitL c f5)) $$ H5
  icases G5 with ⟨H5, G5⟩
  iapply (greet_run X K c _ Q Wt f4 f5) $$ [HB HO G4 G5]
  · isplitr; · iexact HP
    isplitl [HB]; · iexact HB
    isplitl [HO]; · iexact HO
    isplitl [G4]; · iexact G4
    iexact G5
  iintro ⟨#HP', Hbar, HO, G4, G5⟩
  iapply (fill_run X c _ Q f4 f5) $$ [H1 H4 H5]
  · isplitl [H1]; · iexact H1
    isplitl [H4]; · iexact H4
    iexact H5
  iintro ⟨H1, H4, H5⟩
  iapply (steps_run X W K c Q) $$ [HR HL HO H0 H1 H2 H3 H4 H5 G4 G5]
  · isplitr; · iexact HP'
    unfold stand
    dsimp only [cnt0]
    isplitl [HR G4 H4]
    · iapply (start_R X c)
      isplitl [HR]; · iexact HR
      isplitl [G4]; · iexact G4
      iexact H4
    isplitl [HL G5 H5]
    · iapply (start_L X c)
      isplitl [HL]; · iexact HL
      isplitl [G5]; · iexact G5
      iexact H5
    isplitl [HO]; · iexact HO
    unfold stg
    isplitl [H0]; · iexact H0
    isplitl [H1]; · iexact H1
    isplitl [H2]; · iexact H2
    iexists f3
    isplitr
    · ipureintro; intro i hi; exact absurd hi (Finset.notMem_empty _)
    iexact H3
  iintro HS
  rw [wp_ret]
  imodintro
  iapply HQ
  iapply (finish X W c)
  isplitl [Hbar]; · iexact Hbar
  iexact HS

end

end Cert.KernelIdeal.Own

end
-- ==== Proof.Ideal.Opening.lean ====
/- A device's own semaphores, numbered in one row and in the four groups the body uses, and how they are
   opened when the kernel is entered. -/
module

public import proofs.«01_k».proof.Proof.Ideal.Prologue
public import Idealize.SL.ProofMode.BigOp

@[expose] public section

set_option maxRecDepth 8000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.isDefEq.respectTransparency.types false

variable {F : FTy → Type} [FloatOps F]

local notation "𝕄" => MT nD τ sig Unit (Elt F) ℕ UU ℕ

/-- One family over the own semaphores. -/
theorem row (Φ : ℕ → sProp 𝕄) : bigSep (Finset.univ : Finset (Fin 120)) (fun k => Φ (4 + k.val)) = bigSep (Finset.Ico 4 124) Φ := by
  have e : Finset.Ico 4 124 = (Finset.univ : Finset (Fin 120)).map ⟨fun k : Fin 120 => 4 + k.val, fun a b h => Fin.ext (Nat.add_left_cancel h)⟩ := by
    ext n
    rw [Finset.mem_Ico, Finset.mem_map]
    constructor
    · intro h
      exact ⟨⟨n - 4, by omega⟩, Finset.mem_univ _, (by show 4 + (n - 4) = n; omega)⟩
    · rintro ⟨k, -, rfl⟩
      exact ⟨Nat.le_add_right 4 k.val, (by show 4 + k.val < 124; omega)⟩
  rw [e, bigSep_map]
  rfl

theorem shift (Φ : ℕ → sProp 𝕄) (a n : ℕ) : bigSep (Finset.Ico a (a + n)) Φ = bigSep (Finset.Ico 0 n) fun i => Φ (a + i) := by
  rw [show Finset.Ico a (a + n) = (Finset.Ico 0 n).map (addLeftEmbedding a) by
    ext x
    rw [Finset.mem_Ico, Finset.mem_map]
    constructor
    · intro h
      exact ⟨x - a, Finset.mem_Ico.mpr (by omega), (by show a + (x - a) = x; omega)⟩
    · rintro ⟨k, hk, rfl⟩
      have := Finset.mem_Ico.mp hk
      show a ≤ a + k ∧ a + k < a + n
      omega, bigSep_map]
  rfl

theorem cut (Φ : ℕ → sProp 𝕄) {a b d : ℕ} (h : a ≤ b) (h' : b ≤ d) :
    bigSep (Finset.Ico a d) Φ = iprop(bigSep (Finset.Ico a b) Φ ∗ bigSep (Finset.Ico b d) Φ) := by
  rw [← Finset.Ico_union_Ico_eq_Ico h h', bigSep_union (Finset.Ico_disjoint_Ico_consecutive a b d)]
  rfl

/-- The same family in the four groups. -/
theorem groups (Φ : ℕ → sProp 𝕄) : bigSep (Finset.Ico 4 124) Φ
    = iprop((bigSep (Finset.Ico 0 32) fun i => Φ (4 + i)) ∗ (bigSep (Finset.Ico 0 32) fun i => Φ (36 + i))
      ∗ (bigSep (Finset.Ico 0 28) fun i => Φ (68 + i)) ∗ (bigSep (Finset.Ico 0 28) fun i => Φ (96 + i))) := by
  rw [cut Φ (show 4 ≤ 36 by omega) (show 36 ≤ 124 by omega),
    cut Φ (show 36 ≤ 68 by omega) (show 68 ≤ 124 by omega),
    cut Φ (show 68 ≤ 96 by omega) (show 96 ≤ 124 by omega),
    show (36 : ℕ) = 4 + 32 from rfl, shift Φ 4 32, show (68 : ℕ) = 4 + 32 + 32 from rfl, shift Φ (4 + 32) 32,
    show (96 : ℕ) = 4 + 32 + 32 + 28 from rfl, shift Φ (4 + 32 + 32) 28, show (124 : ℕ) = 4 + 32 + 32 + 28 + 28 from rfl, shift Φ (4 + 32 + 32 + 28) 28]

variable (X : Dev nD → Vec F S64x1024 .f32)

/-- The semaphores the kernel brings along. -/
def osem (k : Fin 120) : SemLoc sig := .dma (semN (4 + k.val))

theorem ownSems_row (c : Dev nD) :
    (Pipeline.ownSems0 osem c : sProp 𝕄) = bigSep (Finset.Ico 4 124) fun n => semVal (cell c n) 0 := by
  rw [← row (fun n => (semVal (cell c n) 0 : sProp 𝕄))]
  rfl

/-- What a device keeps from the launch until it enters the kernel. -/
def records (K : GSem nD τ sig → ℕ) : sProp 𝕄 :=
  iprop((bigSep (barCells ∪ dmaCells) fun g => cellInv ER (Rd X) (K g) g) ∗ bigSep barCells fun g => reached ER g 0)

instance records_persistent (K : GSem nD τ sig → ℕ) : BI.Persistent (records X K) := by unfold records; infer_instance

def credsOf (c : Dev nD) : sProp 𝕄 :=
  iprop(cred (tallyAt (bar c) () 2) ∗ (bigSep (Finset.Ico 0 32) fun i => cred (tallyAt (cell c (36 + i)) () N))
    ∗ (bigSep (Finset.Ico 0 28) fun i => cred (tallyAt (cell c (96 + i)) () N)))

def toksOf (c : Dev nD) : sProp 𝕄 :=
  iprop(dutyTok ER (bar (lf c)) 0 true ∗ dutyTok ER (bar (rt c)) 0 false
    ∗ (bigSep (Finset.Ico 0 32) fun i => tokR (F := F) c i) ∗ (bigSep (Finset.Ico 0 28) fun i => tokL (F := F) c i))

def held0 (c : Dev nD) : sProp 𝕄 :=
  iprop(atPos ER (bar c) 0 ∅ 0 ∗ (bigSep (Finset.Ico 4 124) fun n => openTok ER (cell c n)) ∗ toksOf (F := F) c)

def before (c : Dev nD) : sProp 𝕄 := iprop(∃ K, records X K ∗ held0 (F := F) c ∗ credsOf (F := F) c)

/-- What it has on entering. -/
def inside (c : Dev nD) : sProp 𝕄 := iprop(∃ K, pers0 X K c ∗ partB (F := F) c ∗ partR (F := F) c ∗ partL (F := F) c)

theorem open_row (K : GSem nD τ sig → ℕ) (c : Dev nD) :
    iprop((bigSep (barCells ∪ dmaCells) fun g => cellInv ER (Rd X) (K g) g)
        ∗ (bigSep (Finset.Ico 4 124) fun n => openTok ER (cell c n)) ∗ (bigSep (Finset.Ico 4 124) fun n => semVal (cell c n) 0))
      ⊢ (|={Set.univ}=> bigSep (Finset.Ico 4 124) (fun n => iprop(atPos ER (cell c n) 0 ∅ 0 ∗ reached ER (cell c n) 0)) : sProp 𝕄) := by
  have h1 : ∀ n ∈ Finset.Ico 4 124, (iprop((bigSep (barCells ∪ dmaCells) fun g => cellInv ER (Rd X) (K g) g)
        ∗ (openTok ER (cell c n) ∗ semVal (cell c n) 0)) : sProp 𝕄)
      ⊢ |={Set.univ}=> iprop(atPos ER (cell c n) 0 ∅ 0 ∗ reached ER (cell c n) 0) := by
    intro n hn
    have h := Finset.mem_Ico.mp hn
    refine BIBase.Entails.trans ?_ (Rounds.cell_open ER (Rd X) (g := cell c n) (κ := K (cell c n)) (Set.mem_univ _))
    iintro ⟨HI, Ho, Hs⟩
    isplitl [HI]
    · iapply (bigSep_at (mem_cell c n h.1 h.2) (fun g => cellInv ER (Rd X) (K g) g))
      iexact HI
    isplitl [Ho] <;> iassumption
  refine BIBase.Entails.trans ?_ (bigSep_fupd (Finset.Ico 4 124) (fun n => (iprop(atPos ER (cell c n) 0 ∅ 0 ∗ reached ER (cell c n) 0) : sProp 𝕄)))
  refine BIBase.Entails.trans ?_ (bigSep_with_persistent (S := Finset.Ico 4 124) (Φ := fun n => (iprop(openTok ER (cell c n) ∗ semVal (cell c n) 0) : sProp 𝕄)) h1)
  rw [both (Finset.Ico 4 124) (fun n => openTok ER (cell c n)) (fun n => semVal (cell c n) 0)]

theorem enter (c : Dev nD) :
    iprop(before X c ∗ Pipeline.ownSems0 osem c ∗ levAts L lv) ⊢ (|={Set.univ}=> inside X c : sProp 𝕄) := by
  rw [ownSems_row]
  unfold before records held0 credsOf toksOf
  iintro ⟨⟨%K, ⟨#HI, #HR⟩, ⟨Hat, Ho, Ht1, Ht2, HtR, HtL⟩, HcB, HcR, HcL⟩, Hs, #Hlev⟩
  imod (open_row X K c) $$ [Ho Hs] with H
  · isplitr; · iexact HI
    isplitl [Ho] <;> iassumption
  ihave H := (Entails.of_eq (both (Finset.Ico 4 124) (fun n => (atPos ER (cell c n) 0 ∅ 0 : sProp 𝕄)) (fun n => reached ER (cell c n) 0))) $$ H
  icases H with ⟨Ha, #Hre⟩
  ihave Ha := (Entails.of_eq (groups (fun n => (atPos ER (cell c n) 0 ∅ 0 : sProp 𝕄)))) $$ Ha
  icases Ha with ⟨Ha1, Ha2, Ha3, Ha4⟩
  imodintro
  unfold inside pers0 partB partR partL
  iexists K
  isplitr
  · isplitr; · iexact HI
    isplitr; · iexact Hre
    isplitr
    · iapply (bigSep_at (s := barCells) (Finset.mem_map.mpr ⟨lf c, Finset.mem_univ _, rfl⟩) (fun g => reached ER g 0)); iexact HR
    isplitr
    · iapply (bigSep_at (s := barCells) (Finset.mem_map.mpr ⟨rt c, Finset.mem_univ _, rfl⟩) (fun g => reached ER g 0)); iexact HR
    iexact Hlev
  isplitl [Ht1 Ht2 Hat HcB]
  · isplitl [Ht1]; · iexact Ht1
    isplitl [Ht2]; · iexact Ht2
    isplitl [Hat] <;> iassumption
  isplitl [HtR Ha1 Ha2 HcR]
  · isplitl [HtR]; · iexact HtR
    isplitl [Ha1]; · iexact Ha1
    iapply (Entails.of_eq (both (Finset.Ico 0 32) (fun i => (atPos ER (cell c (36 + i)) 0 ∅ 0 : sProp 𝕄)) (fun i => cred (tallyAt (cell c (36 + i)) () N))).symm)
    isplitl [Ha2] <;> iassumption
  isplitl [HtL]; · iexact HtL
  isplitl [Ha3]; · iexact Ha3
  iapply (Entails.of_eq (both (Finset.Ico 0 28) (fun i => (atPos ER (cell c (96 + i)) 0 ∅ 0 : sProp 𝕄)) (fun i => cred (tallyAt (cell c (96 + i)) () N))).symm)
  isplitl [Ha4] <;> iassumption

end Cert.KernelIdeal.Own
end
-- ==== Proof.Ideal.Table.lean ====
/- The table of words that the host works out for the kernel: on every device it comes out as the ring says,
   the left neighbour, the right neighbour, then the devices the slots come from. The host's text is read
   stretch by stretch, what each stretch hands on being stated once. -/
module

public import proofs.«01_k».proof.Proof.Ideal.Reads
public import proofs.«01_k».proof.Proof.Gen.KernelIdeal.Regions
public import Idealize.ShloMosaic.Lib.StableHlo.RunRead
public import Idealize.ShloMosaic.Lib.StableHlo.ReadAt

@[expose] public section

set_option maxRecDepth 8000

noncomputable section

namespace Cert.KernelIdeal.Own

open Idealize.ShloMosaic Idealize.ShloMosaic.TcCoe
open Idealize.SL Idealize.SL.Sem
open Cert.KernelIdeal.Gen
open Idealize.ShloMosaic.ValueIdx

set_option backward.isDefEq.respectTransparency.types false

variable {F : FTy → Type} [FloatOps F]
variable (m : (ℓ : Loc nD τ sig) → Buf (Elt F) ℓ) (V : Valuation τ sig (Elt F)) (c : Dev nD)

/-- A scalar holding one number; a row of numbers. -/
def pw (n : ℕ) : Vec F S_ .i32 := fun _ => BitVec.ofNat 32 n
def ringV : Vec F S16 .i32 := fun i => lit0 (S16.rowMajor i)

theorem ix8 (i : S8.Idx) : ∃ a : Fin 8, i = ValueIdx.ix1 a := ⟨i 0, by funext j; fin_cases j; rfl⟩
theorem ix7 (i : S7.Idx) : ∃ a : Fin 7, i = ValueIdx.ix1 a := ⟨i 0, by funext j; fin_cases j; rfl⟩

/-- The remainder of a word by sixteen as the host works it out: the signed remainder, sixteen added where it came out negative. -/
def remW (a : BitVec 32) : BitVec 32 :=
  Scalar.select (IntOp.andi (IntOp.cmpi .ne (IntOp.cmpi .slt (IntOp.remsi .host a (Scalar.select (IntOp.cmpi .eq 16#32 0#32) 1#32 16#32)) 0#32)
      (IntOp.cmpi .slt (Scalar.select (IntOp.cmpi .eq 16#32 0#32) 1#32 16#32) 0#32))
    (IntOp.cmpi .ne (IntOp.remsi .host a (Scalar.select (IntOp.cmpi .eq 16#32 0#32) 1#32 16#32)) 0#32))
    (IntOp.addi (IntOp.remsi .host a (Scalar.select (IntOp.cmpi .eq 16#32 0#32) 1#32 16#32)) (Scalar.select (IntOp.cmpi .eq 16#32 0#32) 1#32 16#32))
    (IntOp.remsi .host a (Scalar.select (IntOp.cmpi .eq 16#32 0#32) 1#32 16#32))

theorem remW_up : ∀ p : Fin 16, remW (BitVec.ofNat 32 (p.val + 1)) = BitVec.ofNat 32 ((p.val + 1) % 16) := by decide
theorem remW_down : ∀ p : Fin 16, remW (BitVec.ofNat 32 p.val - 1#32) = BitVec.ofNat 32 ((p.val + 15) % 16) := by decide
theorem remW_back : ∀ (p : Fin 16) (a : Fin 8), remW (BitVec.ofNat 32 p.val - 1#32 - BitVec.ofNat 32 a.val) = BitVec.ofNat 32 ((p.val + 15 - a.val) % 16) := by decide
theorem remW_ahead : ∀ (p : Fin 16) (a : Fin 7), remW (BitVec.ofNat 32 p.val + 1#32 + BitVec.ofNat 32 a.val) = BitVec.ofNat 32 ((p.val + 1 + a.val) % 16) := by decide

theorem sl1 (u : Fin 1 → Vec F S_ .i32) (h : u 0 = pw c.val) :
    shapeCast S_ (Host.dynamicSlice S1 (fun i => lit1 (S16.rowMajor i) : Vec F S16 .i32) (fun k => (u k (Shape.Idx.first h_S_)).toInt) sliceFits_S16_S1)
      shapeCasts_S1_S_ = pw (F := F) (ps c).val := by
  have hu : u = fun _ => pw c.val := funext fun k => by fin_cases k; exact h
  subst hu
  funext i
  pointwise
  fin_cases c <;> rfl
/-- A device's number as the host reads it off the device's word. -/
def devW (w : BitVec 32) : BitVec 32 :=
  Scalar.select (IntOp.cmpi .slt (IntOp.remui .host (IntOp.divui .host w 1#32) 16#32) 0#32)
    (IntOp.addi (IntOp.remui .host (IntOp.divui .host w 1#32) 16#32) 16#32) (IntOp.remui .host (IntOp.divui .host w 1#32) 16#32)
theorem devW_word : ∀ c : Dev nD, devW (Dev.word c) = BitVec.ofNat 32 c.val := by decide
theorem pick1 : select (cmpi .slt (id (Host.remui (Host.divui (constantI S_ 32 (Dev.word c) : Vec F S_ .i32) (constantI S_ 32 1#32)) (constantI S_ 32 16#32))) (constantI S_ 32 0#32))
    (addi (id (Host.remui (Host.divui (constantI S_ 32 (Dev.word c) : Vec F S_ .i32) (constantI S_ 32 1#32)) (constantI S_ 32 16#32))) (constantI S_ 32 16#32))
    (id (Host.remui (Host.divui (constantI S_ 32 (Dev.word c) : Vec F S_ .i32) (constantI S_ 32 1#32)) (constantI S_ 32 16#32)))
    = pw (F := F) c.val := by
  funext i
  exact devW_word c
theorem t1a : StableHlo.after (hostOps0 c) V main_v9 = pw (F := F) (ps c).val := by
  after_reads_simp [StableHlo.unaryIndexed_result_read, StableHlo.indexContents_cons, StableHlo.indexContents_empty]
  exact sl1 c _ (pick1 (F := F) c)
theorem t1b : StableHlo.after (hostOps0 c) V main_v10 = pw (F := F) ((ps c).val + 1) := by
  after_reads_simp [StableHlo.unaryIndexed_result_read, StableHlo.indexContents_cons, StableHlo.indexContents_empty]
  refine (congrArg (fun a : Vec F S_ .i32 => addi a (constantI S_ 32 1#32)) (sl1 c _ (pick1 (F := F) c))).trans ?_
  funext i
  fin_cases c <;> rfl
theorem t1c : StableHlo.after (hostOps0 c) V main_c_6 = pw (F := F) 16 := by
  after_reads_simp
  rfl
theorem t1d : StableHlo.after (hostOps0 c) V main_c = ringV (F := F) := by
  after_reads_simp
  rfl
theorem t2 (p : Fin 16) (h1 : V main_v10 = pw (F := F) (p.val + 1)) (h2 : V main_c_6 = pw (F := F) 16) :
    StableHlo.after hostOps0_1 V main_v11 = pw (F := F) ((p.val + 1) % 16) := by
  after_reads_at
  rw [h1, h2]
  funext i
  exact remW_up p
theorem sl (u : Fin 1 → Vec F S_ .i32) (q : Fin 16) (h : u 0 = pw q.val) :
    shapeCast S_ (Host.dynamicSlice S1 (ringV (F := F)) (fun k => (u k (Shape.Idx.first h_S_)).toInt) sliceFits_S16_S1) shapeCasts_S1_S_
      = (fun _ => word (rg q) : Vec F S_ .i32) := by
  have hu : u = fun _ => pw q.val := funext fun k => by fin_cases k; exact h
  subst hu
  funext i
  pointwise
  fin_cases q <;> rfl
theorem up_val : ∀ c : Dev nD, ((ps c).val + 1) % 16 = (ps c + 1).val := by decide
theorem down_val : ∀ c : Dev nD, ((ps c).val + 15) % 16 = (ps c - 1).val := by decide
theorem pick (q : Fin 16) : select (cmpi .slt (pw (F := F) q.val) (constantI S_ 32 0#32)) (addi (pw (F := F) q.val) (constantI S_ 32 16#32)) (pw (F := F) q.val)
    = pw (F := F) q.val := by
  funext i
  fin_cases q <;> rfl
theorem t3a (h1 : V main_v11 = pw (F := F) (((ps c).val + 1)%16)) (h2 : V main_c = ringV (F := F)) :
    StableHlo.after hostOps0_2 V main_v16 = (fun _ => word (rt c) : Vec F S_ .i32) := by
  after_reads_simp [StableHlo.unaryIndexed_result_read, StableHlo.indexContents_cons, StableHlo.indexContents_empty]
  rw [h1, h2]
  rw [up_val]
  exact sl _ (ps c + 1) (pick (F := F) _)
theorem t3b (p : Fin 16) (h1 : V main_v9 = pw (F := F) p.val) :
    StableHlo.after hostOps0_2 V main_v17 = (fun _ => BitVec.ofNat 32 p.val - 1#32 : Vec F S_ .i32) := by
  after_reads_at
  rw [h1]
  rfl
theorem t3c : StableHlo.after hostOps0_2 V main_c_10 = pw (F := F) 16 := by
  after_reads_simp
  rfl
theorem t4 (p : Fin 16) (h1 : V main_v17 = (fun _ => BitVec.ofNat 32 p.val - 1#32 : Vec F S_ .i32)) (h2 : V main_c_10 = pw (F := F) 16) :
    StableHlo.after hostOps0_3 V main_v18 = pw (F := F) ((p.val + 15) % 16) := by
  after_reads_at
  rw [h1, h2]
  funext i
  exact remW_down p
theorem t5a (h1 : V main_v18 = pw (F := F) (((ps c).val + 15)%16)) (h2 : V main_c = ringV (F := F)) :
    StableHlo.after hostOps0_4 V main_v23 = (fun _ => word (lf c) : Vec F S_ .i32) := by
  after_reads_simp [StableHlo.unaryIndexed_result_read, StableHlo.indexContents_cons, StableHlo.indexContents_empty]
  rw [h1, h2]
  rw [down_val]
  exact sl _ (ps c - 1) (pick (F := F) _)
theorem t5b (p : Fin 16) (h1 : V main_v9 = pw (F := F) p.val) :
    StableHlo.after hostOps0_4 V main_v27 = (fun i => BitVec.ofNat 32 p.val - 1#32 - BitVec.ofNat 32 (i 0).val : Vec F S8 .i32) := by
  after_reads_at
  rw [h1]
  rfl
theorem t5c : StableHlo.after hostOps0_4 V main_c_14 = pw (F := F) 16 := by
  after_reads_simp
  rfl
theorem t6 (p : Fin 16) (h1 : V main_v27 = (fun i => BitVec.ofNat 32 p.val - 1#32 - BitVec.ofNat 32 (i 0).val : Vec F S8 .i32))
    (h2 : V main_c_14 = pw (F := F) 16) :
    StableHlo.after hostOps0_5 V main_v28 = (fun i => BitVec.ofNat 32 ((p.val + 15 - (i 0).val) % 16) : Vec F S8 .i32) := by
  after_reads_at
  rw [h1, h2]
  funext i
  obtain ⟨a, rfl⟩ := ix8 i
  exact remW_back p a
theorem t7a (h1 : V main_v28 = (fun i => BitVec.ofNat 32 (((ps c).val + 15 - (i 0).val) % 16) : Vec F S8 .i32)) (h2 : V main_c = ringV (F := F)) :
    StableHlo.after hostOps0_6 V main_v35 = (fun i => word (back c ((i 0).val + 1)) : Vec F S8 .i32) := by
  after_reads_at
  rw [h1, h2]
  funext i
  obtain ⟨a, rfl⟩ := ix8 i
  fin_cases c <;> fin_cases a <;> rfl
theorem t7b (p : Fin 16) (h1 : V main_v9 = pw (F := F) p.val) :
    StableHlo.after hostOps0_6 V main_v39 = (fun i => BitVec.ofNat 32 p.val + 1#32 + BitVec.ofNat 32 (i 0).val : Vec F S7 .i32) := by
  after_reads_at
  rw [h1]
  rfl
theorem t7c : StableHlo.after hostOps0_6 V main_c_18 = pw (F := F) 16 := by
  after_reads_simp
  rfl
theorem t8 (p : Fin 16) (h1 : V main_v39 = (fun i => BitVec.ofNat 32 p.val + 1#32 + BitVec.ofNat 32 (i 0).val : Vec F S7 .i32))
    (h2 : V main_c_18 = pw (F := F) 16) :
    StableHlo.after hostOps0_7 V main_v40 = (fun i => BitVec.ofNat 32 ((p.val + 1 + (i 0).val) % 16) : Vec F S7 .i32) := by
  after_reads_at
  rw [h1, h2]
  funext i
  obtain ⟨a, rfl⟩ := ix7 i
  exact remW_ahead p a
theorem t9a (h1 : V main_v40 = (fun i => BitVec.ofNat 32 (((ps c).val + 1 + (i 0).val) % 16) : Vec F S7 .i32))
    (h2 : V main_c = ringV (F := F)) :
    StableHlo.upto hostOps0_8 V 11 (Proc.tc.devRef main_v47) = (fun i => word (ahead c ((i 0).val + 1)) : Vec F S7 .i32) := by
  after_reads_at
  rw [h1, h2]
  funext i
  obtain ⟨a, rfl⟩ := ix7 i
  fin_cases c <;> fin_cases a <;> rfl
theorem cat (a b : Vec F S1 .i32) (x : Vec F S8 .i32) (y : Vec F S7 .i32) (h0 : a = fun _ => word (lf c)) (h1 : b = fun _ => word (rt c))
    (h2 : x = fun i => word (back c ((i 0).val + 1))) (h3 : y = fun i => word (ahead c ((i 0).val + 1))) :
    concatenate S17 0 [⟨S1, a⟩, ⟨S1, b⟩, ⟨S8, x⟩, ⟨S7, y⟩] concatenates_S1_S1_S8_S7_S17_d0 = tabV F c := by
  subst h0 h1 h2 h3
  funext i
  have hi : ∃ a : Fin 17, i = ValueIdx.ix1 a := ⟨i 0, by funext j; fin_cases j; rfl⟩
  obtain ⟨a, rfl⟩ := hi
  fin_cases a <;> rfl
theorem t9 (h1 : V main_v40 = (fun i => BitVec.ofNat 32 (((ps c).val + 1 + (i 0).val) % 16) : Vec F S7 .i32))
    (h2 : V main_c = ringV (F := F)) (h3 : V main_v16 = (fun _ => word (rt c) : Vec F S_ .i32))
    (h4 : V main_v23 = (fun _ => word (lf c) : Vec F S_ .i32))
    (h5 : V main_v35 = (fun i => word (back c ((i 0).val + 1)) : Vec F S8 .i32)) :
    StableHlo.after hostOps0_8 V main_v50 = tabV F c := by
  after_reads_simp
  refine cat c _ _ _ _ ?_ ?_ ?_ (t9a V c h1 h2)
  · show StableHlo.upto hostOps0_8 V 11 (Proc.tc.devRef main_v48) = _
    after_reads_at
    rw [h4]
    rfl
  · show StableHlo.upto hostOps0_8 V 11 (Proc.tc.devRef main_v49) = _
    after_reads_at
    rw [h3]
    rfl
  · show StableHlo.upto hostOps0_8 V 11 (Proc.tc.devRef main_v35) = _
    after_reads_at
    exact h5

/-! ## The whole text -/

theorem v1_9 : V1 m c main_v9 = pw (F := F) (ps c).val := t1a (V0 m c) c
theorem v2_ring : V2 m c main_c = ringV (F := F) := (V2_of m c main_c (by decide)).trans <| t1d (V0 m c) c
theorem v2_9 : V2 m c main_v9 = pw (F := F) (ps c).val := (V2_of m c main_v9 (by decide)).trans <| v1_9 m c
theorem v3_16 : V3 m c main_v16 = (fun _ => word (rt c) : Vec F S_ .i32) :=
  t3a (V2 m c) c (t2 (V1 m c) (ps c) (t1b (V0 m c) c) (t1c (V0 m c) c)) (v2_ring m c)
theorem v4_18 : V4 m c main_v18 = pw (F := F) (((ps c).val + 15) % 16) :=
  t4 (V3 m c) (ps c) (t3b (V2 m c) (ps c) (v2_9 m c)) (t3c (V2 m c))
theorem v4_9 : V4 m c main_v9 = pw (F := F) (ps c).val := (V4_of m c main_v9 (by decide)).trans <| (V3_of m c main_v9 (by decide)).trans <| v2_9 m c
theorem v4_ring : V4 m c main_c = ringV (F := F) := (V4_of m c main_c (by decide)).trans <| (V3_of m c main_c (by decide)).trans <| v2_ring m c
theorem v5_23 : V5 m c main_v23 = (fun _ => word (lf c) : Vec F S_ .i32) := t5a (V4 m c) c (v4_18 m c) (v4_ring m c)
theorem v6_28 : V6 m c main_v28 = (fun i => BitVec.ofNat 32 (((ps c).val + 15 - (i 0).val) % 16) : Vec F S8 .i32) :=
  t6 (V5 m c) (ps c) (t5b (V4 m c) (ps c) (v4_9 m c)) (t5c (V4 m c))
theorem v6_ring : V6 m c main_c = ringV (F := F) := (V6_of m c main_c (by decide)).trans <| (V5_of m c main_c (by decide)).trans <| v4_ring m c
theorem v6_9 : V6 m c main_v9 = pw (F := F) (ps c).val := (V6_of m c main_v9 (by decide)).trans <| (V5_of m c main_v9 (by decide)).trans <| v4_9 m c
theorem v8_40 : V8 m c main_v40 = (fun i => BitVec.ofNat 32 (((ps c).val + 1 + (i 0).val) % 16) : Vec F S7 .i32) :=
  t8 (V7 m c) (ps c) (t7b (V6 m c) (ps c) (v6_9 m c)) (t7c (V6 m c))
theorem v8_ring : V8 m c main_c = ringV (F := F) := (V8_of m c main_c (by decide)).trans <| (V7_of m c main_c (by decide)).trans <| v6_ring m c
theorem v8_16 : V8 m c main_v16 = (fun _ => word (rt c) : Vec F S_ .i32) := (V8_of m c main_v16 (by decide)).trans <| (V7_of m c main_v16 (by decide)).trans <| (V6_of m c main_v16 (by decide)).trans <| (V5_of m c main_v16 (by decide)).trans <| (V4_of m c main_v16 (by decide)).trans <| v3_16 m c
theorem v8_23 : V8 m c main_v23 = (fun _ => word (lf c) : Vec F S_ .i32) := (V8_of m c main_v23 (by decide)).trans <| (V7_of m c main_v23 (by decide)).trans <| (V6_of m c main_v23 (by decide)).trans <| v5_23 m c
theorem v8_35 : V8 m c main_v35 = (fun i => word (back c ((i 0).val + 1)) : Vec F S8 .i32) :=
  (V8_of m c main_v35 (by decide)).trans <| t7a (V6 m c) c (v6_28 m c) (v6_ring m c)

/-- What the kernel is handed for its table. -/
theorem table_eq : V9 m c main_v50 = tabV F c := t9 (V8 m c) c (v8_40 m c) (v8_ring m c) (v8_16 m c) (v8_23 m c) (v8_35 m c)
/-- The two factors pass the host's text unchanged. -/
theorem fac0 : V9 m c main_arg0 = m ((c : Thread nD τ).loc main_arg0) := (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem fac1 : V9 m c main_arg1 = m ((c : Thread nD τ).loc main_arg1) := (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

end Cert.KernelIdeal.Own
end
-- ==== Proof.Ideal.Data.lean ====
/- The kernel's launch on a device: what its staged arrays hold before and after, what it owes, and that its
   body keeps to this. -/
module

public import proofs.«01_k».proof.Proof.Ideal.Opening
public import proofs.«01_k».proof.Proof.Ideal.Table
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.Value

@[expose] public section

set_option maxRecDepth 8000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.isDefEq.respectTransparency.types false

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-- The factors' parts on the devices. -/
def xs (c : Dev nD) : Vec F S64x1024 .f32 := m ((c : Thread nD τ).loc main_arg0)
def ws (c : Dev nD) : Vec F S1024x64 .f32 := m ((c : Thread nD τ).loc main_arg1)
/-- The result's part on a device. -/
def res (c : Dev nD) : Vec F S1024x64 .f32 := outF (xs m) (ws m c)

/-- The slots, at contents not chosen. -/
def slots (c : Dev nD) : sProp 𝕄 :=
  iprop((∃ f, A4.view.loc (c : Thread nD τ) ↦{fullShare} f) ∗ (∃ f, A5.view.loc (c : Thread nD τ) ↦{fullShare} f))

theorem slots_eq (c : Dev nD) : (Pipeline.scopedRest spec0 c : sProp 𝕄) = slots c := scopedRest0_eq c

/-- What the device has before the body and after it. -/
def ahead0 (c : Dev nD) : sProp 𝕄 := iprop(inside (xs m) c ∗ slots (F := F) c ∗ ∃ r, prngReg c r)
def after0 (c : Dev nD) : sProp 𝕄 :=
  iprop(semVal (bar c) 0 ∗ (bigSep (Finset.Ico 4 124) fun n => semVal (cell c n) 0) ∗ slots (F := F) c ∗ ∃ r, prngReg c r)

def dat (c : Dev nD) : Dat τ (Elt F) Unit ℕ UU ℕ cfg0 c where
  A w := match w with
    | ⟨0, _⟩ => tabV F c
    | ⟨1, _⟩ => xs m c
    | ⟨2, _⟩ => ws m c
    | ⟨3, _⟩ => V9 m c main_v51
    | ⟨_ + 4, h⟩ => absurd h (Nat.not_lt.2 (Nat.le_add_left _ _))
  after w _ := match w with
    | ⟨0, _⟩ => tabV F c
    | ⟨1, _⟩ => xs m c
    | ⟨2, _⟩ => ws m c
    | ⟨3, _⟩ => res m c
    | ⟨_ + 4, h⟩ => absurd h (Nat.not_lt.2 (Nat.le_add_left _ _))
  Φ t := if t.val = 0 then ahead0 m c else after0 c
  q _ := fullShare
  owed t := if t.val = 0 then O₀ c else 0

/-- Each window is its whole array: an index of the block is that index of the array. -/
theorem emb_0 (i : S17.Idx) : ((cfg0.win 0).blk t0_0).view.emb i = i := by
  funext a
  refine Fin.ext ((ValueKit.rect_emb_unit_val _ _ _ _ a).trans ?_)
  match a with
  | ⟨0, _⟩ => exact Nat.zero_add _
theorem emb_1 (i : S64x1024.Idx) : ((cfg0.win 1).blk t0_0).view.emb i = i := by
  funext a
  refine Fin.ext ((ValueKit.rect_emb_unit_val _ _ _ _ a).trans ?_)
  match a with
  | ⟨0, _⟩ => exact Nat.zero_add _
  | ⟨1, _⟩ => exact Nat.zero_add _
theorem emb_2 (i : S1024x64.Idx) : ((cfg0.win 2).blk t0_0).view.emb i = i := by
  funext a
  refine Fin.ext ((ValueKit.rect_emb_unit_val _ _ _ _ a).trans ?_)
  match a with
  | ⟨0, _⟩ => exact Nat.zero_add _
  | ⟨1, _⟩ => exact Nat.zero_add _
theorem emb_3 (i : S1024x64.Idx) : ((cfg0.win 3).blk t0_0).view.emb i = i := by
  funext a
  refine Fin.ext ((ValueKit.rect_emb_unit_val _ _ _ _ a).trans ?_)
  match a with
  | ⟨0, _⟩ => exact Nat.zero_add _
  | ⟨1, _⟩ => exact Nat.zero_add _

theorem before_0 (c : Dev nD) (d) : (dat m c).before 0 t0_0 d = tabV F c := by
  unfold Dat.before; rw [if_pos (fetch0_0 t0_0)]
  funext i
  exact congrArg (tabV F c) (emb_0 i)
theorem before_1 (c : Dev nD) (d) : (dat m c).before 1 t0_0 d = xs m c := by
  unfold Dat.before; rw [if_pos (fetch0_1 t0_0)]
  funext i
  exact congrArg (xs m c) (emb_1 i)
theorem before_2 (c : Dev nD) (d) : (dat m c).before 2 t0_0 d = ws m c := by
  unfold Dat.before; rw [if_pos (fetch0_2 t0_0)]
  funext i
  exact congrArg (ws m c) (emb_2 i)

/-- The result's array ends at the result. -/
theorem last_3 (c : Dev nD) : (dat m c).arrAt 3 cfg0.N = res m c := by
  refine (dat m c).arrAt_eq_of_cover 3 (res m c) (fun t _ => ?_) (fun i => ⟨t0_0, flush0_3 t0_0, ?_⟩)
  · obtain rfl := fin_N0 t
    funext i
    exact (congrArg (res m c) (emb_3 i)).symm
  · exact Finset.mem_map.mpr ⟨i, Finset.mem_univ _, emb_3 i⟩

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed (Fin.last cfg0.N) = 0 := by
  show (if (Fin.last cfg0.N).val = 0 then O₀ c else 0) = 0
  rw [Fin.val_last, if_neg (by rw [show cfg0.N = 1 from N_0]; decide)]
theorem phi_first (c : Dev nD) : (dat m c).Φ t0_0.castSucc = ahead0 m c := by
  show (if (t0_0.castSucc : Fin (cfg0.N + 1)).val = 0 then ahead0 m c else after0 c) = ahead0 m c; exact if_pos rfl
theorem phi_last (c : Dev nD) : (dat m c).Φ (Fin.last cfg0.N) = after0 c := by
  show (if (Fin.last cfg0.N).val = 0 then ahead0 m c else after0 c) = after0 c
  rw [Fin.val_last, if_neg (by rw [show cfg0.N = 1 from N_0]; decide)]

end Cert.KernelIdeal.Own
end
-- ==== Proof.Ideal.Region.lean ====
/- The kernel as one item of a device's text: entered with the launch's ghost state, left with every semaphore
   at zero and the result in its array. -/
module

public import proofs.«01_k».proof.Proof.Ideal.Data

@[expose] public section

set_option maxRecDepth 8000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.isDefEq.respectTransparency.types false

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-! ## The body -/

theorem owesAt_in (c : Dev nD) (t : Fin (cfg0.N + 1)) (O : CellTallies nD τ sig Unit) (h : (dat m c).owed t = O) (Wt : Waits sig Unit) :
    (owes (c : Thread nD τ) O Wt : sProp 𝕄) ⊢ (dat m c).owesAt () t := by
  unfold Dat.owesAt Pipeline.owesWithin Dat.bound
  rw [h, show (dat m c).recorded t = Set.univ from rfl]
  iintro H
  iexists Wt
  isplitr; · ipureintro; exact fun _ _ => Or.inl trivial
  iexact H
theorem owesAt_out (c : Dev nD) (t : Fin (cfg0.N + 1)) (O : CellTallies nD τ sig Unit) (h : (dat m c).owed t = O) :
    (dat m c).owesAt () t ⊢ (iprop(∃ Wt, owes (c : Thread nD τ) O Wt) : sProp 𝕄) := by
  unfold Dat.owesAt Pipeline.owesWithin
  rw [h]
  iintro ⟨%Wt, -, H⟩
  iexists Wt; iexact H

/-- The staged arrays as the body finds them. -/
theorem staged (c : Dev nD) (f : Vec F S1024x64 .f32) :
    iprop((A0.view.loc (c : Thread nD τ) ↦{fullShare} tabV F c) ∗ (A1.view.loc (c : Thread nD τ) ↦{fullShare} xs m c)
      ∗ (A2.view.loc (c : Thread nD τ) ↦{fullShare} ws m c) ∗ (A3.view.loc (c : Thread nD τ) ↦{fullShare} f)) ⊢ (stg (xs m) (ws m) c ∅ : sProp 𝕄) := by
  unfold stg
  iintro ⟨H0, H1, H2, H3⟩
  isplitl [H0]; · iexact H0
  isplitl [H1]; · iexact H1
  isplitl [H2]; · iexact H2
  iexists f
  isplitr; · ipureintro; exact fun i hi => absurd hi (Finset.notMem_empty _)
  iexact H3

theorem semVals (c : Dev nD) :
    iprop((bigSep (Finset.Ico 0 32) fun i => semVal (cell c (4 + i)) 0) ∗ (bigSep (Finset.Ico 0 32) fun i => semVal (cell c (36 + i)) 0)
      ∗ (bigSep (Finset.Ico 0 28) fun i => semVal (cell c (68 + i)) 0) ∗ (bigSep (Finset.Ico 0 28) fun i => semVal (cell c (96 + i)) 0))
    ⊢ (bigSep (Finset.Ico 4 124) fun n => semVal (cell c n) 0 : sProp 𝕄) :=
  Entails.of_eq (groups (fun n => (semVal (cell c n) 0 : sProp 𝕄))).symm

theorem obligation (c : Dev nD) : BodyObligation (dat m c) (defs₀ (F := F)) 𝒱₀ () Set.univ := fun t => by
  obtain rfl := fin_N0 t
  rw [bigSep_W0, bigSep_W0, phi_first, show t0_0.succ = Fin.last cfg0.N from rfl, phi_last]
  iintro ⟨HΦ, HO, ⟨%d0, H0⟩, ⟨%d1, H1⟩, ⟨%d2, H2⟩, ⟨%d3, H3⟩⟩
  rw [before_0, before_1, before_2]
  ihave HO := (owesAt_out m c _ (O₀ c) (owed_first m c)) $$ HO
  icases HO with ⟨%Wt, HO⟩
  unfold ahead0 inside slots
  icases HΦ with ⟨⟨%K, HP, HB, HR, HL⟩, ⟨H4, H5⟩, Hr⟩
  ihave H0 := (Entails.of_eq (owns_whole (c : Thread nD τ) cc0_stg0_0 fullShare (tabV F c))) $$ H0
  ihave H1 := (Entails.of_eq (owns_whole (c : Thread nD τ) cc0_stg1_0 fullShare (xs m c))) $$ H1
  ihave H2 := (Entails.of_eq (owns_whole (c : Thread nD τ) cc0_stg2_0 fullShare (ws m c))) $$ H2
  ihave H3 := (Entails.of_eq (owns_whole (c : Thread nD τ) cc0_stg3_0 fullShare ((dat m c).before 3 t0_0 d3))) $$ H3
  iapply (body_run (xs m) (ws m) K c t0_0 Wt _)
  isplitl [HP HB HR HL HO H0 H1 H2 H3 H4 H5]
  · unfold bodyPre
    isplitl [HP]; · iexact HP
    isplitl [HB]; · iexact HB
    isplitl [HR]; · iexact HR
    isplitl [HL]; · iexact HL
    isplitl [HO]; · iexact HO
    isplitl [H0 H1 H2 H3]
    · iapply (staged m c ((dat m c).before 3 t0_0 d3))
      isplitl [H0]; · iexact H0
      isplitl [H1]; · iexact H1
      isplitl [H2]; · iexact H2
      iexact H3
    isplitl [H4] <;> iassumption
  unfold bodyPost
  iintro ⟨Hb, Hs1, Hs2, Hs3, Hs4, ⟨%W', HO⟩, H0, H1, H2, H3, H4, H5⟩
  isplitl [Hb Hs1 Hs2 Hs3 Hs4 H4 H5 Hr]
  · unfold after0 slots
    isplitl [Hb]; · iexact Hb
    isplitl [Hs1 Hs2 Hs3 Hs4]
    · iapply (semVals (F := F) c)
      isplitl [Hs1]; · iexact Hs1
      isplitl [Hs2]; · iexact Hs2
      isplitl [Hs3] <;> iassumption
    isplitr [Hr]
    · isplitl [H4] <;> iassumption
    iexact Hr
  isplitl [HO]
  · iapply (owesAt_in m c _ 0 (owed_last m c) W'); iexact HO
  isplitl [H0]
  · iapply (Entails.of_eq (owns_whole (c : Thread nD τ) cc0_stg0_0 fullShare (tabV F c)).symm); iexact H0
  isplitl [H1]
  · iapply (Entails.of_eq (owns_whole (c : Thread nD τ) cc0_stg1_0 fullShare (xs m c)).symm); iexact H1
  isplitl [H2]
  · iapply (Entails.of_eq (owns_whole (c : Thread nD τ) cc0_stg2_0 fullShare (ws m c)).symm); iexact H2
  iapply (Entails.of_eq (owns_whole (c : Thread nD τ) cc0_stg3_0 fullShare (res m c)).symm); iexact H3

/-! ## The item -/

def pdats : (p : Fin 1) → (c : Dev nD) → Dat τ (Elt F) Unit ℕ UU ℕ (cfgs p) c := fun _ c => dat m c

def outs : Outs (F := F) := fun _ r c =>
  if h : r = main_v51 then h ▸ (res m c) else m ((c : Thread nD τ).loc r)
theorem outs_eq (c : Dev nD) : outs m 10 main_v51 c = res m c := dif_pos rfl

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem ownSems_facts : Pipeline.OwnSemFacts spec0 osem := by decide

theorem cut_owed (c : Dev nD) (t : Fin ((cfgs 0).N + 1)) (g : GSem nD τ sig) (u : Unit) (h : 0 < (pdats m 0 c).owed t g u) :
    u ∈ L g ∧ 0 < lv g u := by
  have e : (pdats m 0 c).owed t = if t.val = 0 then O₀ c else 0 := rfl
  rw [e] at h
  split at h
  · have h' : 0 < oR c 0 g u + oL c 0 g u + (tallyAt (bar (rt c)) () 1 : CellTallies nD τ sig Unit) g u + (tallyAt (bar (lf c)) () 1 : CellTallies nD τ sig Unit) g u := h
    have four : 0 < oR c 0 g u ∨ 0 < oL c 0 g u ∨ 0 < (tallyAt (bar (rt c)) () 1 : CellTallies nD τ sig Unit) g u
        ∨ 0 < (tallyAt (bar (lf c)) () 1 : CellTallies nD τ sig Unit) g u := by omega
    rcases four with h1 | h1 | h1 | h1
    · obtain ⟨i, -, hi, rfl⟩ := oR_pos c 0 g u h1
      refine ⟨by rw [L_tc]; exact Finset.mem_singleton_self _, ?_⟩
      rw [lv_cell _ _ (by omega)]
      unfold lvN
      rw [if_neg (by omega), if_pos (by omega)]
      omega
    · obtain ⟨i, -, hi, rfl⟩ := oL_pos c 0 g u h1
      refine ⟨by rw [L_tc]; exact Finset.mem_singleton_self _, ?_⟩
      rw [lv_cell _ _ (by omega)]
      unfold lvN
      rw [if_neg (by omega), if_neg (by omega), if_neg (by omega)]
      omega
    · rw [tallyAt_apply] at h1
      split at h1
      · next hg =>
        rw [hg.1]
        exact ⟨by rw [L_tc]; exact Finset.mem_singleton_self _, Nat.one_pos⟩
      · exact absurd h1 (Nat.lt_irrefl 0)
    · rw [tallyAt_apply] at h1
      split at h1
      · next hg =>
        rw [hg.1]
        exact ⟨by rw [L_tc]; exact Finset.mem_singleton_self _, Nat.one_pos⟩
      · exact absurd h1 (Nat.lt_irrefl 0)
  · exact absurd h (Nat.lt_irrefl 0)

theorem stage_level (c : Dev nD) (w : Fin 4) (s : Fin ((cfg0.win w).nbuf)) : lv ((c : Thread nD τ), .dma ((cfg0.win w).sem s)) () ≤ 0 := by
  show lvN ((cfg0.win w).sem s).val ≤ 0
  revert s; revert w
  decide

/-- The unscoped arrays the kernel does not stage. -/
def others : Finset (DevRef τ sig) := Pipeline.ucRefs τ sig \ Pipeline.arrRefs (τ := τ) spec0

theorem arrs_sub : Pipeline.arrRefs (τ := τ) spec0 ⊆ Pipeline.ucRefs τ sig := by decide

theorem others_eq (c : Dev nD) : ∀ b ∈ others \ ∅, V10 m (outs m) c b = V9 m c b := by
  intro b hb
  refine Function.update_of_ne (fun e => ?_) _ _
  subst e
  rw [Finset.sdiff_empty] at hb
  exact (Finset.mem_sdiff.mp hb).2 (by decide)

theorem enter_at (c : Dev nD) (w : Fin 4) :
    (pdats m 0 c).arrAt w 0 = V9 m c (Proc.devRef .tc (Pipeline.arrRef spec0 w)) := by
  match w with
  | ⟨0, _⟩ => exact (table_eq m c).symm
  | ⟨1, _⟩ => exact (fac0 m c).symm
  | ⟨2, _⟩ => exact (fac1 m c).symm
  | ⟨3, _⟩ => rfl

theorem leave_at (c : Dev nD) (w : Fin 4) :
    (pdats m 0 c).arrAt w (cfgs 0).N = V10 m (outs m) c (Proc.devRef .tc (Pipeline.arrRef spec0 w)) := by
  match w with
  | ⟨0, _⟩ => exact ((dat m c).arrAt_in 0 rfl _).trans ((V10_of m (outs m) c main_v50 (by decide)).trans (table_eq m c)).symm
  | ⟨1, _⟩ => exact ((dat m c).arrAt_in 1 rfl _).trans ((V10_of m (outs m) c main_arg0 (by decide)).trans (fac0 m c)).symm
  | ⟨2, _⟩ => exact ((dat m c).arrAt_in 2 rfl _).trans ((V10_of m (outs m) c main_arg1 (by decide)).trans (fac1 m c)).symm
  | ⟨3, _⟩ => exact (last_3 m c).trans ((outs_eq m c).symm.trans (Function.update_self (β := fun b : DevRef τ sig => b.ty.Contents (Elt F)) _ _ _).symm)

theorem hin (c : Dev nD) :
    iprop(Pipeline.scopedRest spec0 c ∗ (∃ r, prngReg c r) ∗ StableHlo.held (c.tc : Thread nD τ) ∅ (V9 m c) ∗ inside (xs m) c)
      ⊢ (pdats m 0 c).Φ 0 := by
  rw [show (pdats m 0 c).Φ 0 = ahead0 m c from phi_first m c, slots_eq]
  unfold ahead0
  iintro ⟨Hs, Hr, -, Hi⟩
  isplitl [Hi]; · iexact Hi
  isplitl [Hs]; · iexact Hs
  iexact Hr

theorem hout (c : Dev nD) : (pdats m 0 c).Φ (Fin.last (cfgs 0).N)
    ⊢ iprop(Pipeline.scopedRest spec0 c ∗ (∃ r, prngReg c r) ∗ StableHlo.held (c.tc : Thread nD τ) ∅ (V10 m (outs m) c)
      ∗ Pipeline.ownSems0 osem c ∗ semVal (bar c) 0) := by
  rw [show (pdats m 0 c).Φ (Fin.last (cfgs 0).N) = after0 c from phi_last m c, slots_eq, ownSems_row]
  unfold after0 StableHlo.held
  rw [bigSep_empty]
  iintro ⟨Hb, Hs, Hl, Hr⟩
  isplitl [Hl]; · iexact Hl
  isplitl [Hr]; · iexact Hr
  isplitr; · iempintro
  isplitl [Hs] <;> iassumption

def item : Pipeline.RegionSeg (pcfgs (F := F)) adm (pdats m) () defs₀ 𝒱₀ L lv 0 :=
  Pipeline.RegionSeg.ofTalk (pcfgs (F := F)) adm (pdats m) () defs₀ 𝒱₀ L lv 0 osem ownSems_facts
    ∅ others (Finset.empty_subset _) kit rfl (fun c => (obligation m c).loose)
    (fun _ => 0) O₀ (fun c => (owed_first m c).trans (zero_add _).symm) (fun c => owed_last m c) (fun _ => rfl)
    (fun c w => by unfold Dat.share; split <;> rfl)
    (fun c => V9 m c) (fun c => V10 m (outs m) c) (others_eq m)
    (before (xs m)) (fun c => semVal (bar c) 0) (inside (xs m)) (fun c => semVal (bar c) 0) (enter (xs m)) (hin m) (hout m)
    (fun c => fupd_intro) (fun _ => 0)
    ⟨fun c w s => by rw [L_tc]; exact Finset.mem_singleton_self _, fun c w s => stage_level c w s, fun c t g i h => cut_owed m c t g i h⟩
    (fun _ => iprop(emp)) (enter_at m) (leave_at m)

/-- What rides beside the arrays before the kernel and after it. -/
def rest0 (c : Dev nD) : sProp 𝕄 := iprop(before (xs m) c ∗ (∃ r, prngReg c r) ∗ ∃ Wt, owes (c : Thread nD τ) (O₀ c) Wt)
def rest1 (c : Dev nD) : sProp 𝕄 := iprop(semVal (bar c) 0 ∗ ∃ Wt, owes (c : Thread nD τ) (0 : CellTallies nD τ sig Unit) Wt)

theorem item_pre (c : Dev nD) :
    iprop(StableHlo.held (c : Thread nD τ) (Pipeline.ucRefs τ sig) (V9 m c) ∗ rest0 m c) ⊢ (item m).pre c := by
  show _ ⊢ iprop(StableHlo.held (c.tc : Thread nD τ) (Pipeline.arrRefs (τ := τ) spec0) (V9 m c) ∗ (∃ r, prngReg c r)
    ∗ (StableHlo.held (c.tc : Thread nD τ) others (V9 m c) ∗ emp) ∗ before (xs m) c ∗ ∃ Wd, owes (c : Thread nD τ) (0 + O₀ c) Wd)
  rw [zero_add, StableHlo.held_sub_split (c.tc : Thread nD τ) arrs_sub (V9 m c)]
  unfold rest0
  iintro ⟨⟨Ha, Hh⟩, Hb, Hr, HO⟩
  isplitl [Ha]; · iexact Ha
  isplitl [Hr]; · iexact Hr
  isplitl [Hh]
  · isplitl [Hh]; · iexact Hh
    iempintro
  isplitl [Hb] <;> iassumption

theorem item_post (c : Dev nD) :
    (item m).post c ⊢ iprop(StableHlo.held (c : Thread nD τ) (Pipeline.ucRefs τ sig) (V10 m (outs m) c) ∗ rest1 c) := by
  show iprop(StableHlo.held (c.tc : Thread nD τ) (Pipeline.arrRefs (τ := τ) spec0) (V10 m (outs m) c) ∗ (∃ r, prngReg c r)
    ∗ (StableHlo.held (c.tc : Thread nD τ) others (V10 m (outs m) c) ∗ emp) ∗ semVal (bar c) 0 ∗ ∃ Wd, owes (c : Thread nD τ) (0 : CellTallies nD τ sig Unit) Wd) ⊢ _
  rw [StableHlo.held_sub_split (c.tc : Thread nD τ) arrs_sub (V10 m (outs m) c)]
  unfold rest1
  iintro ⟨Ha, -, ⟨Hh, -⟩, Hb, HO⟩
  isplitl [Ha Hh]
  · isplitl [Ha]; · iexact Ha
    iexact Hh
  isplitl [Hb] <;> iassumption

end Cert.KernelIdeal.Own
end
-- ==== Proof.Ideal.Funds.lean ====
/-
What the launch brings: the tokens and the credits, and who has them.
-/
module

public import proofs.«01_k».proof.Proof.Ideal.Region

@[expose] public section

set_option maxRecDepth 8000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.isDefEq.respectTransparency.types false

variable {F : FTy → Type} [FloatOps F]

local notation "𝕄" => MT nD τ sig Unit (Elt F) ℕ UU ℕ

/-! ## The tokens -/

/-- A device's tokens: two for its barrier, one for each semaphore of the copies. -/
def tokAt (p : Dev nD × (Bool ⊕ Fin 120)) : GSem nD τ sig × ℕ × Bool :=
  match p.2 with
  | .inl b => (bar p.1, 0, b)
  | .inr k => (cell p.1 (4 + k.val), 0, true)

theorem tokAt_inj : Function.Injective tokAt := by
  rintro ⟨c, s⟩ ⟨c', s'⟩ h
  cases s with
  | inl b =>
    cases s' with
    | inl b' =>
      have h1 : c = c' := congrArg (fun t : GSem nD τ sig × ℕ × Bool => t.1.1.1) h
      have h2 : b = b' := congrArg (fun t : GSem nD τ sig × ℕ × Bool => t.2.2) h
      rw [h1, h2]
    | inr k' =>
      have h1 : (SemLoc.reg barS : SemLoc sig) = .dma (semN (4 + k'.val)) := congrArg (fun t : GSem nD τ sig × ℕ × Bool => t.1.2) h
      cases h1
  | inr k =>
    cases s' with
    | inl b' =>
      have h1 : (SemLoc.dma (semN (4 + k.val)) : SemLoc sig) = .reg barS := congrArg (fun t : GSem nD τ sig × ℕ × Bool => t.1.2) h
      cases h1
    | inr k' =>
      have h1 : (c, k) = (c', k') := cell_inj (congrArg (fun t : GSem nD τ sig × ℕ × Bool => t.1) h)
      cases h1; rfl

def allToks : Finset (GSem nD τ sig × ℕ × Bool) := Finset.univ.map ⟨tokAt, tokAt_inj⟩

theorem two (Φ : Bool → sProp 𝕄) : bigSep Finset.univ Φ = iprop(Φ true ∗ Φ false) := by
  rw [show (Finset.univ : Finset Bool) = {true, false} by decide, bigSep_insert (by decide), bigSep_singleton]
  rfl

/-- All the tokens, in six families over the devices. -/
theorem toks_eq : bigSep allToks (fun x => (dutyTok ER x.1 x.2.1 x.2.2 : sProp 𝕄))
    = bigSep Finset.univ fun c : Dev nD => iprop((dutyTok ER (bar c) 0 true ∗ dutyTok ER (bar c) 0 false)
      ∗ (bigSep (Finset.Ico 0 32) fun i => dutyTok ER (cell c (4 + i)) 0 true) ∗ (bigSep (Finset.Ico 0 32) fun i => dutyTok ER (cell c (36 + i)) 0 true)
      ∗ (bigSep (Finset.Ico 0 28) fun i => dutyTok ER (cell c (68 + i)) 0 true) ∗ (bigSep (Finset.Ico 0 28) fun i => dutyTok ER (cell c (96 + i)) 0 true)) := by
  unfold allToks
  rw [bigSep_map, bigSep_univ_prod]
  refine bigSep_congr fun c _ => ?_
  rw [bigSep_univ_sum, two, ← groups (fun n => (dutyTok ER (cell c n) 0 true : sProp 𝕄)), ← row]
  rfl

theorem turnR (Φ : Dev nD → sProp 𝕄) : bigSep Finset.univ Φ = bigSep Finset.univ fun c => Φ (rt c) := bigSep_univ_equiv ringEquiv Φ
theorem turnL (Φ : Dev nD → sProp 𝕄) : bigSep Finset.univ Φ = bigSep Finset.univ fun c => Φ (lf c) := bigSep_univ_equiv ringEquiv.symm Φ

/-- A family of pairs is a pair of families. -/
theorem unpair (Φ Ψ : Dev nD → sProp 𝕄) :
    (bigSep Finset.univ fun c : Dev nD => iprop(Φ c ∗ Ψ c)) ⊢ iprop(bigSep Finset.univ Φ ∗ bigSep Finset.univ Ψ) :=
  Entails.of_eq (bigSep_sep Finset.univ Φ Ψ)
theorem pair (Φ Ψ : Dev nD → sProp 𝕄) :
    iprop(bigSep Finset.univ Φ ∗ bigSep Finset.univ Ψ) ⊢ (bigSep Finset.univ fun c : Dev nD => iprop(Φ c ∗ Ψ c)) :=
  Entails.of_eq (bigSep_sep Finset.univ Φ Ψ).symm

/-- Every token with the device that spends it. -/
theorem toks_out : bigSep allToks (fun x => (dutyTok ER x.1 x.2.1 x.2.2 : sProp 𝕄)) ⊢ bigSep Finset.univ fun c : Dev nD => toksOf (F := F) c := by
  rw [toks_eq]
  iintro H
  ihave H := (unpair _ _) $$ H; icases H with ⟨HB, H⟩
  ihave HB := (unpair _ _) $$ HB; icases HB with ⟨H1, H2⟩
  ihave H := (unpair _ _) $$ H; icases H with ⟨H3, H⟩
  ihave H := (unpair _ _) $$ H; icases H with ⟨H4, H⟩
  ihave H := (unpair _ _) $$ H; icases H with ⟨H5, H6⟩
  ihave H1 := (Entails.of_eq (turnL (fun c => (dutyTok ER (bar c) 0 true : sProp 𝕄)))) $$ H1
  ihave H2 := (Entails.of_eq (turnR (fun c => (dutyTok ER (bar c) 0 false : sProp 𝕄)))) $$ H2
  ihave H4 := (Entails.of_eq (turnR (fun c => (bigSep (Finset.Ico 0 32) fun i => dutyTok ER (cell c (36 + i)) 0 true : sProp 𝕄)))) $$ H4
  ihave H6 := (Entails.of_eq (turnL (fun c => (bigSep (Finset.Ico 0 28) fun i => dutyTok ER (cell c (96 + i)) 0 true : sProp 𝕄)))) $$ H6
  unfold toksOf
  iapply (pair (F := F) _ _); isplitl [H1]; · iexact H1
  iapply (pair (F := F) _ _); isplitl [H2]; · iexact H2
  iapply (pair (F := F) _ _)
  isplitl [H3 H4]
  · iapply (show iprop((bigSep Finset.univ fun c : Dev nD => bigSep (Finset.Ico 0 32) fun i => dutyTok ER (cell c (4 + i)) 0 true)
        ∗ (bigSep Finset.univ fun c : Dev nD => bigSep (Finset.Ico 0 32) fun i => dutyTok ER (cell (rt c) (36 + i)) 0 true))
        ⊢ (bigSep Finset.univ fun c : Dev nD => bigSep (Finset.Ico 0 32) fun i => tokR (F := F) c i : sProp 𝕄) from by
      refine BIBase.Entails.trans (pair (F := F) _ _) (bigSep_mono fun c _ => ?_)
      unfold tokR
      rw [both (Finset.Ico 0 32) (fun i => (dutyTok ER (cell c (4 + i)) 0 true : sProp 𝕄)) (fun i => dutyTok ER (cell (rt c) (36 + i)) 0 true)]
      exact BI.Entails.refl _)
    isplitl [H3] <;> iassumption
  · iapply (show iprop((bigSep Finset.univ fun c : Dev nD => bigSep (Finset.Ico 0 28) fun i => dutyTok ER (cell c (68 + i)) 0 true)
        ∗ (bigSep Finset.univ fun c : Dev nD => bigSep (Finset.Ico 0 28) fun i => dutyTok ER (cell (lf c) (96 + i)) 0 true))
        ⊢ (bigSep Finset.univ fun c : Dev nD => bigSep (Finset.Ico 0 28) fun i => tokL (F := F) c i : sProp 𝕄) from by
      refine BIBase.Entails.trans (pair (F := F) _ _) (bigSep_mono fun c _ => ?_)
      unfold tokL
      rw [both (Finset.Ico 0 28) (fun i => (dutyTok ER (cell c (68 + i)) 0 true : sProp 𝕄)) (fun i => dutyTok ER (cell (lf c) (96 + i)) 0 true)]
      exact BI.Entails.refl _)
    isplitl [H5] <;> iassumption

/-! ## The credits -/

theorem cell_ne_bar (c d : Dev nD) (n : ℕ) : cell c n ≠ bar d := fun h => by
  have h1 : (SemLoc.dma (semN n) : SemLoc sig) = .reg barS := congrArg (fun g : GSem nD τ sig => g.2) h
  cases h1

theorem cell_eq (c d : Dev nD) (n k : ℕ) (hn : n < 124) (hk : k < 124) : cell c n = cell d k ↔ c = d ∧ n = k := by
  constructor
  · intro h
    have h1 : c = d := congrArg (fun g : GSem nD τ sig => g.1.1) h
    have h2 : (SemLoc.dma (semN n) : SemLoc sig) = .dma (semN k) := congrArg (fun g : GSem nD τ sig => g.2) h
    have h3 : semN n = semN k := by injection h2
    have h4 := congrArg Fin.val h3
    rw [semN_val n hn, semN_val k hk] at h4
    exact ⟨h1, h4⟩
  · rintro ⟨rfl, rfl⟩; rfl

theorem bar_eq (c d : Dev nD) : bar c = bar d ↔ c = d :=
  ⟨fun h => congrArg (fun g : GSem nD τ sig => g.1.1) h, fun h => by rw [h]⟩

theorem oR_at (d : Dev nD) (g : GSem nD τ sig) : oR d 0 g () = ∑ j ∈ Finset.Ico 0 32, if g = cell (rt d) (36 + j) then N else 0 := by
  unfold oR
  rw [Finset.sum_apply, Finsupp.finset_sum_apply]
  exact Finset.sum_congr rfl fun j _ => by rw [tallyAt_apply]; exact if_congr (and_iff_left rfl) rfl rfl

theorem oL_at (d : Dev nD) (g : GSem nD τ sig) : oL d 0 g () = ∑ j ∈ Finset.Ico 0 28, if g = cell (lf d) (96 + j) then N else 0 := by
  unfold oL
  rw [Finset.sum_apply, Finsupp.finset_sum_apply]
  exact Finset.sum_congr rfl fun j _ => by rw [tallyAt_apply]; exact if_congr (and_iff_left rfl) rfl rfl

theorem one_at (d : Dev nD) (g : GSem nD τ sig) : (tallyAt (bar d) () 1 : CellTallies nD τ sig Unit) g () = if g = bar d then 1 else 0 := by
  rw [tallyAt_apply]; exact if_congr (and_iff_left rfl) rfl rfl

theorem owed_at (d : Dev nD) (g : GSem nD τ sig) : O₀ d g () = oR d 0 g () + oL d 0 g ()
    + (if g = bar (rt d) then 1 else 0) + (if g = bar (lf d) then 1 else 0) := by
  unfold O₀
  rw [Pi.add_apply, Finsupp.add_apply, Pi.add_apply, Finsupp.add_apply, Pi.add_apply, Finsupp.add_apply, one_at, one_at]

theorem owed_bar (d c : Dev nD) : O₀ d (bar c) () = (if d = lf c then 1 else 0) + (if d = rt c then 1 else 0) := by
  rw [owed_at, oR_at, oL_at, Finset.sum_eq_zero fun j _ => if_neg (fun h => cell_ne_bar _ _ _ h.symm),
    Finset.sum_eq_zero fun j _ => if_neg (fun h => cell_ne_bar _ _ _ h.symm), Nat.zero_add, Nat.zero_add]
  congr 1
  · exact if_congr ((bar_eq _ _).trans ⟨fun h => by rw [h, lf_rt], fun h => by rw [h, rt_lf]⟩) rfl rfl
  · exact if_congr ((bar_eq _ _).trans ⟨fun h => by rw [h, rt_lf], fun h => by rw [h, lf_rt]⟩) rfl rfl

theorem owed_R (d c : Dev nD) (i : ℕ) (hi : i < 32) : O₀ d (cell c (36 + i)) () = if d = lf c then N else 0 := by
  have e1 : oR d 0 (cell c (36 + i)) () = if d = lf c then N else 0 := by
    rw [oR_at, Finset.sum_eq_single_of_mem i (Finset.mem_Ico.mpr ⟨Nat.zero_le _, hi⟩) fun j hj hne => if_neg fun h =>
      hne (by have := ((cell_eq _ _ _ _ (by omega) (by have := Finset.mem_Ico.mp hj; omega)).mp h).2; omega)]
    exact if_congr ⟨fun h => by rw [((cell_eq _ _ _ _ (by omega) (by omega)).mp h).1, lf_rt], fun h => by rw [h, rt_lf]⟩ rfl rfl
  rw [owed_at, oL_at, Finset.sum_eq_zero fun j hj => if_neg fun h => by
      have := ((cell_eq _ _ _ _ (by omega) (by have := Finset.mem_Ico.mp hj; omega)).mp h).2; omega,
    if_neg (cell_ne_bar _ _ _), if_neg (cell_ne_bar _ _ _), e1]
  rfl

theorem owed_L (d c : Dev nD) (i : ℕ) (hi : i < 28) : O₀ d (cell c (96 + i)) () = if d = rt c then N else 0 := by
  have e1 : oL d 0 (cell c (96 + i)) () = if d = rt c then N else 0 := by
    rw [oL_at, Finset.sum_eq_single_of_mem i (Finset.mem_Ico.mpr ⟨Nat.zero_le _, hi⟩) fun j hj hne => if_neg fun h =>
      hne (by have := ((cell_eq _ _ _ _ (by omega) (by have := Finset.mem_Ico.mp hj; omega)).mp h).2; omega)]
    exact if_congr ⟨fun h => by rw [((cell_eq _ _ _ _ (by omega) (by omega)).mp h).1, rt_lf], fun h => by rw [h, lf_rt]⟩ rfl rfl
  rw [owed_at, oR_at, Finset.sum_eq_zero fun j hj => if_neg fun h => by
      have := Finset.mem_Ico.mp hj
      have := ((cell_eq _ _ _ _ (by omega) (by omega)).mp h).2; omega,
    if_neg (cell_ne_bar _ _ _), if_neg (cell_ne_bar _ _ _), e1, Nat.zero_add]
  rfl

theorem launch_bar (c : Dev nD) :
    tallyOn (bar c) (launchCredit (Pipeline.owing O₀) 0 (bar c)) = (tallyAt (bar c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lf c) fun _ => 1, Finset.sum_ite_eq' Finset.univ (rt c) fun _ => 1, if_pos (Finset.mem_univ _), if_pos (Finset.mem_univ _)]

theorem launch_R (c : Dev nD) (i : ℕ) (hi : i < 32) :
    tallyOn (cell c (36 + i)) (launchCredit (Pipeline.owing O₀) 0 (cell c (36 + i))) = (tallyAt (cell c (36 + i)) () N : CellTallies nD τ sig Unit) := by
  unfold tallyAt; refine congrArg _ (Finsupp.ext fun u => ?_); cases u
  rw [Pipeline.launchCredit_owing, Finsupp.single_eq_same, Finset.sum_congr rfl fun d _ => owed_R d c i hi,
    Finset.sum_ite_eq' Finset.univ (lf c) fun _ => N, if_pos (Finset.mem_univ _)]

theorem launch_L (c : Dev nD) (i : ℕ) (hi : i < 28) :
    tallyOn (cell c (96 + i)) (launchCredit (Pipeline.owing O₀) 0 (cell c (96 + i))) = (tallyAt (cell c (96 + i)) () N : CellTallies nD τ sig Unit) := by
  unfold tallyAt; refine congrArg _ (Finsupp.ext fun u => ?_); cases u
  rw [Pipeline.launchCredit_owing, Finsupp.single_eq_same, Finset.sum_congr rfl fun d _ => owed_L d c i hi,
    Finset.sum_ite_eq' Finset.univ (rt c) fun _ => N, if_pos (Finset.mem_univ _)]

theorem osem_inj : Function.Injective osem := by
  intro a b h
  have h3 : semN (4 + a.val) = semN (4 + b.val) := by unfold osem at h; injection h
  have h4 := congrArg Fin.val h3
  rw [semN_val _ (by omega), semN_val _ (by omega)] at h4
  exact Fin.ext (by omega)

/-- What a device is owed at the start. -/
theorem creds (c : Dev nD) : (Pipeline.launchCred O₀ c : sProp 𝕄) ⊢ credsOf (F := F) c := by
  have hsub : (Finset.univ : Finset (Fin 120)).map ⟨osem, osem_inj⟩ ⊆ (Finset.univ : Finset (SemLoc sig)).erase (SemLoc.reg barS) := by
    intro s hs
    obtain ⟨k, -, rfl⟩ := Finset.mem_map.mp hs
    refine Finset.mem_erase.mpr ⟨fun h => ?_, Finset.mem_univ _⟩
    have h1 : (SemLoc.dma (semN (4 + k.val)) : SemLoc sig) = .reg barS := h
    cases h1
  unfold Pipeline.launchCred
  rw [bigSep_univ_at _ (SemLoc.reg barS), launch_bar]
  unfold credsOf
  refine sep_mono_right ?_
  refine BIBase.Entails.trans (bigSep_subset hsub) ?_
  rw [bigSep_map]
  refine BIBase.Entails.trans (Entails.of_eq (row (fun n => (cred (tallyOn (cell c n) (launchCredit (Pipeline.owing O₀) 0 (cell c n))) : sProp 𝕄)))) ?_
  rw [groups]
  iintro ⟨-, H1, -, H2⟩
  isplitl [H1]
  · iapply (show (bigSep (Finset.Ico 0 32) fun i => cred (tallyOn (cell c (36 + i)) (launchCredit (Pipeline.owing O₀) 0 (cell c (36 + i)))) : sProp 𝕄)
        ⊢ bigSep (Finset.Ico 0 32) fun i => cred (tallyAt (cell c (36 + i)) () N) from
      bigSep_mono fun i hi => by rw [launch_R c i (Finset.mem_Ico.mp hi).2]; exact BI.Entails.refl _)
    iexact H1
  · iapply (show (bigSep (Finset.Ico 0 28) fun i => cred (tallyOn (cell c (96 + i)) (launchCredit (Pipeline.owing O₀) 0 (cell c (96 + i)))) : sProp 𝕄)
        ⊢ bigSep (Finset.Ico 0 28) fun i => cred (tallyAt (cell c (96 + i)) () N) from
      bigSep_mono fun i hi => by rw [launch_L c i (Finset.mem_Ico.mp hi).2]; exact BI.Entails.refl _)
    iexact H2

end Cert.KernelIdeal.Own
end
-- ==== Proof.Ideal.Whole.lean ====
/-
The whole run: from the launch of the sixteen devices to what every one of them ends with.
-/
module

public import proofs.«01_k».proof.Proof.Ideal.Funds

@[expose] public section

set_option maxRecDepth 8000

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.isDefEq.respectTransparency.types false

variable {F : FTy → Type} [FloatOps F]

local notation "𝕄" => MT nD τ sig Unit (Elt F) ℕ UU ℕ

open Idealize.ShloMosaic.Pipeline (Dat Seg HostSeg RegionSeg)

theorem apart : Disjoint (barCells : Finset (GSem nD τ sig)) dmaCells := by
  refine Finset.disjoint_left.mpr fun g h h' => ?_
  obtain ⟨c, -, rfl⟩ := Finset.mem_map.mp h
  obtain ⟨p, -, hp⟩ := Finset.mem_map.mp h'
  exact cell_ne_bar _ _ _ hp

/-- The ghost state of the launch. -/
def u₀ : UU :=
  (initOf (Pipeline.cells (Pipeline.pin (pcfgs (F := F)) adm) cellOf_inj) (Pipeline.launchToks (Pipeline.pin (pcfgs (F := F)) adm) cellOf_inj),
    launchOf barCells dmaCells allToks)

/-- The protocol's part, kept on the first device until all have it. -/
def onFirst (X : sProp 𝕄) (c : Dev nD) : sProp 𝕄 := if c = 0 then X else iprop(emp)

theorem onFirst_eq (X : sProp 𝕄) : bigSep Finset.univ (onFirst X) = X := by
  rw [bigSep_univ_at _ 0, bigSep_congr (s := Finset.univ.erase 0) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells dmaCells allToks)))

theorem counters_eq (c : Dev nD) : (unscopedSems0 c : sProp 𝕄) = semVal (bar c) 0 := by
  unfold unscopedSems0
  rw [show (Finset.univ.filter fun sm : SemLoc sig => ¬ sm.isScoped .tc) = {SemLoc.reg barS} from by decide, BI.bigSep_singleton]

theorem counter_eq : ∀ sm : SemLoc sig, sm.isScoped .tc = false → sm = .reg barS := by decide

variable (m : (ℓ : Loc nD τ sig) → Buf (Elt F) ℓ) (ρ : Dev nD → PrngReg)

/-- What a device brings to its first line that is not of the protocol. -/
def own0 (c : Dev nD) : sProp 𝕄 := iprop(credsOf (F := F) c ∗ owes (c : Thread nD τ) (O₀ c) ∅ ∗ ∃ r, prngReg c r)

theorem rest0_intro (K : GSem nD τ sig → ℕ) (c : Dev nD) :
    iprop(records (xs m) K ∗ (held0 (F := F) c ∗ own0 (F := F) c)) ⊢ rest0 m c := by
  unfold own0 rest0 before
  iintro ⟨#HR, Hl, Hc, HO, Hp⟩
  isplitl [Hl Hc]
  · iexists K
    isplitr; · iexact HR
    isplitl [Hl] <;> iassumption
  isplitl [Hp]; · iexact Hp
  iexists ∅; iexact HO

/-- The protocol is set up on all devices at once. -/
theorem start :
    (bigSep Finset.univ fun c : Dev nD => iprop(unscopedSems0 c ∗ owes (c : Thread nD τ) (O₀ c) ∅ ∗ Pipeline.launchCred O₀ c ∗ prngReg c (ρ c) ∗ G (F := F) c))
      ⊢ (|={Set.univ}=> bigSep Finset.univ (rest0 m) : sProp 𝕄) := by
  have hcore (c : Dev nD) : iprop(unscopedSems0 c ∗ owes (c : Thread nD τ) (O₀ c) ∅ ∗ Pipeline.launchCred O₀ c ∗ prngReg c (ρ c) ∗ G (F := F) c)
      ⊢ (iprop(own0 (F := F) c ∗ (semVal (bar c) 0 ∗ G (F := F) c)) : sProp 𝕄) := by
    rw [counters_eq]
    unfold own0
    iintro ⟨Hus, HO, Hcr, Hp, HG⟩
    isplitl [HO Hcr Hp]
    · isplitl [Hcr]; · iapply (creds (F := F) c); iexact Hcr
      isplitl [HO]; · iexact HO
      iexists (ρ c); iexact Hp
    isplitl [Hus] <;> iassumption
  have hv : bigSep Finset.univ (fun c : Dev nD => (semVal (bar c) 0 : sProp 𝕄)) ⊢ bigSep barCells (fun g => (semVal g 0 : sProp 𝕄)) := by
    unfold barCells; rw [bigSep_map]; exact BI.Entails.refl _
  have hat : bigSep barCells (fun g => (atPos ER g 0 ∅ 0 : sProp 𝕄)) ⊢ bigSep Finset.univ (fun c : Dev nD => (atPos ER (bar c) 0 ∅ 0 : sProp 𝕄)) := by
    unfold barCells; rw [bigSep_map]; exact BI.Entails.refl _
  have hopen : bigSep dmaCells (fun g => (openTok ER g : sProp 𝕄))
      ⊢ bigSep Finset.univ (fun c : Dev nD => (bigSep (Finset.Ico 4 124) fun n => openTok ER (cell c n) : sProp 𝕄)) := by
    unfold dmaCells; rw [bigSep_map, bigSep_univ_prod]
    refine bigSep_mono fun c _ => ?_
    rw [← row]
    exact BI.Entails.refl _
  iintro H
  ihave H' := (show (bigSep Finset.univ fun c : Dev nD => iprop(unscopedSems0 c ∗ owes (c : Thread nD τ) (O₀ c) ∅ ∗ Pipeline.launchCred O₀ c ∗ prngReg c (ρ c) ∗ G (F := F) c))
      ⊢ (bigSep Finset.univ fun c : Dev nD => iprop(own0 (F := F) c ∗ (semVal (bar c) 0 ∗ G (F := F) c)) : sProp 𝕄) from bigSep_mono fun c _ => hcore c) $$ H
  ihave H2 := (unpair (F := F) _ _) $$ H'; icases H2 with ⟨HB, H3⟩
  ihave H4 := (unpair (F := F) _ _) $$ H3; icases H4 with ⟨Hv, HG⟩
  ihave Hu := (show bigSep Finset.univ (fun c => G (F := F) c) ⊢ BI.own (ER (launchOf barCells dmaCells allToks)) from
    Entails.of_eq (onFirst_eq (F := F) (BI.own (ER (launchOf barCells dmaCells allToks))))) $$ HG
  imod (Rounds.fund_launch ER (Rd (xs m)) apart (fun g _ h => h) allToks) $$ [Hv Hu] with ⟨%K, -, #Hinv, #Hr, Hat, Hopen, Htok⟩
  · isplitl [Hv]
    · iapply hv $$ Hv
    · iexact Hu
  imodintro
  iapply (bigSep_with_persistent (R := records (xs m) K) (Φ := fun c => iprop(held0 (F := F) c ∗ own0 (F := F) c)) fun c _ => rest0_intro m K c)
  isplitr
  · unfold records
    isplitr; · iexact Hinv
    iexact Hr
  iapply (pair (F := F) _ _)
  isplitr [HB]
  · unfold held0
    iapply (pair (F := F) _ _); isplitl [Hat]; · iapply hat $$ Hat
    iapply (pair (F := F) _ _); isplitl [Hopen]; · iapply hopen $$ Hopen
    iapply (toks_out (F := F)); iexact Htok
  · iexact HB

/-- What rides beside the arrays, before the kernel and after it. -/
def rides (m : (ℓ : Loc nD τ sig) → Buf (Elt F) ℓ) (k : Fin 2) (c : Dev nD) : sProp 𝕄 := if k = 0 then rest0 m c else rest1 c

def Tn (c : Dev nD) : sProp 𝕄 := iprop(StableHlo.held (c : Thread nD τ) (Pipeline.ucRefs τ sig) (V10 m (outs m) c) ∗ semVal (bar c) 0)

/-- Every run ends, with the arguments as they were, the result computed, and every counter at zero. -/
theorem whole : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v51) = res m c) ∧ r.2.sem = fun _ => 0) := by
  refine Pipeline.θ_run_regions_kit_dev_sems (pcfgs (F := F)) adm (pdats m) () cellOf_inj EP defs₀ 𝒱₀ L lv m ρ main
    (segs m 𝒱₀ L lv (rides m) () (pdats m) (item m))
    (fun c Q => by
      rewrite [main_chain c, Seg.run_eq_chain,
        show (segs m 𝒱₀ L lv (rides m) () (pdats m) (item m) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne (G (F := F)) (u₀ (F := F))
    (hu₀ := by
      unfold u₀ G
      iintro Hu
      ihave H := (ownU_pair _ _) $$ Hu
      icases H with ⟨HP, HX⟩
      imodintro
      isplitl [HP]; · iexact HP
      rw [onFirst_eq]; iexact HX)
    (T₀ := fun c => iprop(StableHlo.held (c : Thread nD τ) (Pipeline.ucRefs τ sig) (V0 m c) ∗ rest0 m c))
    (Tₙ := Tn m)
    (hch := fun c => ⟨.rfl, .rfl, .rfl, .rfl, .rfl, .rfl, .rfl, .rfl, .rfl, item_pre m c, (item_post m c).trans ?_⟩)
    (hinit := ?_) (QY := fun c s => ((s.mem ((c.tc : Thread nD τ).loc main_arg0) = m ((c.tc : Thread nD τ).loc main_arg0)
      ∧ s.mem ((c.tc : Thread nD τ).loc main_arg1) = m ((c.tc : Thread nD τ).loc main_arg1))
      ∧ s.mem ((c.tc : Thread nD τ).loc main_v51) = res m c) ∧ s.sem (bar c) = 0)
    (hfin := fun c s' => ?_) (hQ := fun s h hs => ⟨fun c => (h c).1, sem_eq_zero hs fun c sm hsm => by
        obtain rfl := counter_eq sm hsm
        exact (h c).2⟩)
  · unfold rest1 Tn
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, -⟩
    ihave H' := hsplit $$ H
    icases H' with ⟨Hh, Hr⟩
    imod (start m ρ) $$ Hr with HE
    imodintro
    rw [bigSep_sep']
    isplitl [Hh]; · iexact Hh
    iexact HE
  · unfold Tn StableHlo.held
    iintro ⟨⟨Hh, Hb⟩, HSI⟩
    icombine HSI Hb gives %hb
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      refine ⟨⟨⟨(h (Proc.devRef .tc main_arg0) (Finset.mem_filter.mpr ⟨StableHlo.devRef_mem_tcRefs main_arg0, by decide⟩)).trans (V10_main_arg0 m (outs m) c),
        (h (Proc.devRef .tc main_arg1) (Finset.mem_filter.mpr ⟨StableHlo.devRef_mem_tcRefs main_arg1, by decide⟩)).trans (V10_main_arg1 m (outs m) c)⟩,
        (h (Proc.devRef .tc main_v51) (Finset.mem_filter.mpr ⟨StableHlo.devRef_mem_tcRefs main_v51, by decide⟩)).trans
          ((Function.update_self (β := fun b : DevRef τ sig => b.ty.Contents (Elt F)) _ _ _).trans (outs_eq m c))⟩, by simpa using hb⟩
    · iexact HSI

end Cert.KernelIdeal.Own
end
-- ==== Proof.Value.lean ====
/-
What a block of the idealized kernel's result holds, element by element.
-/
module

public import proofs.«01_k».proof.Proof.Ideal.Ring
public import Idealize.ShloMosaic.Lib.Pointwise

@[expose] public section

noncomputable section

namespace Cert.Value

open Idealize.ShloMosaic
open Cert.KernelIdeal Cert.KernelIdeal.Gen Cert.KernelIdeal.Own

/-- The smooth gate: half of `y`, times one more than the hyperbolic tangent of a cubic in `y`. -/
def gate (y : EReal) : EReal :=
  Ideal.ofBits .f32 0x3F000000#32 * y
    * (Ideal.ofBits .f32 0x3F800000#32 + Ideal.tanh (Ideal.ofBits .f32 0x3F4C422A#32 * (y + Ideal.ofBits .f32 0x3D372713#32 * (y * y * y))))

/-- An element of a block is the gate of the product of a row and a column. -/
theorem blk_at (x : Vec Ideal S64x1024 .f32) (w : Vec Ideal S1024x64 .f32) (r : Fin 64) (l : Fin 64) :
    blk x w (ix2 r l) = gate (∑ k : Fin 1024, x (ix2 r k) * w (ix2 k l)) := by
  unfold blk gate
  pointwise [k0_pay4, k0_pay3]
  simp only [mul_assoc]

end Cert.Value
end
-- ==== Proof.Equal.lean ====
module

public import proofs.«01_k».proof.Proof.Value
public import proofs.«01_k».proof.Proof.Ideal.Data
public import proofs.«01_k».proof.Proof.Gen.ReferenceIdeal.Run
public import Idealize.ShloMosaic.Lib.Layout

@[expose] public section

noncomputable section

namespace Cert.Value

open Idealize.ShloMosaic

section Reference

open Cert.ReferenceIdeal Cert.ReferenceIdeal.Gen

/-- The product of the two whole matrices. -/
def prod (a b : FVec Ideal S1024x1024 .f32) : FVec Ideal S1024x1024 .f32 :=
  Host.dotGeneral dot_S1024x1024_S1024x1024_S1024x1024_1_0_0_1_n_n none a b

/-- What the reference makes of the product `y`. -/
def gated (y : FVec Ideal S1024x1024 .f32) : FVec Ideal S1024x1024 .f32 :=
  mulf (mulf (broadcastInDim S1024x1024 ![] bcast_S_S1024x1024 (constant S_ .f32 0x3F000000#32)) y)
    (addf (broadcastInDim S1024x1024 ![] bcast_S_S1024x1024 (constant S_ .f32 0x3F800000#32))
      (Host.tanh (mulf (broadcastInDim S1024x1024 ![] bcast_S_S1024x1024 (constant S_ .f32 0x3F4C422A#32))
        (addf y (mulf (broadcastInDim S1024x1024 ![] bcast_S_S1024x1024 (constant S_ .f32 0x3D372713#32))
          (mulf (mulf y y) y))))))

/-- The reference's result. -/
def whole (a b : FVec Ideal S1024x1024 .f32) : FVec Ideal S1024x1024 .f32 := gated (prod a b)

/-- An element of the reference's result is the gate of the product of a row and a column. -/
theorem whole_at (a b : FVec Ideal S1024x1024 .f32) (r l : Fin 1024) :
    whole a b (ix2 r l) = gate (∑ k : Fin 1024, a (ix2 r k) * b (ix2 k l)) := by
  unfold whole gated prod gate
  pointwise

end Reference

open Cert.KernelIdeal Cert.KernelIdeal.Gen Cert.KernelIdeal.Own

/-- The devices' results are the blocks of columns of the reference's result. -/
theorem res_eq (m : (ℓ : Loc nD τ sig) → Buf (Elt Ideal) ℓ) (a b : FVec Ideal ⟨2, ![1024, 1024]⟩ .f32)
    (hx : ∀ c : Fin 16, xs m c = Layout.block ⟨2, ![64, 1024]⟩ ⟨2, ![1024, 1024]⟩ 0 16 c a)
    (hw : ∀ c : Fin 16, ws m c = Layout.block ⟨2, ![1024, 64]⟩ ⟨2, ![1024, 1024]⟩ 1 16 c b) (c : Fin 16) :
    res m c = Layout.block ⟨2, ![1024, 64]⟩ ⟨2, ![1024, 1024]⟩ 1 16 c (whole a b) := by
  funext i
  have h0 : (i 0).val < 1024 := (i 0).isLt
  have h1 : (i 1).val < 64 := (i 1).isLt
  have hc : c.val < 16 := c.isLt
  have hT : Layout.Tiles ⟨2, ![64, 1024]⟩ ⟨2, ![1024, 1024]⟩ 0 16 := by decide
  have hS : Layout.Tiles ⟨2, ![1024, 64]⟩ ⟨2, ![1024, 1024]⟩ 1 16 := by decide
  have e : hS.idx c i = ix2 (n0 := 1024) (n1 := 1024) ⟨(i 0).val, h0⟩ ⟨c.val * 64 + (i 1).val, by omega⟩ := by
    funext d
    fin_cases d
    · exact Fin.ext (Layout.idx_cols_val hS c i).1
    · exact Fin.ext (Layout.idx_cols_val hS c i).2
  rw [Layout.block_apply, e, whole_at]
  have e2 := (ix2_eq_valueIdx (⟨(i 0).val % 64, Nat.mod_lt _ (by decide)⟩ : Fin 64) (⟨(i 1).val, h1⟩ : Fin 64)).symm
  refine (congrArg (blk (xs m ⟨(i 0).val / 64, Nat.div_lt_of_lt_mul h0⟩) (ws m c)) e2).trans ((blk_at _ _ _ _).trans (congrArg gate ?_))
  refine Finset.sum_congr rfl fun k _ => ?_
  rw [hx, hw, Layout.block_apply, Layout.block_apply]
  refine congrArg₂ (· * ·) (congrArg a ?_) (congrArg b ?_)
  · funext d
    fin_cases d
    · refine Fin.ext ((Layout.idx_rows_val hT _ _).1.trans ?_)
      show (i 0).val / 64 * 64 + (i 0).val % 64 = (i 0).val
      omega
    · exact Fin.ext (Layout.idx_rows_val hT _ _).2
  · funext d
    fin_cases d
    · exact Fin.ext (Layout.idx_cols_val hS c _).1
    · exact Fin.ext (Layout.idx_cols_val hS c _).2

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Whole
public import proofs.«01_k».proof.Proof.Ideal.Whole
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m g _ => (θ_run Cert.Kernel.defs _ _).mono (fun _ h => ⟨fun c => (h.1 c).1, h.2⟩) (Cert.Kernel.Own.whole m g),
    fun m g _ => (θ_run Cert.KernelIdeal.defs _ _).mono (fun _ h => ⟨fun c => (h.1 c).1, h.2⟩) (Cert.KernelIdeal.Own.whole m g),
    fun m g _ => (θ_run Cert.ReferenceIdeal.defs _ _).mono
      (fun r h => ⟨fun c => (h c).2, sem_eq_zero_of_no_sems (by decide) r.2⟩) (Cert.ReferenceIdeal.Value.run m g),
    trivial,
    fun m g m' g' _ hb =>
      ⟨Cert.Value.whole _ _,
        (θ_run Cert.KernelIdeal.defs _ _).mono
          (fun _ h c => ⟨(h.1 c).2.trans (Cert.Value.res_eq m _ _ (fun d => (hb d).1) (fun d => (hb d).2) c), (h.1 c).1⟩)
          (Cert.KernelIdeal.Own.whole m g),
        (θ_run Cert.ReferenceIdeal.defs _ _).mono (fun _ h => h 0) (Cert.ReferenceIdeal.Value.run m' g')⟩⟩

end Cert.Proof

end
